-- ==== Defs.lean ====
def Pre_Kernel [hPre_wired : Cert.Pre_wired.Facts] (m : (ℓ : Loc Cert.Kernel.nD Cert.Kernel.τ Cert.Kernel.sig) → Buf (Elt Bits) ℓ) : Prop :=
  ∀ c : Dev Cert.Kernel.nD,
    (Cert.Pre_wired.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_wired : Cert.Pre_wired.Facts] (m : (ℓ : Loc Cert.KernelIdeal.nD Cert.KernelIdeal.τ Cert.KernelIdeal.sig) → Buf (Elt Ideal) ℓ) : Prop :=
  ∀ c : Dev Cert.KernelIdeal.nD,
    (Cert.Pre_wired.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] [hPre_wired : Cert.Pre_wired.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] [hPre_wired : Cert.Pre_wired.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v141)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v141) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v570) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_wired : Cert.Pre_wired.Facts) (hPre_in_range : Cert.Pre_in_range.Facts),
    quiescent_Kernel (hKernel := hKernel) (hPre_wired := hPre_wired)
    ∧ quiescent_KernelIdeal (hKernelIdeal := hKernelIdeal) (hPre_wired := hPre_wired)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S4x4x32x32x32 : Shape := ⟨5, ![4, 4, 32, 32, 32]⟩
abbrev S16x16 : Shape := ⟨2, ![16, 16]⟩
abbrev S8x16x16 : Shape := ⟨3, ![8, 16, 16]⟩
abbrev S4x16x16 : Shape := ⟨3, ![4, 16, 16]⟩
abbrev S2x16x16 : Shape := ⟨3, ![2, 16, 16]⟩
abbrev S1x16x16 : Shape := ⟨3, ![1, 16, 16]⟩
abbrev S_ : Shape := ⟨0, ![]⟩

class Facts : Prop where
  bcast_S_S16x16 : S_.BroadcastsInDim S16x16 (![] : Fin 0 → Fin S16x16.rank)
  reducesTo_S16x16_S_d0_1 : S16x16.ReducesTo [0, 1] S_
  h_S_ : 0 < S_.numel
  bcast_S_S4x4x32x32x32 : S_.BroadcastsInDim S4x4x32x32x32 (![] : Fin 0 → Fin S4x4x32x32x32.rank)
  reducesTo_S4x4x32x32x32_S_d0_1_2_3_4 : S4x4x32x32x32.ReducesTo [0, 1, 2, 3, 4] S_
  bcast_S_S8x16x16 : S_.BroadcastsInDim S8x16x16 (![] : Fin 0 → Fin S8x16x16.rank)
  reducesTo_S8x16x16_S_d0_1_2 : S8x16x16.ReducesTo [0, 1, 2] S_
  bcast_S_S4x16x16 : S_.BroadcastsInDim S4x16x16 (![] : Fin 0 → Fin S4x16x16.rank)
  reducesTo_S4x16x16_S_d0_1_2 : S4x16x16.ReducesTo [0, 1, 2] S_
  bcast_S_S2x16x16 : S_.BroadcastsInDim S2x16x16 (![] : Fin 0 → Fin S2x16x16.rank)
  reducesTo_S2x16x16_S_d0_1_2 : S2x16x16.ReducesTo [0, 1, 2] S_

variable [Facts]

def fn_part3 {F : FTy → Type} [FloatOps F] (main_arg7 : FVec F S2x16x16 .f32) (main_v37 : IVec S_ 1) (main_v43 : IVec S_ 1) (main_v45 : IVec S4x16x16 1) (main_v47 : IVec S4x16x16 1) : IVec S_ 1 :=
  let main_v48 : IVec S4x16x16 1 := andi main_v45 main_v47
  let main_c_22 : IVec S_ 1 := constantI S_ 1 1#1
  let main_v49 : IVec S_ 1 := (fun x v => Host.reduce IntOp.andi x v reducesTo_S4x16x16_S_d0_1_2 h_S_) main_v48 main_c_22
  let main_v50 : IVec S_ 1 := andi main_v43 main_v49
  let main_v51 : IVec S_ 1 := andi main_v37 main_v50
  let main_cst_23 : FVec F S_ .f32 := constant S_ .f32 0xFF800000#32
  let main_v52 : FVec F S2x16x16 .f32 := broadcastInDim S2x16x16 ![] bcast_S_S2x16x16 main_cst_23
  let main_v53 : IVec S2x16x16 1 := cmpf .ogt main_arg7 main_v52
  let main_cst_24 : FVec F S_ .f32 := constant S_ .f32 0x7F800000#32
  let main_v54 : FVec F S2x16x16 .f32 := broadcastInDim S2x16x16 ![] bcast_S_S2x16x16 main_cst_24
  let main_v55 : IVec S2x16x16 1 := cmpf .olt main_arg7 main_v54
  let main_v56 : IVec S2x16x16 1 := andi main_v53 main_v55
  let main_c_25 : IVec S_ 1 := constantI S_ 1 1#1
  let main_v57 : IVec S_ 1 := (fun x v => Host.reduce IntOp.andi x v reducesTo_S2x16x16_S_d0_1_2 h_S_) main_v56 main_c_25
  let main_v58 : IVec S_ 1 := andi main_v51 main_v57
  main_v58

def fn_part2 {F : FTy → Type} [FloatOps F] (main_arg0 : FVec F S4x4x32x32x32 .f32) (main_arg5 : FVec F S8x16x16 .f32) (main_arg6 : FVec F S4x16x16 .f32) (main_arg7 : FVec F S2x16x16 .f32) (main_v30 : IVec S_ 1) (main_cst : FVec F S_ .f32) : IVec S_ 1 :=
  let main_v31 : FVec F S4x4x32x32x32 .f32 := broadcastInDim S4x4x32x32x32 ![] bcast_S_S4x4x32x32x32 main_cst
  let main_v32 : IVec S4x4x32x32x32 1 := cmpf .ogt main_arg0 main_v31
  let main_cst_15 : FVec F S_ .f32 := constant S_ .f32 0x7F800000#32
  let main_v33 : FVec F S4x4x32x32x32 .f32 := broadcastInDim S4x4x32x32x32 ![] bcast_S_S4x4x32x32x32 main_cst_15
  let main_v34 : IVec S4x4x32x32x32 1 := cmpf .olt main_arg0 main_v33
  let main_v35 : IVec S4x4x32x32x32 1 := andi main_v32 main_v34
  let main_c_16 : IVec S_ 1 := constantI S_ 1 1#1
  let main_v36 : IVec S_ 1 := (fun x v => Host.reduce IntOp.andi x v reducesTo_S4x4x32x32x32_S_d0_1_2_3_4 h_S_) main_v35 main_c_16
  let main_v37 : IVec S_ 1 := andi main_v30 main_v36
  let main_cst_17 : FVec F S_ .f32 := constant S_ .f32 0xFF800000#32
  let main_v38 : FVec F S8x16x16 .f32 := broadcastInDim S8x16x16 ![] bcast_S_S8x16x16 main_cst_17
  let main_v39 : IVec S8x16x16 1 := cmpf .ogt main_arg5 main_v38
  let main_cst_18 : FVec F S_ .f32 := constant S_ .f32 0x7F800000#32
  let main_v40 : FVec F S8x16x16 .f32 := broadcastInDim S8x16x16 ![] bcast_S_S8x16x16 main_cst_18
  let main_v41 : IVec S8x16x16 1 := cmpf .olt main_arg5 main_v40
  let main_v42 : IVec S8x16x16 1 := andi main_v39 main_v41
  let main_c_19 : IVec S_ 1 := constantI S_ 1 1#1
  let main_v43 : IVec S_ 1 := (fun x v => Host.reduce IntOp.andi x v reducesTo_S8x16x16_S_d0_1_2 h_S_) main_v42 main_c_19
  let main_cst_20 : FVec F S_ .f32 := constant S_ .f32 0xFF800000#32
  let main_v44 : FVec F S4x16x16 .f32 := broadcastInDim S4x16x16 ![] bcast_S_S4x16x16 main_cst_20
  let main_v45 : IVec S4x16x16 1 := cmpf .ogt main_arg6 main_v44
  let main_cst_21 : FVec F S_ .f32 := constant S_ .f32 0x7F800000#32
  let main_v46 : FVec F S4x16x16 .f32 := broadcastInDim S4x16x16 ![] bcast_S_S4x16x16 main_cst_21
  let main_v47 : IVec S4x16x16 1 := cmpf .olt main_arg6 main_v46
  fn_part3 (F := F) main_arg7 main_v37 main_v43 main_v45 main_v47

def fn_part1 {F : FTy → Type} [FloatOps F] (main_arg0 : FVec F S4x4x32x32x32 .f32) (main_arg3 : IVec S16x16 32) (main_arg4 : IVec S16x16 32) (main_arg5 : FVec F S8x16x16 .f32) (main_arg6 : FVec F S4x16x16 .f32) (main_arg7 : FVec F S2x16x16 .f32) (main_v14 : IVec S_ 1) (main_c_7 : IVec S_ 32) : IVec S_ 1 :=
  let main_v15 : IVec S16x16 32 := broadcastInDim S16x16 ![] bcast_S_S16x16 main_c_7
  let main_v16 : IVec S16x16 1 := cmpi .sge main_arg3 main_v15
  let main_c_8 : IVec S_ 1 := constantI S_ 1 1#1
  let main_v17 : IVec S_ 1 := (fun x v => Host.reduce IntOp.andi x v reducesTo_S16x16_S_d0_1 h_S_) main_v16 main_c_8
  let main_c_9 : IVec S_ 32 := constantI S_ 32 3#32
  let main_v18 : IVec S16x16 32 := broadcastInDim S16x16 ![] bcast_S_S16x16 main_c_9
  let main_v19 : IVec S16x16 1 := cmpi .slt main_arg3 main_v18
  let main_c_10 : IVec S_ 1 := constantI S_ 1 1#1
  let main_v20 : IVec S_ 1 := (fun x v => Host.reduce IntOp.andi x v reducesTo_S16x16_S_d0_1 h_S_) main_v19 main_c_10
  let main_v21 : IVec S_ 1 := andi main_v17 main_v20
  let main_c_11 : IVec S_ 32 := constantI S_ 32 0#32
  let main_v22 : IVec S16x16 32 := broadcastInDim S16x16 ![] bcast_S_S16x16 main_c_11
  let main_v23 : IVec S16x16 1 := cmpi .sge main_arg4 main_v22
  let main_c_12 : IVec S_ 1 := constantI S_ 1 1#1
  let main_v24 : IVec S_ 1 := (fun x v => Host.reduce IntOp.andi x v reducesTo_S16x16_S_d0_1 h_S_) main_v23 main_c_12
  let main_c_13 : IVec S_ 32 := constantI S_ 32 3#32
  let main_v25 : IVec S16x16 32 := broadcastInDim S16x16 ![] bcast_S_S16x16 main_c_13
  let main_v26 : IVec S16x16 1 := cmpi .slt main_arg4 main_v25
  let main_c_14 : IVec S_ 1 := constantI S_ 1 1#1
  let main_v27 : IVec S_ 1 := (fun x v => Host.reduce IntOp.andi x v reducesTo_S16x16_S_d0_1 h_S_) main_v26 main_c_14
  let main_v28 : IVec S_ 1 := andi main_v24 main_v27
  let main_v29 : IVec S_ 1 := andi main_v21 main_v28
  let main_v30 : IVec S_ 1 := andi main_v14 main_v29
  let main_cst : FVec F S_ .f32 := constant S_ .f32 0xFF800000#32
  fn_part2 (F := F) main_arg0 main_arg5 main_arg6 main_arg7 main_v30 main_cst

def fn {F : FTy → Type} [FloatOps F] (main_arg0 : FVec F S4x4x32x32x32 .f32) (main_arg1 : IVec S16x16 32) (main_arg2 : IVec S16x16 32) (main_arg3 : IVec S16x16 32) (main_arg4 : IVec S16x16 32) (main_arg5 : FVec F S8x16x16 .f32) (main_arg6 : FVec F S4x16x16 .f32) (main_arg7 : FVec F S2x16x16 .f32) (main_arg8 : FVec F S1x16x16 .f32) : IVec S_ 1 :=
  let main_c : IVec S_ 32 := constantI S_ 32 0#32
  let main_v0 : IVec S16x16 32 := broadcastInDim S16x16 ![] bcast_S_S16x16 main_c
  let main_v1 : IVec S16x16 1 := cmpi .sge main_arg1 main_v0
  let main_c_0 : IVec S_ 1 := constantI S_ 1 1#1
  let main_v2 : IVec S_ 1 := (fun x v => Host.reduce IntOp.andi x v reducesTo_S16x16_S_d0_1 h_S_) main_v1 main_c_0
  let main_c_1 : IVec S_ 32 := constantI S_ 32 4#32
  let main_v3 : IVec S16x16 32 := broadcastInDim S16x16 ![] bcast_S_S16x16 main_c_1
  let main_v4 : IVec S16x16 1 := cmpi .slt main_arg1 main_v3
  let main_c_2 : IVec S_ 1 := constantI S_ 1 1#1
  let main_v5 : IVec S_ 1 := (fun x v => Host.reduce IntOp.andi x v reducesTo_S16x16_S_d0_1 h_S_) main_v4 main_c_2
  let main_v6 : IVec S_ 1 := andi main_v2 main_v5
  let main_c_3 : IVec S_ 32 := constantI S_ 32 0#32
  let main_v7 : IVec S16x16 32 := broadcastInDim S16x16 ![] bcast_S_S16x16 main_c_3
  let main_v8 : IVec S16x16 1 := cmpi .sge main_arg2 main_v7
  let main_c_4 : IVec S_ 1 := constantI S_ 1 1#1
  let main_v9 : IVec S_ 1 := (fun x v => Host.reduce IntOp.andi x v reducesTo_S16x16_S_d0_1 h_S_) main_v8 main_c_4
  let main_c_5 : IVec S_ 32 := constantI S_ 32 3#32
  let main_v10 : IVec S16x16 32 := broadcastInDim S16x16 ![] bcast_S_S16x16 main_c_5
  let main_v11 : IVec S16x16 1 := cmpi .slt main_arg2 main_v10
  let main_c_6 : IVec S_ 1 := constantI S_ 1 1#1
  let main_v12 : IVec S_ 1 := (fun x v => Host.reduce IntOp.andi x v reducesTo_S16x16_S_d0_1 h_S_) main_v11 main_c_6
  let main_v13 : IVec S_ 1 := andi main_v9 main_v12
  let main_v14 : IVec S_ 1 := andi main_v6 main_v13
  let main_c_7 : IVec S_ 32 := constantI S_ 32 0#32
  fn_part1 (F := F) main_arg0 main_arg3 main_arg4 main_arg5 main_arg6 main_arg7 main_v14 main_c_7
-- ==== Pre_wired.lean ====
abbrev S4x4x32x32x32 : Shape := ⟨5, ![4, 4, 32, 32, 32]⟩
abbrev S16x16 : Shape := ⟨2, ![16, 16]⟩
abbrev S8x16x16 : Shape := ⟨3, ![8, 16, 16]⟩
abbrev S4x16x16 : Shape := ⟨3, ![4, 16, 16]⟩
abbrev S2x16x16 : Shape := ⟨3, ![2, 16, 16]⟩
abbrev S1x16x16 : Shape := ⟨3, ![1, 16, 16]⟩
abbrev S_ : Shape := ⟨0, ![]⟩

class Facts : Prop where
  bcast_S_S16x16 : S_.BroadcastsInDim S16x16 (![] : Fin 0 → Fin S16x16.rank)
  reducesTo_S16x16_S_d0_1 : S16x16.ReducesTo [0, 1] S_
  h_S_ : 0 < S_.numel

variable [Facts]

def fn_part1 {F : FTy → Type} [FloatOps F] (main_arg3 : IVec S16x16 32) (main_arg4 : IVec S16x16 32) (main_v14 : IVec S_ 1) (main_c_7 : IVec S_ 32) : IVec S_ 1 :=
  let main_v15 : IVec S16x16 32 := broadcastInDim S16x16 ![] bcast_S_S16x16 main_c_7
  let main_v16 : IVec S16x16 1 := cmpi .sge main_arg3 main_v15
  let main_c_8 : IVec S_ 1 := constantI S_ 1 1#1
  let main_v17 : IVec S_ 1 := (fun x v => Host.reduce IntOp.andi x v reducesTo_S16x16_S_d0_1 h_S_) main_v16 main_c_8
  let main_c_9 : IVec S_ 32 := constantI S_ 32 3#32
  let main_v18 : IVec S16x16 32 := broadcastInDim S16x16 ![] bcast_S_S16x16 main_c_9
  let main_v19 : IVec S16x16 1 := cmpi .slt main_arg3 main_v18
  let main_c_10 : IVec S_ 1 := constantI S_ 1 1#1
  let main_v20 : IVec S_ 1 := (fun x v => Host.reduce IntOp.andi x v reducesTo_S16x16_S_d0_1 h_S_) main_v19 main_c_10
  let main_v21 : IVec S_ 1 := andi main_v17 main_v20
  let main_c_11 : IVec S_ 32 := constantI S_ 32 0#32
  let main_v22 : IVec S16x16 32 := broadcastInDim S16x16 ![] bcast_S_S16x16 main_c_11
  let main_v23 : IVec S16x16 1 := cmpi .sge main_arg4 main_v22
  let main_c_12 : IVec S_ 1 := constantI S_ 1 1#1
  let main_v24 : IVec S_ 1 := (fun x v => Host.reduce IntOp.andi x v reducesTo_S16x16_S_d0_1 h_S_) main_v23 main_c_12
  let main_c_13 : IVec S_ 32 := constantI S_ 32 3#32
  let main_v25 : IVec S16x16 32 := broadcastInDim S16x16 ![] bcast_S_S16x16 main_c_13
  let main_v26 : IVec S16x16 1 := cmpi .slt main_arg4 main_v25
  let main_c_14 : IVec S_ 1 := constantI S_ 1 1#1
  let main_v27 : IVec S_ 1 := (fun x v => Host.reduce IntOp.andi x v reducesTo_S16x16_S_d0_1 h_S_) main_v26 main_c_14
  let main_v28 : IVec S_ 1 := andi main_v24 main_v27
  let main_v29 : IVec S_ 1 := andi main_v21 main_v28
  let main_v30 : IVec S_ 1 := andi main_v14 main_v29
  main_v30

def fn {F : FTy → Type} [FloatOps F] (main_arg0 : FVec F S4x4x32x32x32 .f32) (main_arg1 : IVec S16x16 32) (main_arg2 : IVec S16x16 32) (main_arg3 : IVec S16x16 32) (main_arg4 : IVec S16x16 32) (main_arg5 : FVec F S8x16x16 .f32) (main_arg6 : FVec F S4x16x16 .f32) (main_arg7 : FVec F S2x16x16 .f32) (main_arg8 : FVec F S1x16x16 .f32) : IVec S_ 1 :=
  let main_c : IVec S_ 32 := constantI S_ 32 0#32
  let main_v0 : IVec S16x16 32 := broadcastInDim S16x16 ![] bcast_S_S16x16 main_c
  let main_v1 : IVec S16x16 1 := cmpi .sge main_arg1 main_v0
  let main_c_0 : IVec S_ 1 := constantI S_ 1 1#1
  let main_v2 : IVec S_ 1 := (fun x v => Host.reduce IntOp.andi x v reducesTo_S16x16_S_d0_1 h_S_) main_v1 main_c_0
  let main_c_1 : IVec S_ 32 := constantI S_ 32 4#32
  let main_v3 : IVec S16x16 32 := broadcastInDim S16x16 ![] bcast_S_S16x16 main_c_1
  let main_v4 : IVec S16x16 1 := cmpi .slt main_arg1 main_v3
  let main_c_2 : IVec S_ 1 := constantI S_ 1 1#1
  let main_v5 : IVec S_ 1 := (fun x v => Host.reduce IntOp.andi x v reducesTo_S16x16_S_d0_1 h_S_) main_v4 main_c_2
  let main_v6 : IVec S_ 1 := andi main_v2 main_v5
  let main_c_3 : IVec S_ 32 := constantI S_ 32 0#32
  let main_v7 : IVec S16x16 32 := broadcastInDim S16x16 ![] bcast_S_S16x16 main_c_3
  let main_v8 : IVec S16x16 1 := cmpi .sge main_arg2 main_v7
  let main_c_4 : IVec S_ 1 := constantI S_ 1 1#1
  let main_v9 : IVec S_ 1 := (fun x v => Host.reduce IntOp.andi x v reducesTo_S16x16_S_d0_1 h_S_) main_v8 main_c_4
  let main_c_5 : IVec S_ 32 := constantI S_ 32 3#32
  let main_v10 : IVec S16x16 32 := broadcastInDim S16x16 ![] bcast_S_S16x16 main_c_5
  let main_v11 : IVec S16x16 1 := cmpi .slt main_arg2 main_v10
  let main_c_6 : IVec S_ 1 := constantI S_ 1 1#1
  let main_v12 : IVec S_ 1 := (fun x v => Host.reduce IntOp.andi x v reducesTo_S16x16_S_d0_1 h_S_) main_v11 main_c_6
  let main_v13 : IVec S_ 1 := andi main_v9 main_v12
  let main_v14 : IVec S_ 1 := andi main_v6 main_v13
  let main_c_7 : IVec S_ 32 := constantI S_ 32 0#32
  fn_part1 (F := F) main_arg3 main_arg4 main_v14 main_c_7
-- ==== Kernel.lean ====
abbrev S4x4x32x32x32 : Shape := ⟨5, ![4, 4, 32, 32, 32]⟩
abbrev S16x16 : Shape := ⟨2, ![16, 16]⟩
abbrev S8x16x16 : Shape := ⟨3, ![8, 16, 16]⟩
abbrev S4x16x16 : Shape := ⟨3, ![4, 16, 16]⟩
abbrev S2x16x16 : Shape := ⟨3, ![2, 16, 16]⟩
abbrev S1x16x16 : Shape := ⟨3, ![1, 16, 16]⟩
abbrev S16x4 : Shape := ⟨2, ![16, 4]⟩
abbrev S_ : Shape := ⟨0, ![]⟩
abbrev S4x4x34x34x34 : Shape := ⟨5, ![4, 4, 34, 34, 34]⟩
abbrev S4x1x4x32x32x32 : Shape := ⟨6, ![4, 1, 4, 32, 32, 32]⟩
abbrev S4x16x4x32x32x32 : Shape := ⟨6, ![4, 16, 4, 32, 32, 32]⟩
abbrev S4x11x4x32x32x32 : Shape := ⟨6, ![4, 11, 4, 32, 32, 32]⟩
abbrev S4x27x4x32x32x32 : Shape := ⟨6, ![4, 27, 4, 32, 32, 32]⟩
abbrev S4x108x32x1024 : Shape := ⟨4, ![4, 108, 32, 1024]⟩
abbrev S8x16 : Shape := ⟨2, ![8, 16]⟩
abbrev S8x16x1 : Shape := ⟨3, ![8, 16, 1]⟩
abbrev S8x16x16x1 : Shape := ⟨4, ![8, 16, 16, 1]⟩
abbrev S1x1x16x4 : Shape := ⟨4, ![1, 1, 16, 4]⟩
abbrev S8x16x16x4 : Shape := ⟨4, ![8, 16, 16, 4]⟩
abbrev S8x16x4 : Shape := ⟨3, ![8, 16, 4]⟩
abbrev S16x8x4 : Shape := ⟨3, ![16, 8, 4]⟩
abbrev S4x16 : Shape := ⟨2, ![4, 16]⟩
abbrev S4x16x1 : Shape := ⟨3, ![4, 16, 1]⟩
abbrev S4x16x16x1 : Shape := ⟨4, ![4, 16, 16, 1]⟩
abbrev S4x16x16x4 : Shape := ⟨4, ![4, 16, 16, 4]⟩
abbrev S4x16x4 : Shape := ⟨3, ![4, 16, 4]⟩
abbrev S16x4x4 : Shape := ⟨3, ![16, 4, 4]⟩
abbrev S2x16 : Shape := ⟨2, ![2, 16]⟩
abbrev S2x16x1 : Shape := ⟨3, ![2, 16, 1]⟩
abbrev S2x16x16x1 : Shape := ⟨4, ![2, 16, 16, 1]⟩
abbrev S2x16x16x4 : Shape := ⟨4, ![2, 16, 16, 4]⟩
abbrev S2x16x4 : Shape := ⟨3, ![2, 16, 4]⟩
abbrev S16x2x4 : Shape := ⟨3, ![16, 2, 4]⟩
abbrev S1x16 : Shape := ⟨2, ![1, 16]⟩
abbrev S1x16x1 : Shape := ⟨3, ![1, 16, 1]⟩
abbrev S1x16x16x1 : Shape := ⟨4, ![1, 16, 16, 1]⟩
abbrev S1x16x16x4 : Shape := ⟨4, ![1, 16, 16, 4]⟩
abbrev S1x16x4 : Shape := ⟨3, ![1, 16, 4]⟩
abbrev S16x1x4 : Shape := ⟨3, ![16, 1, 4]⟩
abbrev S16x15x4 : Shape := ⟨3, ![16, 15, 4]⟩
abbrev S4x16x32x1024 : Shape := ⟨4, ![4, 16, 32, 1024]⟩
abbrev S1x108x32x1024 : Shape := ⟨4, ![1, 108, 32, 1024]⟩
abbrev S1x16x32x1024 : Shape := ⟨4, ![1, 16, 32, 1024]⟩
abbrev S1x1 : Shape := ⟨2, ![1, 1]⟩
abbrev S1x1x32x1024 : Shape := ⟨4, ![1, 1, 32, 1024]⟩
abbrev S32x1024 : Shape := ⟨2, ![32, 1024]⟩
abbrev S1x1x1 : Shape := ⟨3, ![1, 1, 1]⟩

abbrev nBuf : Space → Nat
  | .hbm => 173
  | .vmem => 4
  | .smem => 2
  | _ => 0

abbrev hbmTy0_0 (i : Nat) : BufTy := match i % 128 with
  | 0 => ⟨S4x4x32x32x32, .f32⟩
  | 1 => ⟨S16x16, .i32⟩
  | 2 => ⟨S16x16, .i32⟩
  | 3 => ⟨S16x16, .i32⟩
  | 4 => ⟨S16x16, .i32⟩
  | 5 => ⟨S8x16x16, .f32⟩
  | 6 => ⟨S4x16x16, .f32⟩
  | 7 => ⟨S2x16x16, .f32⟩
  | 8 => ⟨S1x16x16, .f32⟩
  | 9 => ⟨S16x4, .f32⟩
  | 10 => ⟨S_, .i32⟩
  | 11 => ⟨S_, .f32⟩
  | 12 => ⟨S4x4x34x34x34, .f32⟩
  | 13 => ⟨S4x4x32x32x32, .f32⟩
  | 14 => ⟨S4x4x32x32x32, .f32⟩
  | 15 => ⟨S4x4x32x32x32, .f32⟩
  | 16 => ⟨S4x4x32x32x32, .f32⟩
  | 17 => ⟨S4x4x32x32x32, .f32⟩
  | 18 => ⟨S4x4x32x32x32, .f32⟩
  | 19 => ⟨S4x4x32x32x32, .f32⟩
  | 20 => ⟨S4x4x32x32x32, .f32⟩
  | 21 => ⟨S4x4x32x32x32, .f32⟩
  | 22 => ⟨S4x4x32x32x32, .f32⟩
  | 23 => ⟨S4x4x32x32x32, .f32⟩
  | 24 => ⟨S4x4x32x32x32, .f32⟩
  | 25 => ⟨S4x4x32x32x32, .f32⟩
  | 26 => ⟨S4x4x32x32x32, .f32⟩
  | 27 => ⟨S4x4x32x32x32, .f32⟩
  | 28 => ⟨S4x4x32x32x32, .f32⟩
  | 29 => ⟨S4x4x32x32x32, .f32⟩
  | 30 => ⟨S4x4x32x32x32, .f32⟩
  | 31 => ⟨S4x4x32x32x32, .f32⟩
  | 32 => ⟨S4x4x32x32x32, .f32⟩
  | 33 => ⟨S4x4x32x32x32, .f32⟩
  | 34 => ⟨S4x4x32x32x32, .f32⟩
  | 35 => ⟨S4x4x32x32x32, .f32⟩
  | 36 => ⟨S4x4x32x32x32, .f32⟩
  | 37 => ⟨S4x4x32x32x32, .f32⟩
  | 38 => ⟨S4x4x32x32x32, .f32⟩
  | 39 => ⟨S4x4x32x32x32, .f32⟩
  | 40 => ⟨S4x1x4x32x32x32, .f32⟩
  | 41 => ⟨S4x1x4x32x32x32, .f32⟩
  | 42 => ⟨S4x1x4x32x32x32, .f32⟩
  | 43 => ⟨S4x1x4x32x32x32, .f32⟩
  | 44 => ⟨S4x1x4x32x32x32, .f32⟩
  | 45 => ⟨S4x1x4x32x32x32, .f32⟩
  | 46 => ⟨S4x1x4x32x32x32, .f32⟩
  | 47 => ⟨S4x1x4x32x32x32, .f32⟩
  | 48 => ⟨S4x1x4x32x32x32, .f32⟩
  | 49 => ⟨S4x1x4x32x32x32, .f32⟩
  | 50 => ⟨S4x1x4x32x32x32, .f32⟩
  | 51 => ⟨S4x1x4x32x32x32, .f32⟩
  | 52 => ⟨S4x1x4x32x32x32, .f32⟩
  | 53 => ⟨S4x1x4x32x32x32, .f32⟩
  | 54 => ⟨S4x1x4x32x32x32, .f32⟩
  | 55 => ⟨S4x1x4x32x32x32, .f32⟩
  | 56 => ⟨S4x1x4x32x32x32, .f32⟩
  | 57 => ⟨S4x1x4x32x32x32, .f32⟩
  | 58 => ⟨S4x1x4x32x32x32, .f32⟩
  | 59 => ⟨S4x1x4x32x32x32, .f32⟩
  | 60 => ⟨S4x1x4x32x32x32, .f32⟩
  | 61 => ⟨S4x1x4x32x32x32, .f32⟩
  | 62 => ⟨S4x1x4x32x32x32, .f32⟩
  | 63 => ⟨S4x1x4x32x32x32, .f32⟩
  | 64 => ⟨S4x1x4x32x32x32, .f32⟩
  | 65 => ⟨S4x1x4x32x32x32, .f32⟩
  | 66 => ⟨S4x1x4x32x32x32, .f32⟩
  | 67 => ⟨S4x16x4x32x32x32, .f32⟩
  | 68 => ⟨S4x11x4x32x32x32, .f32⟩
  | 69 => ⟨S4x27x4x32x32x32, .f32⟩
  | 70 => ⟨S4x108x32x1024, .f32⟩
  | 71 => ⟨S_, .i32⟩
  | 72 => ⟨S16x16, .i32⟩
  | 73 => ⟨S16x16, .i32⟩
  | 74 => ⟨S16x16, .i32⟩
  | 75 => ⟨S_, .i32⟩
  | 76 => ⟨S16x16, .i32⟩
  | 77 => ⟨S16x16, .i32⟩
  | 78 => ⟨S16x16, .i32⟩
  | 79 => ⟨S_, .i32⟩
  | 80 => ⟨S16x16, .i32⟩
  | 81 => ⟨S16x16, .i32⟩
  | 82 => ⟨S16x16, .i32⟩
  | 83 => ⟨S_, .f32⟩
  | 84 => ⟨S8x16, .f32⟩
  | 85 => ⟨S_, .f32⟩
  | 86 => ⟨S8x16, .f32⟩
  | 87 => ⟨S8x16, .f32⟩
  | 88 => ⟨S8x16x1, .f32⟩
  | 89 => ⟨S8x16x16, .f32⟩
  | 90 => ⟨S8x16x16, .f32⟩
  | 91 => ⟨S8x16x16, .f32⟩
  | 92 => ⟨S_, .f32⟩
  | 93 => ⟨S8x16, .f32⟩
  | 94 => ⟨S8x16x1, .f32⟩
  | 95 => ⟨S8x16x16, .f32⟩
  | 96 => ⟨S8x16x16, .f32⟩
  | 97 => ⟨S8x16x16x1, .f32⟩
  | 98 => ⟨S1x1x16x4, .f32⟩
  | 99 => ⟨S8x16x16x4, .f32⟩
  | 100 => ⟨S8x16x16x4, .f32⟩
  | 101 => ⟨S8x16x16x4, .f32⟩
  | 102 => ⟨S_, .f32⟩
  | 103 => ⟨S8x16x4, .f32⟩
  | 104 => ⟨S16x8x4, .f32⟩
  | 105 => ⟨S_, .f32⟩
  | 106 => ⟨S4x16, .f32⟩
  | 107 => ⟨S_, .f32⟩
  | 108 => ⟨S4x16, .f32⟩
  | 109 => ⟨S4x16, .f32⟩
  | 110 => ⟨S4x16x1, .f32⟩
  | 111 => ⟨S4x16x16, .f32⟩
  | 112 => ⟨S4x16x16, .f32⟩
  | 113 => ⟨S4x16x16, .f32⟩
  | 114 => ⟨S_, .f32⟩
  | 115 => ⟨S4x16, .f32⟩
  | 116 => ⟨S4x16x1, .f32⟩
  | 117 => ⟨S4x16x16, .f32⟩
  | 118 => ⟨S4x16x16, .f32⟩
  | 119 => ⟨S4x16x16x1, .f32⟩
  | 120 => ⟨S1x1x16x4, .f32⟩
  | 121 => ⟨S4x16x16x4, .f32⟩
  | 122 => ⟨S4x16x16x4, .f32⟩
  | 123 => ⟨S4x16x16x4, .f32⟩
  | 124 => ⟨S_, .f32⟩
  | 125 => ⟨S4x16x4, .f32⟩
  | 126 => ⟨S16x4x4, .f32⟩
  | 127 => ⟨S_, .f32⟩
  | _ => ⟨S4x4x32x32x32, .f32⟩

abbrev hbmTy0_1 (i : Nat) : BufTy := match i % 128 with
  | 0 => ⟨S2x16, .f32⟩
  | 1 => ⟨S_, .f32⟩
  | 2 => ⟨S2x16, .f32⟩
  | 3 => ⟨S2x16, .f32⟩
  | 4 => ⟨S2x16x1, .f32⟩
  | 5 => ⟨S2x16x16, .f32⟩
  | 6 => ⟨S2x16x16, .f32⟩
  | 7 => ⟨S2x16x16, .f32⟩
  | 8 => ⟨S_, .f32⟩
  | 9 => ⟨S2x16, .f32⟩
  | 10 => ⟨S2x16x1, .f32⟩
  | 11 => ⟨S2x16x16, .f32⟩
  | 12 => ⟨S2x16x16, .f32⟩
  | 13 => ⟨S2x16x16x1, .f32⟩
  | 14 => ⟨S1x1x16x4, .f32⟩
  | 15 => ⟨S2x16x16x4, .f32⟩
  | 16 => ⟨S2x16x16x4, .f32⟩
  | 17 => ⟨S2x16x16x4, .f32⟩
  | 18 => ⟨S_, .f32⟩
  | 19 => ⟨S2x16x4, .f32⟩
  | 20 => ⟨S16x2x4, .f32⟩
  | 21 => ⟨S_, .f32⟩
  | 22 => ⟨S1x16, .f32⟩
  | 23 => ⟨S_, .f32⟩
  | 24 => ⟨S1x16, .f32⟩
  | 25 => ⟨S1x16, .f32⟩
  | 26 => ⟨S1x16x1, .f32⟩
  | 27 => ⟨S1x16x16, .f32⟩
  | 28 => ⟨S1x16x16, .f32⟩
  | 29 => ⟨S1x16x16, .f32⟩
  | 30 => ⟨S_, .f32⟩
  | 31 => ⟨S1x16, .f32⟩
  | 32 => ⟨S1x16x1, .f32⟩
  | 33 => ⟨S1x16x16, .f32⟩
  | 34 => ⟨S1x16x16, .f32⟩
  | 35 => ⟨S1x16x16x1, .f32⟩
  | 36 => ⟨S1x1x16x4, .f32⟩
  | 37 => ⟨S1x16x16x4, .f32⟩
  | 38 => ⟨S1x16x16x4, .f32⟩
  | 39 => ⟨S1x16x16x4, .f32⟩
  | 40 => ⟨S_, .f32⟩
  | 41 => ⟨S1x16x4, .f32⟩
  | 42 => ⟨S16x1x4, .f32⟩
  | 43 => ⟨S16x15x4, .f32⟩
  | 44 => ⟨S4x16x32x1024, .f32⟩
  | _ => ⟨S4x4x32x32x32, .f32⟩

abbrev hbmTy (i : Nat) : BufTy := match i / 128 with
  | 0 => hbmTy0_0 i
  | 1 => hbmTy0_1 i
  | _ => ⟨S4x4x32x32x32, .f32⟩

abbrev bufTy : (tb : Table) → Fin (tcTables nBuf tb) → BufTy
  | .hbm, ⟨i, _⟩ => hbmTy i
  | .local _ .vmem, ⟨0, _⟩ => ⟨S1x108x32x1024, .f32⟩
  | .local _ .vmem, ⟨1, _⟩ => ⟨S1x108x32x1024, .f32⟩
  | .local _ .vmem, ⟨2, _⟩ => ⟨S1x16x32x1024, .f32⟩
  | .local _ .vmem, ⟨3, _⟩ => ⟨S1x16x32x1024, .f32⟩
  | .local _ .smem, ⟨0, _⟩ => ⟨S16x16, .i32⟩
  | .local _ .smem, ⟨1, _⟩ => ⟨S16x15x4, .f32⟩
  | _, _ => ⟨S4x4x32x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_c : Ref sig .tc := ⟨.hbm, 10, rfl⟩
abbrev main_call0_v0 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_c_0 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_c_1 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_c_2 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_cst_3 : Ref sig .tc := ⟨.hbm, 83, rfl⟩
abbrev main_v68 : Ref sig .tc := ⟨.hbm, 84, rfl⟩
abbrev main_cst_4 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_cst_5 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_cst_6 : Ref sig .tc := ⟨.hbm, 102, rfl⟩
abbrev main_v84 : Ref sig .tc := ⟨.hbm, 103, rfl⟩
abbrev main_v85 : Ref sig .tc := ⟨.hbm, 104, rfl⟩
abbrev main_cst_7 : Ref sig .tc := ⟨.hbm, 105, rfl⟩
abbrev main_v86 : Ref sig .tc := ⟨.hbm, 106, rfl⟩
abbrev main_cst_8 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_cst_9 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_cst_10 : Ref sig .tc := ⟨.hbm, 124, rfl⟩
abbrev main_v102 : Ref sig .tc := ⟨.hbm, 125, rfl⟩
abbrev main_v103 : Ref sig .tc := ⟨.hbm, 126, rfl⟩
abbrev main_cst_11 : Ref sig .tc := ⟨.hbm, 127, rfl⟩
abbrev main_v104 : Ref sig .tc := ⟨.hbm, 128, rfl⟩
abbrev main_cst_12 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_cst_13 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_cst_14 : Ref sig .tc := ⟨.hbm, 146, rfl⟩
abbrev main_v120 : Ref sig .tc := ⟨.hbm, 147, rfl⟩
abbrev main_v121 : Ref sig .tc := ⟨.hbm, 148, rfl⟩
abbrev main_cst_15 : Ref sig .tc := ⟨.hbm, 149, rfl⟩
abbrev main_v122 : Ref sig .tc := ⟨.hbm, 150, rfl⟩
abbrev main_cst_16 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_cst_17 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_cst_18 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def k0_off1 (v0 : BitVec 32) : Fin 4 → Nat :=
  let c0_1 : Index := 0#32
  let v1 : Index := Scalar.indexCast v0
  let c0_2 : Index := 0#32
  let c0_3 : Index := 0#32
  ![0, v1.toNat, 0, 0]

def k0_chk1 (v0 : BitVec 32) : Prop :=
  (∀ a, (k0_off1 v0) a + S1x1x32x1024.size a ≤ S1x108x32x1024.size a)
theorem k0_off1_inb : ∀ (v0 : BitVec 32) (k0_hw1 : k0_chk1 v0), ∀ a, (k0_off1 v0) a + S1x1x32x1024.size a ≤ S1x108x32x1024.size a := fun v0 k0_hw1 => k0_hw1

def k0_off2 (v4 : BitVec 32) : Fin 4 → Nat :=
  let c0_5 : Index := 0#32
  let v5 : Index := Scalar.indexCast v4
  let c0_6 : Index := 0#32
  let c0_7 : Index := 0#32
  ![0, v5.toNat, 0, 0]

def k0_chk2 (v4 : BitVec 32) : Prop :=
  (∀ a, (k0_off2 v4) a + S1x1x32x1024.size a ≤ S1x108x32x1024.size a)
theorem k0_off2_inb : ∀ (v4 : BitVec 32) (k0_hw2 : k0_chk2 v4), ∀ a, (k0_off2 v4) a + S1x1x32x1024.size a ≤ S1x108x32x1024.size a := fun v4 k0_hw2 => k0_hw2

def k0_off3 (v23 : BitVec 32) : Fin 4 → Nat :=
  let c0_20 : Index := 0#32
  let v24 : Index := Scalar.indexCast v23
  let c0_21 : Index := 0#32
  let c0_22 : Index := 0#32
  ![0, v24.toNat, 0, 0]

def k0_chk3 (v23 : BitVec 32) : Prop :=
  (∀ a, (k0_off3 v23) a + S1x1x32x1024.size a ≤ S1x108x32x1024.size a)
theorem k0_off3_inb : ∀ (v23 : BitVec 32) (k0_hw3 : k0_chk3 v23), ∀ a, (k0_off3 v23) a + S1x1x32x1024.size a ≤ S1x108x32x1024.size a := fun v23 k0_hw3 => k0_hw3

def k0_off4 (v27 : BitVec 32) : Fin 4 → Nat :=
  let c0_25 : Index := 0#32
  let v28 : Index := Scalar.indexCast v27
  let c0_26 : Index := 0#32
  let c0_27 : Index := 0#32
  ![0, v28.toNat, 0, 0]

def k0_chk4 (v27 : BitVec 32) : Prop :=
  (∀ a, (k0_off4 v27) a + S1x1x32x1024.size a ≤ S1x108x32x1024.size a)
theorem k0_off4_inb : ∀ (v27 : BitVec 32) (k0_hw4 : k0_chk4 v27), ∀ a, (k0_off4 v27) a + S1x1x32x1024.size a ≤ S1x108x32x1024.size a := fun v27 k0_hw4 => k0_hw4

def k0_off5 (v46 : BitVec 32) : Fin 4 → Nat :=
  let c0_41 : Index := 0#32
  let v47 : Index := Scalar.indexCast v46
  let c0_42 : Index := 0#32
  let c0_43 : Index := 0#32
  ![0, v47.toNat, 0, 0]

def k0_chk5 (v46 : BitVec 32) : Prop :=
  (∀ a, (k0_off5 v46) a + S1x1x32x1024.size a ≤ S1x108x32x1024.size a)
theorem k0_off5_inb : ∀ (v46 : BitVec 32) (k0_hw5 : k0_chk5 v46), ∀ a, (k0_off5 v46) a + S1x1x32x1024.size a ≤ S1x108x32x1024.size a := fun v46 k0_hw5 => k0_hw5

def k0_off6 (v50 : BitVec 32) : Fin 4 → Nat :=
  let c0_45 : Index := 0#32
  let v51 : Index := Scalar.indexCast v50
  let c0_46 : Index := 0#32
  let c0_47 : Index := 0#32
  ![0, v51.toNat, 0, 0]

def k0_chk6 (v50 : BitVec 32) : Prop :=
  (∀ a, (k0_off6 v50) a + S1x1x32x1024.size a ≤ S1x108x32x1024.size a)
theorem k0_off6_inb : ∀ (v50 : BitVec 32) (k0_hw6 : k0_chk6 v50), ∀ a, (k0_off6 v50) a + S1x1x32x1024.size a ≤ S1x108x32x1024.size a := fun v50 k0_hw6 => k0_hw6

def k0_off7 (v69 : BitVec 32) : Fin 4 → Nat :=
  let c0_61 : Index := 0#32
  let v70 : Index := Scalar.indexCast v69
  let c0_62 : Index := 0#32
  let c0_63 : Index := 0#32
  ![0, v70.toNat, 0, 0]

def k0_chk7 (v69 : BitVec 32) : Prop :=
  (∀ a, (k0_off7 v69) a + S1x1x32x1024.size a ≤ S1x108x32x1024.size a)
theorem k0_off7_inb : ∀ (v69 : BitVec 32) (k0_hw7 : k0_chk7 v69), ∀ a, (k0_off7 v69) a + S1x1x32x1024.size a ≤ S1x108x32x1024.size a := fun v69 k0_hw7 => k0_hw7

def k0_off8 (v73 : BitVec 32) : Fin 4 → Nat :=
  let c0_65 : Index := 0#32
  let v74 : Index := Scalar.indexCast v73
  let c0_66 : Index := 0#32
  let c0_67 : Index := 0#32
  ![0, v74.toNat, 0, 0]

def k0_chk8 (v73 : BitVec 32) : Prop :=
  (∀ a, (k0_off8 v73) a + S1x1x32x1024.size a ≤ S1x108x32x1024.size a)
theorem k0_off8_inb : ∀ (v73 : BitVec 32) (k0_hw8 : k0_chk8 v73), ∀ a, (k0_off8 v73) a + S1x1x32x1024.size a ≤ S1x108x32x1024.size a := fun v73 k0_hw8 => k0_hw8

def k0_off9 (v92 : BitVec 32) : Fin 4 → Nat :=
  let c0_81 : Index := 0#32
  let v93 : Index := Scalar.indexCast v92
  let c0_82 : Index := 0#32
  let c0_83 : Index := 0#32
  ![0, v93.toNat, 0, 0]

def k0_chk9 (v92 : BitVec 32) : Prop :=
  (∀ a, (k0_off9 v92) a + S1x1x32x1024.size a ≤ S1x108x32x1024.size a)
theorem k0_off9_inb : ∀ (v92 : BitVec 32) (k0_hw9 : k0_chk9 v92), ∀ a, (k0_off9 v92) a + S1x1x32x1024.size a ≤ S1x108x32x1024.size a := fun v92 k0_hw9 => k0_hw9

def k0_off10 (v96 : BitVec 32) : Fin 4 → Nat :=
  let c0_85 : Index := 0#32
  let v97 : Index := Scalar.indexCast v96
  let c0_86 : Index := 0#32
  let c0_87 : Index := 0#32
  ![0, v97.toNat, 0, 0]

def k0_chk10 (v96 : BitVec 32) : Prop :=
  (∀ a, (k0_off10 v96) a + S1x1x32x1024.size a ≤ S1x108x32x1024.size a)
theorem k0_off10_inb : ∀ (v96 : BitVec 32) (k0_hw10 : k0_chk10 v96), ∀ a, (k0_off10 v96) a + S1x1x32x1024.size a ≤ S1x108x32x1024.size a := fun v96 k0_hw10 => k0_hw10

def k0_off11 (v115 : BitVec 32) : Fin 4 → Nat :=
  let c0_101 : Index := 0#32
  let v116 : Index := Scalar.indexCast v115
  let c0_102 : Index := 0#32
  let c0_103 : Index := 0#32
  ![0, v116.toNat, 0, 0]

def k0_chk11 (v115 : BitVec 32) : Prop :=
  (∀ a, (k0_off11 v115) a + S1x1x32x1024.size a ≤ S1x108x32x1024.size a)
theorem k0_off11_inb : ∀ (v115 : BitVec 32) (k0_hw11 : k0_chk11 v115), ∀ a, (k0_off11 v115) a + S1x1x32x1024.size a ≤ S1x108x32x1024.size a := fun v115 k0_hw11 => k0_hw11

def k0_off12 (v119 : BitVec 32) : Fin 4 → Nat :=
  let c0_105 : Index := 0#32
  let v120 : Index := Scalar.indexCast v119
  let c0_106 : Index := 0#32
  let c0_107 : Index := 0#32
  ![0, v120.toNat, 0, 0]

def k0_chk12 (v119 : BitVec 32) : Prop :=
  (∀ a, (k0_off12 v119) a + S1x1x32x1024.size a ≤ S1x108x32x1024.size a)
theorem k0_off12_inb : ∀ (v119 : BitVec 32) (k0_hw12 : k0_chk12 v119), ∀ a, (k0_off12 v119) a + S1x1x32x1024.size a ≤ S1x108x32x1024.size a := fun v119 k0_hw12 => k0_hw12

def k0_off13 (v138 : BitVec 32) : Fin 4 → Nat :=
  let c0_121 : Index := 0#32
  let v139 : Index := Scalar.indexCast v138
  let c0_122 : Index := 0#32
  let c0_123 : Index := 0#32
  ![0, v139.toNat, 0, 0]

def k0_chk13 (v138 : BitVec 32) : Prop :=
  (∀ a, (k0_off13 v138) a + S1x1x32x1024.size a ≤ S1x108x32x1024.size a)
theorem k0_off13_inb : ∀ (v138 : BitVec 32) (k0_hw13 : k0_chk13 v138), ∀ a, (k0_off13 v138) a + S1x1x32x1024.size a ≤ S1x108x32x1024.size a := fun v138 k0_hw13 => k0_hw13

def k0_off14 (v142 : BitVec 32) : Fin 4 → Nat :=
  let c0_125 : Index := 0#32
  let v143 : Index := Scalar.indexCast v142
  let c0_126 : Index := 0#32
  let c0_127 : Index := 0#32
  ![0, v143.toNat, 0, 0]

def k0_chk14 (v142 : BitVec 32) : Prop :=
  (∀ a, (k0_off14 v142) a + S1x1x32x1024.size a ≤ S1x108x32x1024.size a)
theorem k0_off14_inb : ∀ (v142 : BitVec 32) (k0_hw14 : k0_chk14 v142), ∀ a, (k0_off14 v142) a + S1x1x32x1024.size a ≤ S1x108x32x1024.size a := fun v142 k0_hw14 => k0_hw14

def k0_off15 (v161 : BitVec 32) : Fin 4 → Nat :=
  let c0_141 : Index := 0#32
  let v162 : Index := Scalar.indexCast v161
  let c0_142 : Index := 0#32
  let c0_143 : Index := 0#32
  ![0, v162.toNat, 0, 0]

def k0_chk15 (v161 : BitVec 32) : Prop :=
  (∀ a, (k0_off15 v161) a + S1x1x32x1024.size a ≤ S1x108x32x1024.size a)
theorem k0_off15_inb : ∀ (v161 : BitVec 32) (k0_hw15 : k0_chk15 v161), ∀ a, (k0_off15 v161) a + S1x1x32x1024.size a ≤ S1x108x32x1024.size a := fun v161 k0_hw15 => k0_hw15

def k0_off16 (v165 : BitVec 32) : Fin 4 → Nat :=
  let c0_145 : Index := 0#32
  let v166 : Index := Scalar.indexCast v165
  let c0_146 : Index := 0#32
  let c0_147 : Index := 0#32
  ![0, v166.toNat, 0, 0]

def k0_chk16 (v165 : BitVec 32) : Prop :=
  (∀ a, (k0_off16 v165) a + S1x1x32x1024.size a ≤ S1x108x32x1024.size a)
theorem k0_off16_inb : ∀ (v165 : BitVec 32) (k0_hw16 : k0_chk16 v165), ∀ a, (k0_off16 v165) a + S1x1x32x1024.size a ≤ S1x108x32x1024.size a := fun v165 k0_hw16 => k0_hw16

def k0_off17 (v292 : BitVec 32) : Fin 4 → Nat :=
  let c0_250 : Index := 0#32
  let v293 : Index := Scalar.indexCast v292
  let c0_251 : Index := 0#32
  let c0_252 : Index := 0#32
  ![0, v293.toNat, 0, 0]

def k0_chk17 (v292 : BitVec 32) : Prop :=
  (∀ a, (k0_off17 v292) a + S1x1x32x1024.size a ≤ S1x108x32x1024.size a)
theorem k0_off17_inb : ∀ (v292 : BitVec 32) (k0_hw17 : k0_chk17 v292), ∀ a, (k0_off17 v292) a + S1x1x32x1024.size a ≤ S1x108x32x1024.size a := fun v292 k0_hw17 => k0_hw17

def k0_off18 (v296 : BitVec 32) : Fin 4 → Nat :=
  let c0_255 : Index := 0#32
  let v297 : Index := Scalar.indexCast v296
  let c0_256 : Index := 0#32
  let c0_257 : Index := 0#32
  ![0, v297.toNat, 0, 0]

def k0_chk18 (v296 : BitVec 32) : Prop :=
  (∀ a, (k0_off18 v296) a + S1x1x32x1024.size a ≤ S1x108x32x1024.size a)
theorem k0_off18_inb : ∀ (v296 : BitVec 32) (k0_hw18 : k0_chk18 v296), ∀ a, (k0_off18 v296) a + S1x1x32x1024.size a ≤ S1x108x32x1024.size a := fun v296 k0_hw18 => k0_hw18

def k0_off19 (v315 : BitVec 32) : Fin 4 → Nat :=
  let c0_272 : Index := 0#32
  let v316 : Index := Scalar.indexCast v315
  let c0_273 : Index := 0#32
  let c0_274 : Index := 0#32
  ![0, v316.toNat, 0, 0]

def k0_chk19 (v315 : BitVec 32) : Prop :=
  (∀ a, (k0_off19 v315) a + S1x1x32x1024.size a ≤ S1x108x32x1024.size a)
theorem k0_off19_inb : ∀ (v315 : BitVec 32) (k0_hw19 : k0_chk19 v315), ∀ a, (k0_off19 v315) a + S1x1x32x1024.size a ≤ S1x108x32x1024.size a := fun v315 k0_hw19 => k0_hw19

def k0_off20 (v319 : BitVec 32) : Fin 4 → Nat :=
  let c0_277 : Index := 0#32
  let v320 : Index := Scalar.indexCast v319
  let c0_278 : Index := 0#32
  let c0_279 : Index := 0#32
  ![0, v320.toNat, 0, 0]

def k0_chk20 (v319 : BitVec 32) : Prop :=
  (∀ a, (k0_off20 v319) a + S1x1x32x1024.size a ≤ S1x108x32x1024.size a)
theorem k0_off20_inb : ∀ (v319 : BitVec 32) (k0_hw20 : k0_chk20 v319), ∀ a, (k0_off20 v319) a + S1x1x32x1024.size a ≤ S1x108x32x1024.size a := fun v319 k0_hw20 => k0_hw20

def k0_off21 (v338 : BitVec 32) : Fin 4 → Nat :=
  let c0_294 : Index := 0#32
  let v339 : Index := Scalar.indexCast v338
  let c0_295 : Index := 0#32
  let c0_296 : Index := 0#32
  ![0, v339.toNat, 0, 0]

def k0_chk21 (v338 : BitVec 32) : Prop :=
  (∀ a, (k0_off21 v338) a + S1x1x32x1024.size a ≤ S1x108x32x1024.size a)
theorem k0_off21_inb : ∀ (v338 : BitVec 32) (k0_hw21 : k0_chk21 v338), ∀ a, (k0_off21 v338) a + S1x1x32x1024.size a ≤ S1x108x32x1024.size a := fun v338 k0_hw21 => k0_hw21

def k0_off22 (v342 : BitVec 32) : Fin 4 → Nat :=
  let c0_299 : Index := 0#32
  let v343 : Index := Scalar.indexCast v342
  let c0_300 : Index := 0#32
  let c0_301 : Index := 0#32
  ![0, v343.toNat, 0, 0]

def k0_chk22 (v342 : BitVec 32) : Prop :=
  (∀ a, (k0_off22 v342) a + S1x1x32x1024.size a ≤ S1x108x32x1024.size a)
theorem k0_off22_inb : ∀ (v342 : BitVec 32) (k0_hw22 : k0_chk22 v342), ∀ a, (k0_off22 v342) a + S1x1x32x1024.size a ≤ S1x108x32x1024.size a := fun v342 k0_hw22 => k0_hw22

def k0_off23 (v361 : BitVec 32) : Fin 4 → Nat :=
  let c0_316 : Index := 0#32
  let v362 : Index := Scalar.indexCast v361
  let c0_317 : Index := 0#32
  let c0_318 : Index := 0#32
  ![0, v362.toNat, 0, 0]

def k0_chk23 (v361 : BitVec 32) : Prop :=
  (∀ a, (k0_off23 v361) a + S1x1x32x1024.size a ≤ S1x108x32x1024.size a)
theorem k0_off23_inb : ∀ (v361 : BitVec 32) (k0_hw23 : k0_chk23 v361), ∀ a, (k0_off23 v361) a + S1x1x32x1024.size a ≤ S1x108x32x1024.size a := fun v361 k0_hw23 => k0_hw23

def k0_off24 (v365 : BitVec 32) : Fin 4 → Nat :=
  let c0_321 : Index := 0#32
  let v366 : Index := Scalar.indexCast v365
  let c0_322 : Index := 0#32
  let c0_323 : Index := 0#32
  ![0, v366.toNat, 0, 0]

def k0_chk24 (v365 : BitVec 32) : Prop :=
  (∀ a, (k0_off24 v365) a + S1x1x32x1024.size a ≤ S1x108x32x1024.size a)
theorem k0_off24_inb : ∀ (v365 : BitVec 32) (k0_hw24 : k0_chk24 v365), ∀ a, (k0_off24 v365) a + S1x1x32x1024.size a ≤ S1x108x32x1024.size a := fun v365 k0_hw24 => k0_hw24

def k0_off25 (v384 : BitVec 32) : Fin 4 → Nat :=
  let c0_338 : Index := 0#32
  let v385 : Index := Scalar.indexCast v384
  let c0_339 : Index := 0#32
  let c0_340 : Index := 0#32
  ![0, v385.toNat, 0, 0]

def k0_chk25 (v384 : BitVec 32) : Prop :=
  (∀ a, (k0_off25 v384) a + S1x1x32x1024.size a ≤ S1x108x32x1024.size a)
theorem k0_off25_inb : ∀ (v384 : BitVec 32) (k0_hw25 : k0_chk25 v384), ∀ a, (k0_off25 v384) a + S1x1x32x1024.size a ≤ S1x108x32x1024.size a := fun v384 k0_hw25 => k0_hw25

def k0_off26 (v388 : BitVec 32) : Fin 4 → Nat :=
  let c0_343 : Index := 0#32
  let v389 : Index := Scalar.indexCast v388
  let c0_344 : Index := 0#32
  let c0_345 : Index := 0#32
  ![0, v389.toNat, 0, 0]

def k0_chk26 (v388 : BitVec 32) : Prop :=
  (∀ a, (k0_off26 v388) a + S1x1x32x1024.size a ≤ S1x108x32x1024.size a)
theorem k0_off26_inb : ∀ (v388 : BitVec 32) (k0_hw26 : k0_chk26 v388), ∀ a, (k0_off26 v388) a + S1x1x32x1024.size a ≤ S1x108x32x1024.size a := fun v388 k0_hw26 => k0_hw26

def k0_off27 (v407 : BitVec 32) : Fin 4 → Nat :=
  let c0_360 : Index := 0#32
  let v408 : Index := Scalar.indexCast v407
  let c0_361 : Index := 0#32
  let c0_362 : Index := 0#32
  ![0, v408.toNat, 0, 0]

def k0_chk27 (v407 : BitVec 32) : Prop :=
  (∀ a, (k0_off27 v407) a + S1x1x32x1024.size a ≤ S1x108x32x1024.size a)
theorem k0_off27_inb : ∀ (v407 : BitVec 32) (k0_hw27 : k0_chk27 v407), ∀ a, (k0_off27 v407) a + S1x1x32x1024.size a ≤ S1x108x32x1024.size a := fun v407 k0_hw27 => k0_hw27

def k0_off28 (v411 : BitVec 32) : Fin 4 → Nat :=
  let c0_365 : Index := 0#32
  let v412 : Index := Scalar.indexCast v411
  let c0_366 : Index := 0#32
  let c0_367 : Index := 0#32
  ![0, v412.toNat, 0, 0]

def k0_chk28 (v411 : BitVec 32) : Prop :=
  (∀ a, (k0_off28 v411) a + S1x1x32x1024.size a ≤ S1x108x32x1024.size a)
theorem k0_off28_inb : ∀ (v411 : BitVec 32) (k0_hw28 : k0_chk28 v411), ∀ a, (k0_off28 v411) a + S1x1x32x1024.size a ≤ S1x108x32x1024.size a := fun v411 k0_hw28 => k0_hw28

def k0_off29 (v430 : BitVec 32) : Fin 4 → Nat :=
  let c0_382 : Index := 0#32
  let v431 : Index := Scalar.indexCast v430
  let c0_383 : Index := 0#32
  let c0_384 : Index := 0#32
  ![0, v431.toNat, 0, 0]

def k0_chk29 (v430 : BitVec 32) : Prop :=
  (∀ a, (k0_off29 v430) a + S1x1x32x1024.size a ≤ S1x108x32x1024.size a)
theorem k0_off29_inb : ∀ (v430 : BitVec 32) (k0_hw29 : k0_chk29 v430), ∀ a, (k0_off29 v430) a + S1x1x32x1024.size a ≤ S1x108x32x1024.size a := fun v430 k0_hw29 => k0_hw29

def k0_off30 (v434 : BitVec 32) : Fin 4 → Nat :=
  let c0_387 : Index := 0#32
  let v435 : Index := Scalar.indexCast v434
  let c0_388 : Index := 0#32
  let c0_389 : Index := 0#32
  ![0, v435.toNat, 0, 0]

def k0_chk30 (v434 : BitVec 32) : Prop :=
  (∀ a, (k0_off30 v434) a + S1x1x32x1024.size a ≤ S1x108x32x1024.size a)
theorem k0_off30_inb : ∀ (v434 : BitVec 32) (k0_hw30 : k0_chk30 v434), ∀ a, (k0_off30 v434) a + S1x1x32x1024.size a ≤ S1x108x32x1024.size a := fun v434 k0_hw30 => k0_hw30

def k0_off31 (v453 : BitVec 32) : Fin 4 → Nat :=
  let c0_404 : Index := 0#32
  let v454 : Index := Scalar.indexCast v453
  let c0_405 : Index := 0#32
  let c0_406 : Index := 0#32
  ![0, v454.toNat, 0, 0]

def k0_chk31 (v453 : BitVec 32) : Prop :=
  (∀ a, (k0_off31 v453) a + S1x1x32x1024.size a ≤ S1x108x32x1024.size a)
theorem k0_off31_inb : ∀ (v453 : BitVec 32) (k0_hw31 : k0_chk31 v453), ∀ a, (k0_off31 v453) a + S1x1x32x1024.size a ≤ S1x108x32x1024.size a := fun v453 k0_hw31 => k0_hw31

def k0_off32 (v457 : BitVec 32) : Fin 4 → Nat :=
  let c0_409 : Index := 0#32
  let v458 : Index := Scalar.indexCast v457
  let c0_410 : Index := 0#32
  let c0_411 : Index := 0#32
  ![0, v458.toNat, 0, 0]

def k0_chk32 (v457 : BitVec 32) : Prop :=
  (∀ a, (k0_off32 v457) a + S1x1x32x1024.size a ≤ S1x108x32x1024.size a)
theorem k0_off32_inb : ∀ (v457 : BitVec 32) (k0_hw32 : k0_chk32 v457), ∀ a, (k0_off32 v457) a + S1x1x32x1024.size a ≤ S1x108x32x1024.size a := fun v457 k0_hw32 => k0_hw32

def k0_off33 (v584 : BitVec 32) : Fin 4 → Nat :=
  let c0_514 : Index := 0#32
  let v585 : Index := Scalar.indexCast v584
  let c0_515 : Index := 0#32
  let c0_516 : Index := 0#32
  ![0, v585.toNat, 0, 0]

def k0_chk33 (v584 : BitVec 32) : Prop :=
  (∀ a, (k0_off33 v584) a + S1x1x32x1024.size a ≤ S1x108x32x1024.size a)
theorem k0_off33_inb : ∀ (v584 : BitVec 32) (k0_hw33 : k0_chk33 v584), ∀ a, (k0_off33 v584) a + S1x1x32x1024.size a ≤ S1x108x32x1024.size a := fun v584 k0_hw33 => k0_hw33

def k0_off34 (v588 : BitVec 32) : Fin 4 → Nat :=
  let c0_519 : Index := 0#32
  let v589 : Index := Scalar.indexCast v588
  let c0_520 : Index := 0#32
  let c0_521 : Index := 0#32
  ![0, v589.toNat, 0, 0]

def k0_chk34 (v588 : BitVec 32) : Prop :=
  (∀ a, (k0_off34 v588) a + S1x1x32x1024.size a ≤ S1x108x32x1024.size a)
theorem k0_off34_inb : ∀ (v588 : BitVec 32) (k0_hw34 : k0_chk34 v588), ∀ a, (k0_off34 v588) a + S1x1x32x1024.size a ≤ S1x108x32x1024.size a := fun v588 k0_hw34 => k0_hw34

def k0_off35 (v607 : BitVec 32) : Fin 4 → Nat :=
  let c0_536 : Index := 0#32
  let v608 : Index := Scalar.indexCast v607
  let c0_537 : Index := 0#32
  let c0_538 : Index := 0#32
  ![0, v608.toNat, 0, 0]

def k0_chk35 (v607 : BitVec 32) : Prop :=
  (∀ a, (k0_off35 v607) a + S1x1x32x1024.size a ≤ S1x108x32x1024.size a)
theorem k0_off35_inb : ∀ (v607 : BitVec 32) (k0_hw35 : k0_chk35 v607), ∀ a, (k0_off35 v607) a + S1x1x32x1024.size a ≤ S1x108x32x1024.size a := fun v607 k0_hw35 => k0_hw35

def k0_off36 (v611 : BitVec 32) : Fin 4 → Nat :=
  let c0_541 : Index := 0#32
  let v612 : Index := Scalar.indexCast v611
  let c0_542 : Index := 0#32
  let c0_543 : Index := 0#32
  ![0, v612.toNat, 0, 0]

def k0_chk36 (v611 : BitVec 32) : Prop :=
  (∀ a, (k0_off36 v611) a + S1x1x32x1024.size a ≤ S1x108x32x1024.size a)
theorem k0_off36_inb : ∀ (v611 : BitVec 32) (k0_hw36 : k0_chk36 v611), ∀ a, (k0_off36 v611) a + S1x1x32x1024.size a ≤ S1x108x32x1024.size a := fun v611 k0_hw36 => k0_hw36

def k0_off37 (v630 : BitVec 32) : Fin 4 → Nat :=
  let c0_558 : Index := 0#32
  let v631 : Index := Scalar.indexCast v630
  let c0_559 : Index := 0#32
  let c0_560 : Index := 0#32
  ![0, v631.toNat, 0, 0]

def k0_chk37 (v630 : BitVec 32) : Prop :=
  (∀ a, (k0_off37 v630) a + S1x1x32x1024.size a ≤ S1x108x32x1024.size a)
theorem k0_off37_inb : ∀ (v630 : BitVec 32) (k0_hw37 : k0_chk37 v630), ∀ a, (k0_off37 v630) a + S1x1x32x1024.size a ≤ S1x108x32x1024.size a := fun v630 k0_hw37 => k0_hw37

def k0_off38 (v634 : BitVec 32) : Fin 4 → Nat :=
  let c0_563 : Index := 0#32
  let v635 : Index := Scalar.indexCast v634
  let c0_564 : Index := 0#32
  let c0_565 : Index := 0#32
  ![0, v635.toNat, 0, 0]

def k0_chk38 (v634 : BitVec 32) : Prop :=
  (∀ a, (k0_off38 v634) a + S1x1x32x1024.size a ≤ S1x108x32x1024.size a)
theorem k0_off38_inb : ∀ (v634 : BitVec 32) (k0_hw38 : k0_chk38 v634), ∀ a, (k0_off38 v634) a + S1x1x32x1024.size a ≤ S1x108x32x1024.size a := fun v634 k0_hw38 => k0_hw38

def k0_off39 (v653 : BitVec 32) : Fin 4 → Nat :=
  let c0_580 : Index := 0#32
  let v654 : Index := Scalar.indexCast v653
  let c0_581 : Index := 0#32
  let c0_582 : Index := 0#32
  ![0, v654.toNat, 0, 0]

def k0_chk39 (v653 : BitVec 32) : Prop :=
  (∀ a, (k0_off39 v653) a + S1x1x32x1024.size a ≤ S1x108x32x1024.size a)
theorem k0_off39_inb : ∀ (v653 : BitVec 32) (k0_hw39 : k0_chk39 v653), ∀ a, (k0_off39 v653) a + S1x1x32x1024.size a ≤ S1x108x32x1024.size a := fun v653 k0_hw39 => k0_hw39

def k0_off40 (v657 : BitVec 32) : Fin 4 → Nat :=
  let c0_585 : Index := 0#32
  let v658 : Index := Scalar.indexCast v657
  let c0_586 : Index := 0#32
  let c0_587 : Index := 0#32
  ![0, v658.toNat, 0, 0]

def k0_chk40 (v657 : BitVec 32) : Prop :=
  (∀ a, (k0_off40 v657) a + S1x1x32x1024.size a ≤ S1x108x32x1024.size a)
theorem k0_off40_inb : ∀ (v657 : BitVec 32) (k0_hw40 : k0_chk40 v657), ∀ a, (k0_off40 v657) a + S1x1x32x1024.size a ≤ S1x108x32x1024.size a := fun v657 k0_hw40 => k0_hw40

def k0_off41 (v676 : BitVec 32) : Fin 4 → Nat :=
  let c0_602 : Index := 0#32
  let v677 : Index := Scalar.indexCast v676
  let c0_603 : Index := 0#32
  let c0_604 : Index := 0#32
  ![0, v677.toNat, 0, 0]

def k0_chk41 (v676 : BitVec 32) : Prop :=
  (∀ a, (k0_off41 v676) a + S1x1x32x1024.size a ≤ S1x108x32x1024.size a)
theorem k0_off41_inb : ∀ (v676 : BitVec 32) (k0_hw41 : k0_chk41 v676), ∀ a, (k0_off41 v676) a + S1x1x32x1024.size a ≤ S1x108x32x1024.size a := fun v676 k0_hw41 => k0_hw41

def k0_off42 (v680 : BitVec 32) : Fin 4 → Nat :=
  let c0_607 : Index := 0#32
  let v681 : Index := Scalar.indexCast v680
  let c0_608 : Index := 0#32
  let c0_609 : Index := 0#32
  ![0, v681.toNat, 0, 0]

def k0_chk42 (v680 : BitVec 32) : Prop :=
  (∀ a, (k0_off42 v680) a + S1x1x32x1024.size a ≤ S1x108x32x1024.size a)
theorem k0_off42_inb : ∀ (v680 : BitVec 32) (k0_hw42 : k0_chk42 v680), ∀ a, (k0_off42 v680) a + S1x1x32x1024.size a ≤ S1x108x32x1024.size a := fun v680 k0_hw42 => k0_hw42

def k0_off43 (v699 : BitVec 32) : Fin 4 → Nat :=
  let c0_624 : Index := 0#32
  let v700 : Index := Scalar.indexCast v699
  let c0_625 : Index := 0#32
  let c0_626 : Index := 0#32
  ![0, v700.toNat, 0, 0]

def k0_chk43 (v699 : BitVec 32) : Prop :=
  (∀ a, (k0_off43 v699) a + S1x1x32x1024.size a ≤ S1x108x32x1024.size a)
theorem k0_off43_inb : ∀ (v699 : BitVec 32) (k0_hw43 : k0_chk43 v699), ∀ a, (k0_off43 v699) a + S1x1x32x1024.size a ≤ S1x108x32x1024.size a := fun v699 k0_hw43 => k0_hw43

def k0_off44 (v703 : BitVec 32) : Fin 4 → Nat :=
  let c0_629 : Index := 0#32
  let v704 : Index := Scalar.indexCast v703
  let c0_630 : Index := 0#32
  let c0_631 : Index := 0#32
  ![0, v704.toNat, 0, 0]

def k0_chk44 (v703 : BitVec 32) : Prop :=
  (∀ a, (k0_off44 v703) a + S1x1x32x1024.size a ≤ S1x108x32x1024.size a)
theorem k0_off44_inb : ∀ (v703 : BitVec 32) (k0_hw44 : k0_chk44 v703), ∀ a, (k0_off44 v703) a + S1x1x32x1024.size a ≤ S1x108x32x1024.size a := fun v703 k0_hw44 => k0_hw44

def k0_off45 (v722 : BitVec 32) : Fin 4 → Nat :=
  let c0_646 : Index := 0#32
  let v723 : Index := Scalar.indexCast v722
  let c0_647 : Index := 0#32
  let c0_648 : Index := 0#32
  ![0, v723.toNat, 0, 0]

def k0_chk45 (v722 : BitVec 32) : Prop :=
  (∀ a, (k0_off45 v722) a + S1x1x32x1024.size a ≤ S1x108x32x1024.size a)
theorem k0_off45_inb : ∀ (v722 : BitVec 32) (k0_hw45 : k0_chk45 v722), ∀ a, (k0_off45 v722) a + S1x1x32x1024.size a ≤ S1x108x32x1024.size a := fun v722 k0_hw45 => k0_hw45

def k0_off46 (v726 : BitVec 32) : Fin 4 → Nat :=
  let c0_651 : Index := 0#32
  let v727 : Index := Scalar.indexCast v726
  let c0_652 : Index := 0#32
  let c0_653 : Index := 0#32
  ![0, v727.toNat, 0, 0]

def k0_chk46 (v726 : BitVec 32) : Prop :=
  (∀ a, (k0_off46 v726) a + S1x1x32x1024.size a ≤ S1x108x32x1024.size a)
theorem k0_off46_inb : ∀ (v726 : BitVec 32) (k0_hw46 : k0_chk46 v726), ∀ a, (k0_off46 v726) a + S1x1x32x1024.size a ≤ S1x108x32x1024.size a := fun v726 k0_hw46 => k0_hw46

def k0_off47 (v745 : BitVec 32) : Fin 4 → Nat :=
  let c0_668 : Index := 0#32
  let v746 : Index := Scalar.indexCast v745
  let c0_669 : Index := 0#32
  let c0_670 : Index := 0#32
  ![0, v746.toNat, 0, 0]

def k0_chk47 (v745 : BitVec 32) : Prop :=
  (∀ a, (k0_off47 v745) a + S1x1x32x1024.size a ≤ S1x108x32x1024.size a)
theorem k0_off47_inb : ∀ (v745 : BitVec 32) (k0_hw47 : k0_chk47 v745), ∀ a, (k0_off47 v745) a + S1x1x32x1024.size a ≤ S1x108x32x1024.size a := fun v745 k0_hw47 => k0_hw47

def k0_off48 (v749 : BitVec 32) : Fin 4 → Nat :=
  let c0_673 : Index := 0#32
  let v750 : Index := Scalar.indexCast v749
  let c0_674 : Index := 0#32
  let c0_675 : Index := 0#32
  ![0, v750.toNat, 0, 0]

def k0_chk48 (v749 : BitVec 32) : Prop :=
  (∀ a, (k0_off48 v749) a + S1x1x32x1024.size a ≤ S1x108x32x1024.size a)
theorem k0_off48_inb : ∀ (v749 : BitVec 32) (k0_hw48 : k0_chk48 v749), ∀ a, (k0_off48 v749) a + S1x1x32x1024.size a ≤ S1x108x32x1024.size a := fun v749 k0_hw48 => k0_hw48

def k0_off49 (v876 : BitVec 32) : Fin 4 → Nat :=
  let c0_778 : Index := 0#32
  let v877 : Index := Scalar.indexCast v876
  let c0_779 : Index := 0#32
  let c0_780 : Index := 0#32
  ![0, v877.toNat, 0, 0]

def k0_chk49 (v876 : BitVec 32) : Prop :=
  (∀ a, (k0_off49 v876) a + S1x1x32x1024.size a ≤ S1x108x32x1024.size a)
theorem k0_off49_inb : ∀ (v876 : BitVec 32) (k0_hw49 : k0_chk49 v876), ∀ a, (k0_off49 v876) a + S1x1x32x1024.size a ≤ S1x108x32x1024.size a := fun v876 k0_hw49 => k0_hw49

def k0_off50 (v880 : BitVec 32) : Fin 4 → Nat :=
  let c0_783 : Index := 0#32
  let v881 : Index := Scalar.indexCast v880
  let c0_784 : Index := 0#32
  let c0_785 : Index := 0#32
  ![0, v881.toNat, 0, 0]

def k0_chk50 (v880 : BitVec 32) : Prop :=
  (∀ a, (k0_off50 v880) a + S1x1x32x1024.size a ≤ S1x108x32x1024.size a)
theorem k0_off50_inb : ∀ (v880 : BitVec 32) (k0_hw50 : k0_chk50 v880), ∀ a, (k0_off50 v880) a + S1x1x32x1024.size a ≤ S1x108x32x1024.size a := fun v880 k0_hw50 => k0_hw50

def k0_off51 (v899 : BitVec 32) : Fin 4 → Nat :=
  let c0_800 : Index := 0#32
  let v900 : Index := Scalar.indexCast v899
  let c0_801 : Index := 0#32
  let c0_802 : Index := 0#32
  ![0, v900.toNat, 0, 0]

def k0_chk51 (v899 : BitVec 32) : Prop :=
  (∀ a, (k0_off51 v899) a + S1x1x32x1024.size a ≤ S1x108x32x1024.size a)
theorem k0_off51_inb : ∀ (v899 : BitVec 32) (k0_hw51 : k0_chk51 v899), ∀ a, (k0_off51 v899) a + S1x1x32x1024.size a ≤ S1x108x32x1024.size a := fun v899 k0_hw51 => k0_hw51

def k0_off52 (v903 : BitVec 32) : Fin 4 → Nat :=
  let c0_805 : Index := 0#32
  let v904 : Index := Scalar.indexCast v903
  let c0_806 : Index := 0#32
  let c0_807 : Index := 0#32
  ![0, v904.toNat, 0, 0]

def k0_chk52 (v903 : BitVec 32) : Prop :=
  (∀ a, (k0_off52 v903) a + S1x1x32x1024.size a ≤ S1x108x32x1024.size a)
theorem k0_off52_inb : ∀ (v903 : BitVec 32) (k0_hw52 : k0_chk52 v903), ∀ a, (k0_off52 v903) a + S1x1x32x1024.size a ≤ S1x108x32x1024.size a := fun v903 k0_hw52 => k0_hw52

def k0_off53 (v922 : BitVec 32) : Fin 4 → Nat :=
  let c0_822 : Index := 0#32
  let v923 : Index := Scalar.indexCast v922
  let c0_823 : Index := 0#32
  let c0_824 : Index := 0#32
  ![0, v923.toNat, 0, 0]

def k0_chk53 (v922 : BitVec 32) : Prop :=
  (∀ a, (k0_off53 v922) a + S1x1x32x1024.size a ≤ S1x108x32x1024.size a)
theorem k0_off53_inb : ∀ (v922 : BitVec 32) (k0_hw53 : k0_chk53 v922), ∀ a, (k0_off53 v922) a + S1x1x32x1024.size a ≤ S1x108x32x1024.size a := fun v922 k0_hw53 => k0_hw53

def k0_off54 (v926 : BitVec 32) : Fin 4 → Nat :=
  let c0_827 : Index := 0#32
  let v927 : Index := Scalar.indexCast v926
  let c0_828 : Index := 0#32
  let c0_829 : Index := 0#32
  ![0, v927.toNat, 0, 0]

def k0_chk54 (v926 : BitVec 32) : Prop :=
  (∀ a, (k0_off54 v926) a + S1x1x32x1024.size a ≤ S1x108x32x1024.size a)
theorem k0_off54_inb : ∀ (v926 : BitVec 32) (k0_hw54 : k0_chk54 v926), ∀ a, (k0_off54 v926) a + S1x1x32x1024.size a ≤ S1x108x32x1024.size a := fun v926 k0_hw54 => k0_hw54

def k0_off55 (v945 : BitVec 32) : Fin 4 → Nat :=
  let c0_844 : Index := 0#32
  let v946 : Index := Scalar.indexCast v945
  let c0_845 : Index := 0#32
  let c0_846 : Index := 0#32
  ![0, v946.toNat, 0, 0]

def k0_chk55 (v945 : BitVec 32) : Prop :=
  (∀ a, (k0_off55 v945) a + S1x1x32x1024.size a ≤ S1x108x32x1024.size a)
theorem k0_off55_inb : ∀ (v945 : BitVec 32) (k0_hw55 : k0_chk55 v945), ∀ a, (k0_off55 v945) a + S1x1x32x1024.size a ≤ S1x108x32x1024.size a := fun v945 k0_hw55 => k0_hw55

def k0_off56 (v949 : BitVec 32) : Fin 4 → Nat :=
  let c0_849 : Index := 0#32
  let v950 : Index := Scalar.indexCast v949
  let c0_850 : Index := 0#32
  let c0_851 : Index := 0#32
  ![0, v950.toNat, 0, 0]

def k0_chk56 (v949 : BitVec 32) : Prop :=
  (∀ a, (k0_off56 v949) a + S1x1x32x1024.size a ≤ S1x108x32x1024.size a)
theorem k0_off56_inb : ∀ (v949 : BitVec 32) (k0_hw56 : k0_chk56 v949), ∀ a, (k0_off56 v949) a + S1x1x32x1024.size a ≤ S1x108x32x1024.size a := fun v949 k0_hw56 => k0_hw56

def k0_off57 (v968 : BitVec 32) : Fin 4 → Nat :=
  let c0_866 : Index := 0#32
  let v969 : Index := Scalar.indexCast v968
  let c0_867 : Index := 0#32
  let c0_868 : Index := 0#32
  ![0, v969.toNat, 0, 0]

def k0_chk57 (v968 : BitVec 32) : Prop :=
  (∀ a, (k0_off57 v968) a + S1x1x32x1024.size a ≤ S1x108x32x1024.size a)
theorem k0_off57_inb : ∀ (v968 : BitVec 32) (k0_hw57 : k0_chk57 v968), ∀ a, (k0_off57 v968) a + S1x1x32x1024.size a ≤ S1x108x32x1024.size a := fun v968 k0_hw57 => k0_hw57

def k0_off58 (v972 : BitVec 32) : Fin 4 → Nat :=
  let c0_871 : Index := 0#32
  let v973 : Index := Scalar.indexCast v972
  let c0_872 : Index := 0#32
  let c0_873 : Index := 0#32
  ![0, v973.toNat, 0, 0]

def k0_chk58 (v972 : BitVec 32) : Prop :=
  (∀ a, (k0_off58 v972) a + S1x1x32x1024.size a ≤ S1x108x32x1024.size a)
theorem k0_off58_inb : ∀ (v972 : BitVec 32) (k0_hw58 : k0_chk58 v972), ∀ a, (k0_off58 v972) a + S1x1x32x1024.size a ≤ S1x108x32x1024.size a := fun v972 k0_hw58 => k0_hw58

def k0_off59 (v991 : BitVec 32) : Fin 4 → Nat :=
  let c0_888 : Index := 0#32
  let v992 : Index := Scalar.indexCast v991
  let c0_889 : Index := 0#32
  let c0_890 : Index := 0#32
  ![0, v992.toNat, 0, 0]

def k0_chk59 (v991 : BitVec 32) : Prop :=
  (∀ a, (k0_off59 v991) a + S1x1x32x1024.size a ≤ S1x108x32x1024.size a)
theorem k0_off59_inb : ∀ (v991 : BitVec 32) (k0_hw59 : k0_chk59 v991), ∀ a, (k0_off59 v991) a + S1x1x32x1024.size a ≤ S1x108x32x1024.size a := fun v991 k0_hw59 => k0_hw59

def k0_off60 (v995 : BitVec 32) : Fin 4 → Nat :=
  let c0_893 : Index := 0#32
  let v996 : Index := Scalar.indexCast v995
  let c0_894 : Index := 0#32
  let c0_895 : Index := 0#32
  ![0, v996.toNat, 0, 0]

def k0_chk60 (v995 : BitVec 32) : Prop :=
  (∀ a, (k0_off60 v995) a + S1x1x32x1024.size a ≤ S1x108x32x1024.size a)
theorem k0_off60_inb : ∀ (v995 : BitVec 32) (k0_hw60 : k0_chk60 v995), ∀ a, (k0_off60 v995) a + S1x1x32x1024.size a ≤ S1x108x32x1024.size a := fun v995 k0_hw60 => k0_hw60

def k0_off61 (v1014 : BitVec 32) : Fin 4 → Nat :=
  let c0_910 : Index := 0#32
  let v1015 : Index := Scalar.indexCast v1014
  let c0_911 : Index := 0#32
  let c0_912 : Index := 0#32
  ![0, v1015.toNat, 0, 0]

def k0_chk61 (v1014 : BitVec 32) : Prop :=
  (∀ a, (k0_off61 v1014) a + S1x1x32x1024.size a ≤ S1x108x32x1024.size a)
theorem k0_off61_inb : ∀ (v1014 : BitVec 32) (k0_hw61 : k0_chk61 v1014), ∀ a, (k0_off61 v1014) a + S1x1x32x1024.size a ≤ S1x108x32x1024.size a := fun v1014 k0_hw61 => k0_hw61

def k0_off62 (v1018 : BitVec 32) : Fin 4 → Nat :=
  let c0_915 : Index := 0#32
  let v1019 : Index := Scalar.indexCast v1018
  let c0_916 : Index := 0#32
  let c0_917 : Index := 0#32
  ![0, v1019.toNat, 0, 0]

def k0_chk62 (v1018 : BitVec 32) : Prop :=
  (∀ a, (k0_off62 v1018) a + S1x1x32x1024.size a ≤ S1x108x32x1024.size a)
theorem k0_off62_inb : ∀ (v1018 : BitVec 32) (k0_hw62 : k0_chk62 v1018), ∀ a, (k0_off62 v1018) a + S1x1x32x1024.size a ≤ S1x108x32x1024.size a := fun v1018 k0_hw62 => k0_hw62

def k0_off63 (v1037 : BitVec 32) : Fin 4 → Nat :=
  let c0_932 : Index := 0#32
  let v1038 : Index := Scalar.indexCast v1037
  let c0_933 : Index := 0#32
  let c0_934 : Index := 0#32
  ![0, v1038.toNat, 0, 0]

def k0_chk63 (v1037 : BitVec 32) : Prop :=
  (∀ a, (k0_off63 v1037) a + S1x1x32x1024.size a ≤ S1x108x32x1024.size a)
theorem k0_off63_inb : ∀ (v1037 : BitVec 32) (k0_hw63 : k0_chk63 v1037), ∀ a, (k0_off63 v1037) a + S1x1x32x1024.size a ≤ S1x108x32x1024.size a := fun v1037 k0_hw63 => k0_hw63

def k0_off64 (v1041 : BitVec 32) : Fin 4 → Nat :=
  let c0_937 : Index := 0#32
  let v1042 : Index := Scalar.indexCast v1041
  let c0_938 : Index := 0#32
  let c0_939 : Index := 0#32
  ![0, v1042.toNat, 0, 0]

def k0_chk64 (v1041 : BitVec 32) : Prop :=
  (∀ a, (k0_off64 v1041) a + S1x1x32x1024.size a ≤ S1x108x32x1024.size a)
theorem k0_off64_inb : ∀ (v1041 : BitVec 32) (k0_hw64 : k0_chk64 v1041), ∀ a, (k0_off64 v1041) a + S1x1x32x1024.size a ≤ S1x108x32x1024.size a := fun v1041 k0_hw64 => k0_hw64

def k0_off65 (v1168 : BitVec 32) : Fin 4 → Nat :=
  let c0_1042 : Index := 0#32
  let v1169 : Index := Scalar.indexCast v1168
  let c0_1043 : Index := 0#32
  let c0_1044 : Index := 0#32
  ![0, v1169.toNat, 0, 0]

def k0_chk65 (v1168 : BitVec 32) : Prop :=
  (∀ a, (k0_off65 v1168) a + S1x1x32x1024.size a ≤ S1x108x32x1024.size a)
theorem k0_off65_inb : ∀ (v1168 : BitVec 32) (k0_hw65 : k0_chk65 v1168), ∀ a, (k0_off65 v1168) a + S1x1x32x1024.size a ≤ S1x108x32x1024.size a := fun v1168 k0_hw65 => k0_hw65

def k0_off66 (v1172 : BitVec 32) : Fin 4 → Nat :=
  let c0_1047 : Index := 0#32
  let v1173 : Index := Scalar.indexCast v1172
  let c0_1048 : Index := 0#32
  let c0_1049 : Index := 0#32
  ![0, v1173.toNat, 0, 0]

def k0_chk66 (v1172 : BitVec 32) : Prop :=
  (∀ a, (k0_off66 v1172) a + S1x1x32x1024.size a ≤ S1x108x32x1024.size a)
theorem k0_off66_inb : ∀ (v1172 : BitVec 32) (k0_hw66 : k0_chk66 v1172), ∀ a, (k0_off66 v1172) a + S1x1x32x1024.size a ≤ S1x108x32x1024.size a := fun v1172 k0_hw66 => k0_hw66

def k0_off67 (v1191 : BitVec 32) : Fin 4 → Nat :=
  let c0_1064 : Index := 0#32
  let v1192 : Index := Scalar.indexCast v1191
  let c0_1065 : Index := 0#32
  let c0_1066 : Index := 0#32
  ![0, v1192.toNat, 0, 0]

def k0_chk67 (v1191 : BitVec 32) : Prop :=
  (∀ a, (k0_off67 v1191) a + S1x1x32x1024.size a ≤ S1x108x32x1024.size a)
theorem k0_off67_inb : ∀ (v1191 : BitVec 32) (k0_hw67 : k0_chk67 v1191), ∀ a, (k0_off67 v1191) a + S1x1x32x1024.size a ≤ S1x108x32x1024.size a := fun v1191 k0_hw67 => k0_hw67

def k0_off68 (v1195 : BitVec 32) : Fin 4 → Nat :=
  let c0_1069 : Index := 0#32
  let v1196 : Index := Scalar.indexCast v1195
  let c0_1070 : Index := 0#32
  let c0_1071 : Index := 0#32
  ![0, v1196.toNat, 0, 0]

def k0_chk68 (v1195 : BitVec 32) : Prop :=
  (∀ a, (k0_off68 v1195) a + S1x1x32x1024.size a ≤ S1x108x32x1024.size a)
theorem k0_off68_inb : ∀ (v1195 : BitVec 32) (k0_hw68 : k0_chk68 v1195), ∀ a, (k0_off68 v1195) a + S1x1x32x1024.size a ≤ S1x108x32x1024.size a := fun v1195 k0_hw68 => k0_hw68

def k0_off69 (v1214 : BitVec 32) : Fin 4 → Nat :=
  let c0_1086 : Index := 0#32
  let v1215 : Index := Scalar.indexCast v1214
  let c0_1087 : Index := 0#32
  let c0_1088 : Index := 0#32
  ![0, v1215.toNat, 0, 0]

def k0_chk69 (v1214 : BitVec 32) : Prop :=
  (∀ a, (k0_off69 v1214) a + S1x1x32x1024.size a ≤ S1x108x32x1024.size a)
theorem k0_off69_inb : ∀ (v1214 : BitVec 32) (k0_hw69 : k0_chk69 v1214), ∀ a, (k0_off69 v1214) a + S1x1x32x1024.size a ≤ S1x108x32x1024.size a := fun v1214 k0_hw69 => k0_hw69

def k0_off70 (v1218 : BitVec 32) : Fin 4 → Nat :=
  let c0_1091 : Index := 0#32
  let v1219 : Index := Scalar.indexCast v1218
  let c0_1092 : Index := 0#32
  let c0_1093 : Index := 0#32
  ![0, v1219.toNat, 0, 0]

def k0_chk70 (v1218 : BitVec 32) : Prop :=
  (∀ a, (k0_off70 v1218) a + S1x1x32x1024.size a ≤ S1x108x32x1024.size a)
theorem k0_off70_inb : ∀ (v1218 : BitVec 32) (k0_hw70 : k0_chk70 v1218), ∀ a, (k0_off70 v1218) a + S1x1x32x1024.size a ≤ S1x108x32x1024.size a := fun v1218 k0_hw70 => k0_hw70

def k0_off71 (v1237 : BitVec 32) : Fin 4 → Nat :=
  let c0_1108 : Index := 0#32
  let v1238 : Index := Scalar.indexCast v1237
  let c0_1109 : Index := 0#32
  let c0_1110 : Index := 0#32
  ![0, v1238.toNat, 0, 0]

def k0_chk71 (v1237 : BitVec 32) : Prop :=
  (∀ a, (k0_off71 v1237) a + S1x1x32x1024.size a ≤ S1x108x32x1024.size a)
theorem k0_off71_inb : ∀ (v1237 : BitVec 32) (k0_hw71 : k0_chk71 v1237), ∀ a, (k0_off71 v1237) a + S1x1x32x1024.size a ≤ S1x108x32x1024.size a := fun v1237 k0_hw71 => k0_hw71

def k0_off72 (v1241 : BitVec 32) : Fin 4 → Nat :=
  let c0_1113 : Index := 0#32
  let v1242 : Index := Scalar.indexCast v1241
  let c0_1114 : Index := 0#32
  let c0_1115 : Index := 0#32
  ![0, v1242.toNat, 0, 0]

def k0_chk72 (v1241 : BitVec 32) : Prop :=
  (∀ a, (k0_off72 v1241) a + S1x1x32x1024.size a ≤ S1x108x32x1024.size a)
theorem k0_off72_inb : ∀ (v1241 : BitVec 32) (k0_hw72 : k0_chk72 v1241), ∀ a, (k0_off72 v1241) a + S1x1x32x1024.size a ≤ S1x108x32x1024.size a := fun v1241 k0_hw72 => k0_hw72

def k0_off73 (v1260 : BitVec 32) : Fin 4 → Nat :=
  let c0_1130 : Index := 0#32
  let v1261 : Index := Scalar.indexCast v1260
  let c0_1131 : Index := 0#32
  let c0_1132 : Index := 0#32
  ![0, v1261.toNat, 0, 0]

def k0_chk73 (v1260 : BitVec 32) : Prop :=
  (∀ a, (k0_off73 v1260) a + S1x1x32x1024.size a ≤ S1x108x32x1024.size a)
theorem k0_off73_inb : ∀ (v1260 : BitVec 32) (k0_hw73 : k0_chk73 v1260), ∀ a, (k0_off73 v1260) a + S1x1x32x1024.size a ≤ S1x108x32x1024.size a := fun v1260 k0_hw73 => k0_hw73

def k0_off74 (v1264 : BitVec 32) : Fin 4 → Nat :=
  let c0_1135 : Index := 0#32
  let v1265 : Index := Scalar.indexCast v1264
  let c0_1136 : Index := 0#32
  let c0_1137 : Index := 0#32
  ![0, v1265.toNat, 0, 0]

def k0_chk74 (v1264 : BitVec 32) : Prop :=
  (∀ a, (k0_off74 v1264) a + S1x1x32x1024.size a ≤ S1x108x32x1024.size a)
theorem k0_off74_inb : ∀ (v1264 : BitVec 32) (k0_hw74 : k0_chk74 v1264), ∀ a, (k0_off74 v1264) a + S1x1x32x1024.size a ≤ S1x108x32x1024.size a := fun v1264 k0_hw74 => k0_hw74

def k0_off75 (v1283 : BitVec 32) : Fin 4 → Nat :=
  let c0_1152 : Index := 0#32
  let v1284 : Index := Scalar.indexCast v1283
  let c0_1153 : Index := 0#32
  let c0_1154 : Index := 0#32
  ![0, v1284.toNat, 0, 0]

def k0_chk75 (v1283 : BitVec 32) : Prop :=
  (∀ a, (k0_off75 v1283) a + S1x1x32x1024.size a ≤ S1x108x32x1024.size a)
theorem k0_off75_inb : ∀ (v1283 : BitVec 32) (k0_hw75 : k0_chk75 v1283), ∀ a, (k0_off75 v1283) a + S1x1x32x1024.size a ≤ S1x108x32x1024.size a := fun v1283 k0_hw75 => k0_hw75

def k0_off76 (v1287 : BitVec 32) : Fin 4 → Nat :=
  let c0_1157 : Index := 0#32
  let v1288 : Index := Scalar.indexCast v1287
  let c0_1158 : Index := 0#32
  let c0_1159 : Index := 0#32
  ![0, v1288.toNat, 0, 0]

def k0_chk76 (v1287 : BitVec 32) : Prop :=
  (∀ a, (k0_off76 v1287) a + S1x1x32x1024.size a ≤ S1x108x32x1024.size a)
theorem k0_off76_inb : ∀ (v1287 : BitVec 32) (k0_hw76 : k0_chk76 v1287), ∀ a, (k0_off76 v1287) a + S1x1x32x1024.size a ≤ S1x108x32x1024.size a := fun v1287 k0_hw76 => k0_hw76

def k0_off77 (v1306 : BitVec 32) : Fin 4 → Nat :=
  let c0_1174 : Index := 0#32
  let v1307 : Index := Scalar.indexCast v1306
  let c0_1175 : Index := 0#32
  let c0_1176 : Index := 0#32
  ![0, v1307.toNat, 0, 0]

def k0_chk77 (v1306 : BitVec 32) : Prop :=
  (∀ a, (k0_off77 v1306) a + S1x1x32x1024.size a ≤ S1x108x32x1024.size a)
theorem k0_off77_inb : ∀ (v1306 : BitVec 32) (k0_hw77 : k0_chk77 v1306), ∀ a, (k0_off77 v1306) a + S1x1x32x1024.size a ≤ S1x108x32x1024.size a := fun v1306 k0_hw77 => k0_hw77

def k0_off78 (v1310 : BitVec 32) : Fin 4 → Nat :=
  let c0_1179 : Index := 0#32
  let v1311 : Index := Scalar.indexCast v1310
  let c0_1180 : Index := 0#32
  let c0_1181 : Index := 0#32
  ![0, v1311.toNat, 0, 0]

def k0_chk78 (v1310 : BitVec 32) : Prop :=
  (∀ a, (k0_off78 v1310) a + S1x1x32x1024.size a ≤ S1x108x32x1024.size a)
theorem k0_off78_inb : ∀ (v1310 : BitVec 32) (k0_hw78 : k0_chk78 v1310), ∀ a, (k0_off78 v1310) a + S1x1x32x1024.size a ≤ S1x108x32x1024.size a := fun v1310 k0_hw78 => k0_hw78

def k0_off79 (v1329 : BitVec 32) : Fin 4 → Nat :=
  let c0_1196 : Index := 0#32
  let v1330 : Index := Scalar.indexCast v1329
  let c0_1197 : Index := 0#32
  let c0_1198 : Index := 0#32
  ![0, v1330.toNat, 0, 0]

def k0_chk79 (v1329 : BitVec 32) : Prop :=
  (∀ a, (k0_off79 v1329) a + S1x1x32x1024.size a ≤ S1x108x32x1024.size a)
theorem k0_off79_inb : ∀ (v1329 : BitVec 32) (k0_hw79 : k0_chk79 v1329), ∀ a, (k0_off79 v1329) a + S1x1x32x1024.size a ≤ S1x108x32x1024.size a := fun v1329 k0_hw79 => k0_hw79

def k0_off80 (v1333 : BitVec 32) : Fin 4 → Nat :=
  let c0_1201 : Index := 0#32
  let v1334 : Index := Scalar.indexCast v1333
  let c0_1202 : Index := 0#32
  let c0_1203 : Index := 0#32
  ![0, v1334.toNat, 0, 0]

def k0_chk80 (v1333 : BitVec 32) : Prop :=
  (∀ a, (k0_off80 v1333) a + S1x1x32x1024.size a ≤ S1x108x32x1024.size a)
theorem k0_off80_inb : ∀ (v1333 : BitVec 32) (k0_hw80 : k0_chk80 v1333), ∀ a, (k0_off80 v1333) a + S1x1x32x1024.size a ≤ S1x108x32x1024.size a := fun v1333 k0_hw80 => k0_hw80

def k0_off81 (v1460 : BitVec 32) : Fin 4 → Nat :=
  let c0_1306 : Index := 0#32
  let v1461 : Index := Scalar.indexCast v1460
  let c0_1307 : Index := 0#32
  let c0_1308 : Index := 0#32
  ![0, v1461.toNat, 0, 0]

def k0_chk81 (v1460 : BitVec 32) : Prop :=
  (∀ a, (k0_off81 v1460) a + S1x1x32x1024.size a ≤ S1x108x32x1024.size a)
theorem k0_off81_inb : ∀ (v1460 : BitVec 32) (k0_hw81 : k0_chk81 v1460), ∀ a, (k0_off81 v1460) a + S1x1x32x1024.size a ≤ S1x108x32x1024.size a := fun v1460 k0_hw81 => k0_hw81

def k0_off82 (v1464 : BitVec 32) : Fin 4 → Nat :=
  let c0_1311 : Index := 0#32
  let v1465 : Index := Scalar.indexCast v1464
  let c0_1312 : Index := 0#32
  let c0_1313 : Index := 0#32
  ![0, v1465.toNat, 0, 0]

def k0_chk82 (v1464 : BitVec 32) : Prop :=
  (∀ a, (k0_off82 v1464) a + S1x1x32x1024.size a ≤ S1x108x32x1024.size a)
theorem k0_off82_inb : ∀ (v1464 : BitVec 32) (k0_hw82 : k0_chk82 v1464), ∀ a, (k0_off82 v1464) a + S1x1x32x1024.size a ≤ S1x108x32x1024.size a := fun v1464 k0_hw82 => k0_hw82

def k0_off83 (v1483 : BitVec 32) : Fin 4 → Nat :=
  let c0_1328 : Index := 0#32
  let v1484 : Index := Scalar.indexCast v1483
  let c0_1329 : Index := 0#32
  let c0_1330 : Index := 0#32
  ![0, v1484.toNat, 0, 0]

def k0_chk83 (v1483 : BitVec 32) : Prop :=
  (∀ a, (k0_off83 v1483) a + S1x1x32x1024.size a ≤ S1x108x32x1024.size a)
theorem k0_off83_inb : ∀ (v1483 : BitVec 32) (k0_hw83 : k0_chk83 v1483), ∀ a, (k0_off83 v1483) a + S1x1x32x1024.size a ≤ S1x108x32x1024.size a := fun v1483 k0_hw83 => k0_hw83

def k0_off84 (v1487 : BitVec 32) : Fin 4 → Nat :=
  let c0_1333 : Index := 0#32
  let v1488 : Index := Scalar.indexCast v1487
  let c0_1334 : Index := 0#32
  let c0_1335 : Index := 0#32
  ![0, v1488.toNat, 0, 0]

def k0_chk84 (v1487 : BitVec 32) : Prop :=
  (∀ a, (k0_off84 v1487) a + S1x1x32x1024.size a ≤ S1x108x32x1024.size a)
theorem k0_off84_inb : ∀ (v1487 : BitVec 32) (k0_hw84 : k0_chk84 v1487), ∀ a, (k0_off84 v1487) a + S1x1x32x1024.size a ≤ S1x108x32x1024.size a := fun v1487 k0_hw84 => k0_hw84

def k0_off85 (v1506 : BitVec 32) : Fin 4 → Nat :=
  let c0_1350 : Index := 0#32
  let v1507 : Index := Scalar.indexCast v1506
  let c0_1351 : Index := 0#32
  let c0_1352 : Index := 0#32
  ![0, v1507.toNat, 0, 0]

def k0_chk85 (v1506 : BitVec 32) : Prop :=
  (∀ a, (k0_off85 v1506) a + S1x1x32x1024.size a ≤ S1x108x32x1024.size a)
theorem k0_off85_inb : ∀ (v1506 : BitVec 32) (k0_hw85 : k0_chk85 v1506), ∀ a, (k0_off85 v1506) a + S1x1x32x1024.size a ≤ S1x108x32x1024.size a := fun v1506 k0_hw85 => k0_hw85

def k0_off86 (v1510 : BitVec 32) : Fin 4 → Nat :=
  let c0_1355 : Index := 0#32
  let v1511 : Index := Scalar.indexCast v1510
  let c0_1356 : Index := 0#32
  let c0_1357 : Index := 0#32
  ![0, v1511.toNat, 0, 0]

def k0_chk86 (v1510 : BitVec 32) : Prop :=
  (∀ a, (k0_off86 v1510) a + S1x1x32x1024.size a ≤ S1x108x32x1024.size a)
theorem k0_off86_inb : ∀ (v1510 : BitVec 32) (k0_hw86 : k0_chk86 v1510), ∀ a, (k0_off86 v1510) a + S1x1x32x1024.size a ≤ S1x108x32x1024.size a := fun v1510 k0_hw86 => k0_hw86

def k0_off87 (v1529 : BitVec 32) : Fin 4 → Nat :=
  let c0_1372 : Index := 0#32
  let v1530 : Index := Scalar.indexCast v1529
  let c0_1373 : Index := 0#32
  let c0_1374 : Index := 0#32
  ![0, v1530.toNat, 0, 0]

def k0_chk87 (v1529 : BitVec 32) : Prop :=
  (∀ a, (k0_off87 v1529) a + S1x1x32x1024.size a ≤ S1x108x32x1024.size a)
theorem k0_off87_inb : ∀ (v1529 : BitVec 32) (k0_hw87 : k0_chk87 v1529), ∀ a, (k0_off87 v1529) a + S1x1x32x1024.size a ≤ S1x108x32x1024.size a := fun v1529 k0_hw87 => k0_hw87

def k0_off88 (v1533 : BitVec 32) : Fin 4 → Nat :=
  let c0_1377 : Index := 0#32
  let v1534 : Index := Scalar.indexCast v1533
  let c0_1378 : Index := 0#32
  let c0_1379 : Index := 0#32
  ![0, v1534.toNat, 0, 0]

def k0_chk88 (v1533 : BitVec 32) : Prop :=
  (∀ a, (k0_off88 v1533) a + S1x1x32x1024.size a ≤ S1x108x32x1024.size a)
theorem k0_off88_inb : ∀ (v1533 : BitVec 32) (k0_hw88 : k0_chk88 v1533), ∀ a, (k0_off88 v1533) a + S1x1x32x1024.size a ≤ S1x108x32x1024.size a := fun v1533 k0_hw88 => k0_hw88

def k0_off89 (v1552 : BitVec 32) : Fin 4 → Nat :=
  let c0_1394 : Index := 0#32
  let v1553 : Index := Scalar.indexCast v1552
  let c0_1395 : Index := 0#32
  let c0_1396 : Index := 0#32
  ![0, v1553.toNat, 0, 0]

def k0_chk89 (v1552 : BitVec 32) : Prop :=
  (∀ a, (k0_off89 v1552) a + S1x1x32x1024.size a ≤ S1x108x32x1024.size a)
theorem k0_off89_inb : ∀ (v1552 : BitVec 32) (k0_hw89 : k0_chk89 v1552), ∀ a, (k0_off89 v1552) a + S1x1x32x1024.size a ≤ S1x108x32x1024.size a := fun v1552 k0_hw89 => k0_hw89

def k0_off90 (v1556 : BitVec 32) : Fin 4 → Nat :=
  let c0_1399 : Index := 0#32
  let v1557 : Index := Scalar.indexCast v1556
  let c0_1400 : Index := 0#32
  let c0_1401 : Index := 0#32
  ![0, v1557.toNat, 0, 0]

def k0_chk90 (v1556 : BitVec 32) : Prop :=
  (∀ a, (k0_off90 v1556) a + S1x1x32x1024.size a ≤ S1x108x32x1024.size a)
theorem k0_off90_inb : ∀ (v1556 : BitVec 32) (k0_hw90 : k0_chk90 v1556), ∀ a, (k0_off90 v1556) a + S1x1x32x1024.size a ≤ S1x108x32x1024.size a := fun v1556 k0_hw90 => k0_hw90

def k0_off91 (v1575 : BitVec 32) : Fin 4 → Nat :=
  let c0_1416 : Index := 0#32
  let v1576 : Index := Scalar.indexCast v1575
  let c0_1417 : Index := 0#32
  let c0_1418 : Index := 0#32
  ![0, v1576.toNat, 0, 0]

def k0_chk91 (v1575 : BitVec 32) : Prop :=
  (∀ a, (k0_off91 v1575) a + S1x1x32x1024.size a ≤ S1x108x32x1024.size a)
theorem k0_off91_inb : ∀ (v1575 : BitVec 32) (k0_hw91 : k0_chk91 v1575), ∀ a, (k0_off91 v1575) a + S1x1x32x1024.size a ≤ S1x108x32x1024.size a := fun v1575 k0_hw91 => k0_hw91

def k0_off92 (v1579 : BitVec 32) : Fin 4 → Nat :=
  let c0_1421 : Index := 0#32
  let v1580 : Index := Scalar.indexCast v1579
  let c0_1422 : Index := 0#32
  let c0_1423 : Index := 0#32
  ![0, v1580.toNat, 0, 0]

def k0_chk92 (v1579 : BitVec 32) : Prop :=
  (∀ a, (k0_off92 v1579) a + S1x1x32x1024.size a ≤ S1x108x32x1024.size a)
theorem k0_off92_inb : ∀ (v1579 : BitVec 32) (k0_hw92 : k0_chk92 v1579), ∀ a, (k0_off92 v1579) a + S1x1x32x1024.size a ≤ S1x108x32x1024.size a := fun v1579 k0_hw92 => k0_hw92

def k0_off93 (v1598 : BitVec 32) : Fin 4 → Nat :=
  let c0_1438 : Index := 0#32
  let v1599 : Index := Scalar.indexCast v1598
  let c0_1439 : Index := 0#32
  let c0_1440 : Index := 0#32
  ![0, v1599.toNat, 0, 0]

def k0_chk93 (v1598 : BitVec 32) : Prop :=
  (∀ a, (k0_off93 v1598) a + S1x1x32x1024.size a ≤ S1x108x32x1024.size a)
theorem k0_off93_inb : ∀ (v1598 : BitVec 32) (k0_hw93 : k0_chk93 v1598), ∀ a, (k0_off93 v1598) a + S1x1x32x1024.size a ≤ S1x108x32x1024.size a := fun v1598 k0_hw93 => k0_hw93

def k0_off94 (v1602 : BitVec 32) : Fin 4 → Nat :=
  let c0_1443 : Index := 0#32
  let v1603 : Index := Scalar.indexCast v1602
  let c0_1444 : Index := 0#32
  let c0_1445 : Index := 0#32
  ![0, v1603.toNat, 0, 0]

def k0_chk94 (v1602 : BitVec 32) : Prop :=
  (∀ a, (k0_off94 v1602) a + S1x1x32x1024.size a ≤ S1x108x32x1024.size a)
theorem k0_off94_inb : ∀ (v1602 : BitVec 32) (k0_hw94 : k0_chk94 v1602), ∀ a, (k0_off94 v1602) a + S1x1x32x1024.size a ≤ S1x108x32x1024.size a := fun v1602 k0_hw94 => k0_hw94

def k0_off95 (v1621 : BitVec 32) : Fin 4 → Nat :=
  let c0_1460 : Index := 0#32
  let v1622 : Index := Scalar.indexCast v1621
  let c0_1461 : Index := 0#32
  let c0_1462 : Index := 0#32
  ![0, v1622.toNat, 0, 0]

def k0_chk95 (v1621 : BitVec 32) : Prop :=
  (∀ a, (k0_off95 v1621) a + S1x1x32x1024.size a ≤ S1x108x32x1024.size a)
theorem k0_off95_inb : ∀ (v1621 : BitVec 32) (k0_hw95 : k0_chk95 v1621), ∀ a, (k0_off95 v1621) a + S1x1x32x1024.size a ≤ S1x108x32x1024.size a := fun v1621 k0_hw95 => k0_hw95

def k0_off96 (v1625 : BitVec 32) : Fin 4 → Nat :=
  let c0_1465 : Index := 0#32
  let v1626 : Index := Scalar.indexCast v1625
  let c0_1466 : Index := 0#32
  let c0_1467 : Index := 0#32
  ![0, v1626.toNat, 0, 0]

def k0_chk96 (v1625 : BitVec 32) : Prop :=
  (∀ a, (k0_off96 v1625) a + S1x1x32x1024.size a ≤ S1x108x32x1024.size a)
theorem k0_off96_inb : ∀ (v1625 : BitVec 32) (k0_hw96 : k0_chk96 v1625), ∀ a, (k0_off96 v1625) a + S1x1x32x1024.size a ≤ S1x108x32x1024.size a := fun v1625 k0_hw96 => k0_hw96

def k0_off97 (v1752 : BitVec 32) : Fin 4 → Nat :=
  let c0_1570 : Index := 0#32
  let v1753 : Index := Scalar.indexCast v1752
  let c0_1571 : Index := 0#32
  let c0_1572 : Index := 0#32
  ![0, v1753.toNat, 0, 0]

def k0_chk97 (v1752 : BitVec 32) : Prop :=
  (∀ a, (k0_off97 v1752) a + S1x1x32x1024.size a ≤ S1x108x32x1024.size a)
theorem k0_off97_inb : ∀ (v1752 : BitVec 32) (k0_hw97 : k0_chk97 v1752), ∀ a, (k0_off97 v1752) a + S1x1x32x1024.size a ≤ S1x108x32x1024.size a := fun v1752 k0_hw97 => k0_hw97

def k0_off98 (v1756 : BitVec 32) : Fin 4 → Nat :=
  let c0_1575 : Index := 0#32
  let v1757 : Index := Scalar.indexCast v1756
  let c0_1576 : Index := 0#32
  let c0_1577 : Index := 0#32
  ![0, v1757.toNat, 0, 0]

def k0_chk98 (v1756 : BitVec 32) : Prop :=
  (∀ a, (k0_off98 v1756) a + S1x1x32x1024.size a ≤ S1x108x32x1024.size a)
theorem k0_off98_inb : ∀ (v1756 : BitVec 32) (k0_hw98 : k0_chk98 v1756), ∀ a, (k0_off98 v1756) a + S1x1x32x1024.size a ≤ S1x108x32x1024.size a := fun v1756 k0_hw98 => k0_hw98

def k0_off99 (v1775 : BitVec 32) : Fin 4 → Nat :=
  let c0_1592 : Index := 0#32
  let v1776 : Index := Scalar.indexCast v1775
  let c0_1593 : Index := 0#32
  let c0_1594 : Index := 0#32
  ![0, v1776.toNat, 0, 0]

def k0_chk99 (v1775 : BitVec 32) : Prop :=
  (∀ a, (k0_off99 v1775) a + S1x1x32x1024.size a ≤ S1x108x32x1024.size a)
theorem k0_off99_inb : ∀ (v1775 : BitVec 32) (k0_hw99 : k0_chk99 v1775), ∀ a, (k0_off99 v1775) a + S1x1x32x1024.size a ≤ S1x108x32x1024.size a := fun v1775 k0_hw99 => k0_hw99

def k0_off100 (v1779 : BitVec 32) : Fin 4 → Nat :=
  let c0_1597 : Index := 0#32
  let v1780 : Index := Scalar.indexCast v1779
  let c0_1598 : Index := 0#32
  let c0_1599 : Index := 0#32
  ![0, v1780.toNat, 0, 0]

def k0_chk100 (v1779 : BitVec 32) : Prop :=
  (∀ a, (k0_off100 v1779) a + S1x1x32x1024.size a ≤ S1x108x32x1024.size a)
theorem k0_off100_inb : ∀ (v1779 : BitVec 32) (k0_hw100 : k0_chk100 v1779), ∀ a, (k0_off100 v1779) a + S1x1x32x1024.size a ≤ S1x108x32x1024.size a := fun v1779 k0_hw100 => k0_hw100

def k0_off101 (v1798 : BitVec 32) : Fin 4 → Nat :=
  let c0_1614 : Index := 0#32
  let v1799 : Index := Scalar.indexCast v1798
  let c0_1615 : Index := 0#32
  let c0_1616 : Index := 0#32
  ![0, v1799.toNat, 0, 0]

def k0_chk101 (v1798 : BitVec 32) : Prop :=
  (∀ a, (k0_off101 v1798) a + S1x1x32x1024.size a ≤ S1x108x32x1024.size a)
theorem k0_off101_inb : ∀ (v1798 : BitVec 32) (k0_hw101 : k0_chk101 v1798), ∀ a, (k0_off101 v1798) a + S1x1x32x1024.size a ≤ S1x108x32x1024.size a := fun v1798 k0_hw101 => k0_hw101

def k0_off102 (v1802 : BitVec 32) : Fin 4 → Nat :=
  let c0_1619 : Index := 0#32
  let v1803 : Index := Scalar.indexCast v1802
  let c0_1620 : Index := 0#32
  let c0_1621 : Index := 0#32
  ![0, v1803.toNat, 0, 0]

def k0_chk102 (v1802 : BitVec 32) : Prop :=
  (∀ a, (k0_off102 v1802) a + S1x1x32x1024.size a ≤ S1x108x32x1024.size a)
theorem k0_off102_inb : ∀ (v1802 : BitVec 32) (k0_hw102 : k0_chk102 v1802), ∀ a, (k0_off102 v1802) a + S1x1x32x1024.size a ≤ S1x108x32x1024.size a := fun v1802 k0_hw102 => k0_hw102

def k0_off103 (v1821 : BitVec 32) : Fin 4 → Nat :=
  let c0_1636 : Index := 0#32
  let v1822 : Index := Scalar.indexCast v1821
  let c0_1637 : Index := 0#32
  let c0_1638 : Index := 0#32
  ![0, v1822.toNat, 0, 0]

def k0_chk103 (v1821 : BitVec 32) : Prop :=
  (∀ a, (k0_off103 v1821) a + S1x1x32x1024.size a ≤ S1x108x32x1024.size a)
theorem k0_off103_inb : ∀ (v1821 : BitVec 32) (k0_hw103 : k0_chk103 v1821), ∀ a, (k0_off103 v1821) a + S1x1x32x1024.size a ≤ S1x108x32x1024.size a := fun v1821 k0_hw103 => k0_hw103

def k0_off104 (v1825 : BitVec 32) : Fin 4 → Nat :=
  let c0_1641 : Index := 0#32
  let v1826 : Index := Scalar.indexCast v1825
  let c0_1642 : Index := 0#32
  let c0_1643 : Index := 0#32
  ![0, v1826.toNat, 0, 0]

def k0_chk104 (v1825 : BitVec 32) : Prop :=
  (∀ a, (k0_off104 v1825) a + S1x1x32x1024.size a ≤ S1x108x32x1024.size a)
theorem k0_off104_inb : ∀ (v1825 : BitVec 32) (k0_hw104 : k0_chk104 v1825), ∀ a, (k0_off104 v1825) a + S1x1x32x1024.size a ≤ S1x108x32x1024.size a := fun v1825 k0_hw104 => k0_hw104

def k0_off105 (v1844 : BitVec 32) : Fin 4 → Nat :=
  let c0_1658 : Index := 0#32
  let v1845 : Index := Scalar.indexCast v1844
  let c0_1659 : Index := 0#32
  let c0_1660 : Index := 0#32
  ![0, v1845.toNat, 0, 0]

def k0_chk105 (v1844 : BitVec 32) : Prop :=
  (∀ a, (k0_off105 v1844) a + S1x1x32x1024.size a ≤ S1x108x32x1024.size a)
theorem k0_off105_inb : ∀ (v1844 : BitVec 32) (k0_hw105 : k0_chk105 v1844), ∀ a, (k0_off105 v1844) a + S1x1x32x1024.size a ≤ S1x108x32x1024.size a := fun v1844 k0_hw105 => k0_hw105

def k0_off106 (v1848 : BitVec 32) : Fin 4 → Nat :=
  let c0_1663 : Index := 0#32
  let v1849 : Index := Scalar.indexCast v1848
  let c0_1664 : Index := 0#32
  let c0_1665 : Index := 0#32
  ![0, v1849.toNat, 0, 0]

def k0_chk106 (v1848 : BitVec 32) : Prop :=
  (∀ a, (k0_off106 v1848) a + S1x1x32x1024.size a ≤ S1x108x32x1024.size a)
theorem k0_off106_inb : ∀ (v1848 : BitVec 32) (k0_hw106 : k0_chk106 v1848), ∀ a, (k0_off106 v1848) a + S1x1x32x1024.size a ≤ S1x108x32x1024.size a := fun v1848 k0_hw106 => k0_hw106

def k0_off107 (v1867 : BitVec 32) : Fin 4 → Nat :=
  let c0_1680 : Index := 0#32
  let v1868 : Index := Scalar.indexCast v1867
  let c0_1681 : Index := 0#32
  let c0_1682 : Index := 0#32
  ![0, v1868.toNat, 0, 0]

def k0_chk107 (v1867 : BitVec 32) : Prop :=
  (∀ a, (k0_off107 v1867) a + S1x1x32x1024.size a ≤ S1x108x32x1024.size a)
theorem k0_off107_inb : ∀ (v1867 : BitVec 32) (k0_hw107 : k0_chk107 v1867), ∀ a, (k0_off107 v1867) a + S1x1x32x1024.size a ≤ S1x108x32x1024.size a := fun v1867 k0_hw107 => k0_hw107

def k0_off108 (v1871 : BitVec 32) : Fin 4 → Nat :=
  let c0_1685 : Index := 0#32
  let v1872 : Index := Scalar.indexCast v1871
  let c0_1686 : Index := 0#32
  let c0_1687 : Index := 0#32
  ![0, v1872.toNat, 0, 0]

def k0_chk108 (v1871 : BitVec 32) : Prop :=
  (∀ a, (k0_off108 v1871) a + S1x1x32x1024.size a ≤ S1x108x32x1024.size a)
theorem k0_off108_inb : ∀ (v1871 : BitVec 32) (k0_hw108 : k0_chk108 v1871), ∀ a, (k0_off108 v1871) a + S1x1x32x1024.size a ≤ S1x108x32x1024.size a := fun v1871 k0_hw108 => k0_hw108

def k0_off109 (v1890 : BitVec 32) : Fin 4 → Nat :=
  let c0_1702 : Index := 0#32
  let v1891 : Index := Scalar.indexCast v1890
  let c0_1703 : Index := 0#32
  let c0_1704 : Index := 0#32
  ![0, v1891.toNat, 0, 0]

def k0_chk109 (v1890 : BitVec 32) : Prop :=
  (∀ a, (k0_off109 v1890) a + S1x1x32x1024.size a ≤ S1x108x32x1024.size a)
theorem k0_off109_inb : ∀ (v1890 : BitVec 32) (k0_hw109 : k0_chk109 v1890), ∀ a, (k0_off109 v1890) a + S1x1x32x1024.size a ≤ S1x108x32x1024.size a := fun v1890 k0_hw109 => k0_hw109

def k0_off110 (v1894 : BitVec 32) : Fin 4 → Nat :=
  let c0_1707 : Index := 0#32
  let v1895 : Index := Scalar.indexCast v1894
  let c0_1708 : Index := 0#32
  let c0_1709 : Index := 0#32
  ![0, v1895.toNat, 0, 0]

def k0_chk110 (v1894 : BitVec 32) : Prop :=
  (∀ a, (k0_off110 v1894) a + S1x1x32x1024.size a ≤ S1x108x32x1024.size a)
theorem k0_off110_inb : ∀ (v1894 : BitVec 32) (k0_hw110 : k0_chk110 v1894), ∀ a, (k0_off110 v1894) a + S1x1x32x1024.size a ≤ S1x108x32x1024.size a := fun v1894 k0_hw110 => k0_hw110

def k0_off111 (v1913 : BitVec 32) : Fin 4 → Nat :=
  let c0_1724 : Index := 0#32
  let v1914 : Index := Scalar.indexCast v1913
  let c0_1725 : Index := 0#32
  let c0_1726 : Index := 0#32
  ![0, v1914.toNat, 0, 0]

def k0_chk111 (v1913 : BitVec 32) : Prop :=
  (∀ a, (k0_off111 v1913) a + S1x1x32x1024.size a ≤ S1x108x32x1024.size a)
theorem k0_off111_inb : ∀ (v1913 : BitVec 32) (k0_hw111 : k0_chk111 v1913), ∀ a, (k0_off111 v1913) a + S1x1x32x1024.size a ≤ S1x108x32x1024.size a := fun v1913 k0_hw111 => k0_hw111

def k0_off112 (v1917 : BitVec 32) : Fin 4 → Nat :=
  let c0_1729 : Index := 0#32
  let v1918 : Index := Scalar.indexCast v1917
  let c0_1730 : Index := 0#32
  let c0_1731 : Index := 0#32
  ![0, v1918.toNat, 0, 0]

def k0_chk112 (v1917 : BitVec 32) : Prop :=
  (∀ a, (k0_off112 v1917) a + S1x1x32x1024.size a ≤ S1x108x32x1024.size a)
theorem k0_off112_inb : ∀ (v1917 : BitVec 32) (k0_hw112 : k0_chk112 v1917), ∀ a, (k0_off112 v1917) a + S1x1x32x1024.size a ≤ S1x108x32x1024.size a := fun v1917 k0_hw112 => k0_hw112

def k0_off113 (v2044 : BitVec 32) : Fin 4 → Nat :=
  let c0_1834 : Index := 0#32
  let v2045 : Index := Scalar.indexCast v2044
  let c0_1835 : Index := 0#32
  let c0_1836 : Index := 0#32
  ![0, v2045.toNat, 0, 0]

def k0_chk113 (v2044 : BitVec 32) : Prop :=
  (∀ a, (k0_off113 v2044) a + S1x1x32x1024.size a ≤ S1x108x32x1024.size a)
theorem k0_off113_inb : ∀ (v2044 : BitVec 32) (k0_hw113 : k0_chk113 v2044), ∀ a, (k0_off113 v2044) a + S1x1x32x1024.size a ≤ S1x108x32x1024.size a := fun v2044 k0_hw113 => k0_hw113

def k0_off114 (v2048 : BitVec 32) : Fin 4 → Nat :=
  let c0_1839 : Index := 0#32
  let v2049 : Index := Scalar.indexCast v2048
  let c0_1840 : Index := 0#32
  let c0_1841 : Index := 0#32
  ![0, v2049.toNat, 0, 0]

def k0_chk114 (v2048 : BitVec 32) : Prop :=
  (∀ a, (k0_off114 v2048) a + S1x1x32x1024.size a ≤ S1x108x32x1024.size a)
theorem k0_off114_inb : ∀ (v2048 : BitVec 32) (k0_hw114 : k0_chk114 v2048), ∀ a, (k0_off114 v2048) a + S1x1x32x1024.size a ≤ S1x108x32x1024.size a := fun v2048 k0_hw114 => k0_hw114

def k0_off115 (v2067 : BitVec 32) : Fin 4 → Nat :=
  let c0_1856 : Index := 0#32
  let v2068 : Index := Scalar.indexCast v2067
  let c0_1857 : Index := 0#32
  let c0_1858 : Index := 0#32
  ![0, v2068.toNat, 0, 0]

def k0_chk115 (v2067 : BitVec 32) : Prop :=
  (∀ a, (k0_off115 v2067) a + S1x1x32x1024.size a ≤ S1x108x32x1024.size a)
theorem k0_off115_inb : ∀ (v2067 : BitVec 32) (k0_hw115 : k0_chk115 v2067), ∀ a, (k0_off115 v2067) a + S1x1x32x1024.size a ≤ S1x108x32x1024.size a := fun v2067 k0_hw115 => k0_hw115

def k0_off116 (v2071 : BitVec 32) : Fin 4 → Nat :=
  let c0_1861 : Index := 0#32
  let v2072 : Index := Scalar.indexCast v2071
  let c0_1862 : Index := 0#32
  let c0_1863 : Index := 0#32
  ![0, v2072.toNat, 0, 0]

def k0_chk116 (v2071 : BitVec 32) : Prop :=
  (∀ a, (k0_off116 v2071) a + S1x1x32x1024.size a ≤ S1x108x32x1024.size a)
theorem k0_off116_inb : ∀ (v2071 : BitVec 32) (k0_hw116 : k0_chk116 v2071), ∀ a, (k0_off116 v2071) a + S1x1x32x1024.size a ≤ S1x108x32x1024.size a := fun v2071 k0_hw116 => k0_hw116

def k0_off117 (v2090 : BitVec 32) : Fin 4 → Nat :=
  let c0_1878 : Index := 0#32
  let v2091 : Index := Scalar.indexCast v2090
  let c0_1879 : Index := 0#32
  let c0_1880 : Index := 0#32
  ![0, v2091.toNat, 0, 0]

def k0_chk117 (v2090 : BitVec 32) : Prop :=
  (∀ a, (k0_off117 v2090) a + S1x1x32x1024.size a ≤ S1x108x32x1024.size a)
theorem k0_off117_inb : ∀ (v2090 : BitVec 32) (k0_hw117 : k0_chk117 v2090), ∀ a, (k0_off117 v2090) a + S1x1x32x1024.size a ≤ S1x108x32x1024.size a := fun v2090 k0_hw117 => k0_hw117

def k0_off118 (v2094 : BitVec 32) : Fin 4 → Nat :=
  let c0_1883 : Index := 0#32
  let v2095 : Index := Scalar.indexCast v2094
  let c0_1884 : Index := 0#32
  let c0_1885 : Index := 0#32
  ![0, v2095.toNat, 0, 0]

def k0_chk118 (v2094 : BitVec 32) : Prop :=
  (∀ a, (k0_off118 v2094) a + S1x1x32x1024.size a ≤ S1x108x32x1024.size a)
theorem k0_off118_inb : ∀ (v2094 : BitVec 32) (k0_hw118 : k0_chk118 v2094), ∀ a, (k0_off118 v2094) a + S1x1x32x1024.size a ≤ S1x108x32x1024.size a := fun v2094 k0_hw118 => k0_hw118

def k0_off119 (v2113 : BitVec 32) : Fin 4 → Nat :=
  let c0_1900 : Index := 0#32
  let v2114 : Index := Scalar.indexCast v2113
  let c0_1901 : Index := 0#32
  let c0_1902 : Index := 0#32
  ![0, v2114.toNat, 0, 0]

def k0_chk119 (v2113 : BitVec 32) : Prop :=
  (∀ a, (k0_off119 v2113) a + S1x1x32x1024.size a ≤ S1x108x32x1024.size a)
theorem k0_off119_inb : ∀ (v2113 : BitVec 32) (k0_hw119 : k0_chk119 v2113), ∀ a, (k0_off119 v2113) a + S1x1x32x1024.size a ≤ S1x108x32x1024.size a := fun v2113 k0_hw119 => k0_hw119

def k0_off120 (v2117 : BitVec 32) : Fin 4 → Nat :=
  let c0_1905 : Index := 0#32
  let v2118 : Index := Scalar.indexCast v2117
  let c0_1906 : Index := 0#32
  let c0_1907 : Index := 0#32
  ![0, v2118.toNat, 0, 0]

def k0_chk120 (v2117 : BitVec 32) : Prop :=
  (∀ a, (k0_off120 v2117) a + S1x1x32x1024.size a ≤ S1x108x32x1024.size a)
theorem k0_off120_inb : ∀ (v2117 : BitVec 32) (k0_hw120 : k0_chk120 v2117), ∀ a, (k0_off120 v2117) a + S1x1x32x1024.size a ≤ S1x108x32x1024.size a := fun v2117 k0_hw120 => k0_hw120

def k0_off121 (v2136 : BitVec 32) : Fin 4 → Nat :=
  let c0_1922 : Index := 0#32
  let v2137 : Index := Scalar.indexCast v2136
  let c0_1923 : Index := 0#32
  let c0_1924 : Index := 0#32
  ![0, v2137.toNat, 0, 0]

def k0_chk121 (v2136 : BitVec 32) : Prop :=
  (∀ a, (k0_off121 v2136) a + S1x1x32x1024.size a ≤ S1x108x32x1024.size a)
theorem k0_off121_inb : ∀ (v2136 : BitVec 32) (k0_hw121 : k0_chk121 v2136), ∀ a, (k0_off121 v2136) a + S1x1x32x1024.size a ≤ S1x108x32x1024.size a := fun v2136 k0_hw121 => k0_hw121

def k0_off122 (v2140 : BitVec 32) : Fin 4 → Nat :=
  let c0_1927 : Index := 0#32
  let v2141 : Index := Scalar.indexCast v2140
  let c0_1928 : Index := 0#32
  let c0_1929 : Index := 0#32
  ![0, v2141.toNat, 0, 0]

def k0_chk122 (v2140 : BitVec 32) : Prop :=
  (∀ a, (k0_off122 v2140) a + S1x1x32x1024.size a ≤ S1x108x32x1024.size a)
theorem k0_off122_inb : ∀ (v2140 : BitVec 32) (k0_hw122 : k0_chk122 v2140), ∀ a, (k0_off122 v2140) a + S1x1x32x1024.size a ≤ S1x108x32x1024.size a := fun v2140 k0_hw122 => k0_hw122

def k0_off123 (v2159 : BitVec 32) : Fin 4 → Nat :=
  let c0_1944 : Index := 0#32
  let v2160 : Index := Scalar.indexCast v2159
  let c0_1945 : Index := 0#32
  let c0_1946 : Index := 0#32
  ![0, v2160.toNat, 0, 0]

def k0_chk123 (v2159 : BitVec 32) : Prop :=
  (∀ a, (k0_off123 v2159) a + S1x1x32x1024.size a ≤ S1x108x32x1024.size a)
theorem k0_off123_inb : ∀ (v2159 : BitVec 32) (k0_hw123 : k0_chk123 v2159), ∀ a, (k0_off123 v2159) a + S1x1x32x1024.size a ≤ S1x108x32x1024.size a := fun v2159 k0_hw123 => k0_hw123

def k0_off124 (v2163 : BitVec 32) : Fin 4 → Nat :=
  let c0_1949 : Index := 0#32
  let v2164 : Index := Scalar.indexCast v2163
  let c0_1950 : Index := 0#32
  let c0_1951 : Index := 0#32
  ![0, v2164.toNat, 0, 0]

def k0_chk124 (v2163 : BitVec 32) : Prop :=
  (∀ a, (k0_off124 v2163) a + S1x1x32x1024.size a ≤ S1x108x32x1024.size a)
theorem k0_off124_inb : ∀ (v2163 : BitVec 32) (k0_hw124 : k0_chk124 v2163), ∀ a, (k0_off124 v2163) a + S1x1x32x1024.size a ≤ S1x108x32x1024.size a := fun v2163 k0_hw124 => k0_hw124

def k0_off125 (v2182 : BitVec 32) : Fin 4 → Nat :=
  let c0_1966 : Index := 0#32
  let v2183 : Index := Scalar.indexCast v2182
  let c0_1967 : Index := 0#32
  let c0_1968 : Index := 0#32
  ![0, v2183.toNat, 0, 0]

def k0_chk125 (v2182 : BitVec 32) : Prop :=
  (∀ a, (k0_off125 v2182) a + S1x1x32x1024.size a ≤ S1x108x32x1024.size a)
theorem k0_off125_inb : ∀ (v2182 : BitVec 32) (k0_hw125 : k0_chk125 v2182), ∀ a, (k0_off125 v2182) a + S1x1x32x1024.size a ≤ S1x108x32x1024.size a := fun v2182 k0_hw125 => k0_hw125

def k0_off126 (v2186 : BitVec 32) : Fin 4 → Nat :=
  let c0_1971 : Index := 0#32
  let v2187 : Index := Scalar.indexCast v2186
  let c0_1972 : Index := 0#32
  let c0_1973 : Index := 0#32
  ![0, v2187.toNat, 0, 0]

def k0_chk126 (v2186 : BitVec 32) : Prop :=
  (∀ a, (k0_off126 v2186) a + S1x1x32x1024.size a ≤ S1x108x32x1024.size a)
theorem k0_off126_inb : ∀ (v2186 : BitVec 32) (k0_hw126 : k0_chk126 v2186), ∀ a, (k0_off126 v2186) a + S1x1x32x1024.size a ≤ S1x108x32x1024.size a := fun v2186 k0_hw126 => k0_hw126

def k0_off127 (v2205 : BitVec 32) : Fin 4 → Nat :=
  let c0_1988 : Index := 0#32
  let v2206 : Index := Scalar.indexCast v2205
  let c0_1989 : Index := 0#32
  let c0_1990 : Index := 0#32
  ![0, v2206.toNat, 0, 0]

def k0_chk127 (v2205 : BitVec 32) : Prop :=
  (∀ a, (k0_off127 v2205) a + S1x1x32x1024.size a ≤ S1x108x32x1024.size a)
theorem k0_off127_inb : ∀ (v2205 : BitVec 32) (k0_hw127 : k0_chk127 v2205), ∀ a, (k0_off127 v2205) a + S1x1x32x1024.size a ≤ S1x108x32x1024.size a := fun v2205 k0_hw127 => k0_hw127

def k0_off128 (v2209 : BitVec 32) : Fin 4 → Nat :=
  let c0_1993 : Index := 0#32
  let v2210 : Index := Scalar.indexCast v2209
  let c0_1994 : Index := 0#32
  let c0_1995 : Index := 0#32
  ![0, v2210.toNat, 0, 0]

def k0_chk128 (v2209 : BitVec 32) : Prop :=
  (∀ a, (k0_off128 v2209) a + S1x1x32x1024.size a ≤ S1x108x32x1024.size a)
theorem k0_off128_inb : ∀ (v2209 : BitVec 32) (k0_hw128 : k0_chk128 v2209), ∀ a, (k0_off128 v2209) a + S1x1x32x1024.size a ≤ S1x108x32x1024.size a := fun v2209 k0_hw128 => k0_hw128

def k0_off129 (v2336 : BitVec 32) : Fin 4 → Nat :=
  let c0_2098 : Index := 0#32
  let v2337 : Index := Scalar.indexCast v2336
  let c0_2099 : Index := 0#32
  let c0_2100 : Index := 0#32
  ![0, v2337.toNat, 0, 0]

def k0_chk129 (v2336 : BitVec 32) : Prop :=
  (∀ a, (k0_off129 v2336) a + S1x1x32x1024.size a ≤ S1x108x32x1024.size a)
theorem k0_off129_inb : ∀ (v2336 : BitVec 32) (k0_hw129 : k0_chk129 v2336), ∀ a, (k0_off129 v2336) a + S1x1x32x1024.size a ≤ S1x108x32x1024.size a := fun v2336 k0_hw129 => k0_hw129

def k0_off130 (v2340 : BitVec 32) : Fin 4 → Nat :=
  let c0_2103 : Index := 0#32
  let v2341 : Index := Scalar.indexCast v2340
  let c0_2104 : Index := 0#32
  let c0_2105 : Index := 0#32
  ![0, v2341.toNat, 0, 0]

def k0_chk130 (v2340 : BitVec 32) : Prop :=
  (∀ a, (k0_off130 v2340) a + S1x1x32x1024.size a ≤ S1x108x32x1024.size a)
theorem k0_off130_inb : ∀ (v2340 : BitVec 32) (k0_hw130 : k0_chk130 v2340), ∀ a, (k0_off130 v2340) a + S1x1x32x1024.size a ≤ S1x108x32x1024.size a := fun v2340 k0_hw130 => k0_hw130

def k0_off131 (v2359 : BitVec 32) : Fin 4 → Nat :=
  let c0_2120 : Index := 0#32
  let v2360 : Index := Scalar.indexCast v2359
  let c0_2121 : Index := 0#32
  let c0_2122 : Index := 0#32
  ![0, v2360.toNat, 0, 0]

def k0_chk131 (v2359 : BitVec 32) : Prop :=
  (∀ a, (k0_off131 v2359) a + S1x1x32x1024.size a ≤ S1x108x32x1024.size a)
theorem k0_off131_inb : ∀ (v2359 : BitVec 32) (k0_hw131 : k0_chk131 v2359), ∀ a, (k0_off131 v2359) a + S1x1x32x1024.size a ≤ S1x108x32x1024.size a := fun v2359 k0_hw131 => k0_hw131

def k0_off132 (v2363 : BitVec 32) : Fin 4 → Nat :=
  let c0_2125 : Index := 0#32
  let v2364 : Index := Scalar.indexCast v2363
  let c0_2126 : Index := 0#32
  let c0_2127 : Index := 0#32
  ![0, v2364.toNat, 0, 0]

def k0_chk132 (v2363 : BitVec 32) : Prop :=
  (∀ a, (k0_off132 v2363) a + S1x1x32x1024.size a ≤ S1x108x32x1024.size a)
theorem k0_off132_inb : ∀ (v2363 : BitVec 32) (k0_hw132 : k0_chk132 v2363), ∀ a, (k0_off132 v2363) a + S1x1x32x1024.size a ≤ S1x108x32x1024.size a := fun v2363 k0_hw132 => k0_hw132

def k0_off133 (v2382 : BitVec 32) : Fin 4 → Nat :=
  let c0_2142 : Index := 0#32
  let v2383 : Index := Scalar.indexCast v2382
  let c0_2143 : Index := 0#32
  let c0_2144 : Index := 0#32
  ![0, v2383.toNat, 0, 0]

def k0_chk133 (v2382 : BitVec 32) : Prop :=
  (∀ a, (k0_off133 v2382) a + S1x1x32x1024.size a ≤ S1x108x32x1024.size a)
theorem k0_off133_inb : ∀ (v2382 : BitVec 32) (k0_hw133 : k0_chk133 v2382), ∀ a, (k0_off133 v2382) a + S1x1x32x1024.size a ≤ S1x108x32x1024.size a := fun v2382 k0_hw133 => k0_hw133

def k0_off134 (v2386 : BitVec 32) : Fin 4 → Nat :=
  let c0_2147 : Index := 0#32
  let v2387 : Index := Scalar.indexCast v2386
  let c0_2148 : Index := 0#32
  let c0_2149 : Index := 0#32
  ![0, v2387.toNat, 0, 0]

def k0_chk134 (v2386 : BitVec 32) : Prop :=
  (∀ a, (k0_off134 v2386) a + S1x1x32x1024.size a ≤ S1x108x32x1024.size a)
theorem k0_off134_inb : ∀ (v2386 : BitVec 32) (k0_hw134 : k0_chk134 v2386), ∀ a, (k0_off134 v2386) a + S1x1x32x1024.size a ≤ S1x108x32x1024.size a := fun v2386 k0_hw134 => k0_hw134

def k0_off135 (v2405 : BitVec 32) : Fin 4 → Nat :=
  let c0_2164 : Index := 0#32
  let v2406 : Index := Scalar.indexCast v2405
  let c0_2165 : Index := 0#32
  let c0_2166 : Index := 0#32
  ![0, v2406.toNat, 0, 0]

def k0_chk135 (v2405 : BitVec 32) : Prop :=
  (∀ a, (k0_off135 v2405) a + S1x1x32x1024.size a ≤ S1x108x32x1024.size a)
theorem k0_off135_inb : ∀ (v2405 : BitVec 32) (k0_hw135 : k0_chk135 v2405), ∀ a, (k0_off135 v2405) a + S1x1x32x1024.size a ≤ S1x108x32x1024.size a := fun v2405 k0_hw135 => k0_hw135

def k0_off136 (v2409 : BitVec 32) : Fin 4 → Nat :=
  let c0_2169 : Index := 0#32
  let v2410 : Index := Scalar.indexCast v2409
  let c0_2170 : Index := 0#32
  let c0_2171 : Index := 0#32
  ![0, v2410.toNat, 0, 0]

def k0_chk136 (v2409 : BitVec 32) : Prop :=
  (∀ a, (k0_off136 v2409) a + S1x1x32x1024.size a ≤ S1x108x32x1024.size a)
theorem k0_off136_inb : ∀ (v2409 : BitVec 32) (k0_hw136 : k0_chk136 v2409), ∀ a, (k0_off136 v2409) a + S1x1x32x1024.size a ≤ S1x108x32x1024.size a := fun v2409 k0_hw136 => k0_hw136

def k0_off137 (v2428 : BitVec 32) : Fin 4 → Nat :=
  let c0_2186 : Index := 0#32
  let v2429 : Index := Scalar.indexCast v2428
  let c0_2187 : Index := 0#32
  let c0_2188 : Index := 0#32
  ![0, v2429.toNat, 0, 0]

def k0_chk137 (v2428 : BitVec 32) : Prop :=
  (∀ a, (k0_off137 v2428) a + S1x1x32x1024.size a ≤ S1x108x32x1024.size a)
theorem k0_off137_inb : ∀ (v2428 : BitVec 32) (k0_hw137 : k0_chk137 v2428), ∀ a, (k0_off137 v2428) a + S1x1x32x1024.size a ≤ S1x108x32x1024.size a := fun v2428 k0_hw137 => k0_hw137

def k0_off138 (v2432 : BitVec 32) : Fin 4 → Nat :=
  let c0_2191 : Index := 0#32
  let v2433 : Index := Scalar.indexCast v2432
  let c0_2192 : Index := 0#32
  let c0_2193 : Index := 0#32
  ![0, v2433.toNat, 0, 0]

def k0_chk138 (v2432 : BitVec 32) : Prop :=
  (∀ a, (k0_off138 v2432) a + S1x1x32x1024.size a ≤ S1x108x32x1024.size a)
theorem k0_off138_inb : ∀ (v2432 : BitVec 32) (k0_hw138 : k0_chk138 v2432), ∀ a, (k0_off138 v2432) a + S1x1x32x1024.size a ≤ S1x108x32x1024.size a := fun v2432 k0_hw138 => k0_hw138

def k0_off139 (v2451 : BitVec 32) : Fin 4 → Nat :=
  let c0_2208 : Index := 0#32
  let v2452 : Index := Scalar.indexCast v2451
  let c0_2209 : Index := 0#32
  let c0_2210 : Index := 0#32
  ![0, v2452.toNat, 0, 0]

def k0_chk139 (v2451 : BitVec 32) : Prop :=
  (∀ a, (k0_off139 v2451) a + S1x1x32x1024.size a ≤ S1x108x32x1024.size a)
theorem k0_off139_inb : ∀ (v2451 : BitVec 32) (k0_hw139 : k0_chk139 v2451), ∀ a, (k0_off139 v2451) a + S1x1x32x1024.size a ≤ S1x108x32x1024.size a := fun v2451 k0_hw139 => k0_hw139

def k0_off140 (v2455 : BitVec 32) : Fin 4 → Nat :=
  let c0_2213 : Index := 0#32
  let v2456 : Index := Scalar.indexCast v2455
  let c0_2214 : Index := 0#32
  let c0_2215 : Index := 0#32
  ![0, v2456.toNat, 0, 0]

def k0_chk140 (v2455 : BitVec 32) : Prop :=
  (∀ a, (k0_off140 v2455) a + S1x1x32x1024.size a ≤ S1x108x32x1024.size a)
theorem k0_off140_inb : ∀ (v2455 : BitVec 32) (k0_hw140 : k0_chk140 v2455), ∀ a, (k0_off140 v2455) a + S1x1x32x1024.size a ≤ S1x108x32x1024.size a := fun v2455 k0_hw140 => k0_hw140

def k0_off141 (v2474 : BitVec 32) : Fin 4 → Nat :=
  let c0_2230 : Index := 0#32
  let v2475 : Index := Scalar.indexCast v2474
  let c0_2231 : Index := 0#32
  let c0_2232 : Index := 0#32
  ![0, v2475.toNat, 0, 0]

def k0_chk141 (v2474 : BitVec 32) : Prop :=
  (∀ a, (k0_off141 v2474) a + S1x1x32x1024.size a ≤ S1x108x32x1024.size a)
theorem k0_off141_inb : ∀ (v2474 : BitVec 32) (k0_hw141 : k0_chk141 v2474), ∀ a, (k0_off141 v2474) a + S1x1x32x1024.size a ≤ S1x108x32x1024.size a := fun v2474 k0_hw141 => k0_hw141

def k0_off142 (v2478 : BitVec 32) : Fin 4 → Nat :=
  let c0_2235 : Index := 0#32
  let v2479 : Index := Scalar.indexCast v2478
  let c0_2236 : Index := 0#32
  let c0_2237 : Index := 0#32
  ![0, v2479.toNat, 0, 0]

def k0_chk142 (v2478 : BitVec 32) : Prop :=
  (∀ a, (k0_off142 v2478) a + S1x1x32x1024.size a ≤ S1x108x32x1024.size a)
theorem k0_off142_inb : ∀ (v2478 : BitVec 32) (k0_hw142 : k0_chk142 v2478), ∀ a, (k0_off142 v2478) a + S1x1x32x1024.size a ≤ S1x108x32x1024.size a := fun v2478 k0_hw142 => k0_hw142

def k0_off143 (v2497 : BitVec 32) : Fin 4 → Nat :=
  let c0_2252 : Index := 0#32
  let v2498 : Index := Scalar.indexCast v2497
  let c0_2253 : Index := 0#32
  let c0_2254 : Index := 0#32
  ![0, v2498.toNat, 0, 0]

def k0_chk143 (v2497 : BitVec 32) : Prop :=
  (∀ a, (k0_off143 v2497) a + S1x1x32x1024.size a ≤ S1x108x32x1024.size a)
theorem k0_off143_inb : ∀ (v2497 : BitVec 32) (k0_hw143 : k0_chk143 v2497), ∀ a, (k0_off143 v2497) a + S1x1x32x1024.size a ≤ S1x108x32x1024.size a := fun v2497 k0_hw143 => k0_hw143

def k0_off144 (v2501 : BitVec 32) : Fin 4 → Nat :=
  let c0_2257 : Index := 0#32
  let v2502 : Index := Scalar.indexCast v2501
  let c0_2258 : Index := 0#32
  let c0_2259 : Index := 0#32
  ![0, v2502.toNat, 0, 0]

def k0_chk144 (v2501 : BitVec 32) : Prop :=
  (∀ a, (k0_off144 v2501) a + S1x1x32x1024.size a ≤ S1x108x32x1024.size a)
theorem k0_off144_inb : ∀ (v2501 : BitVec 32) (k0_hw144 : k0_chk144 v2501), ∀ a, (k0_off144 v2501) a + S1x1x32x1024.size a ≤ S1x108x32x1024.size a := fun v2501 k0_hw144 => k0_hw144

def k0_off145 (v2628 : BitVec 32) : Fin 4 → Nat :=
  let c0_2362 : Index := 0#32
  let v2629 : Index := Scalar.indexCast v2628
  let c0_2363 : Index := 0#32
  let c0_2364 : Index := 0#32
  ![0, v2629.toNat, 0, 0]

def k0_chk145 (v2628 : BitVec 32) : Prop :=
  (∀ a, (k0_off145 v2628) a + S1x1x32x1024.size a ≤ S1x108x32x1024.size a)
theorem k0_off145_inb : ∀ (v2628 : BitVec 32) (k0_hw145 : k0_chk145 v2628), ∀ a, (k0_off145 v2628) a + S1x1x32x1024.size a ≤ S1x108x32x1024.size a := fun v2628 k0_hw145 => k0_hw145

def k0_off146 (v2632 : BitVec 32) : Fin 4 → Nat :=
  let c0_2367 : Index := 0#32
  let v2633 : Index := Scalar.indexCast v2632
  let c0_2368 : Index := 0#32
  let c0_2369 : Index := 0#32
  ![0, v2633.toNat, 0, 0]

def k0_chk146 (v2632 : BitVec 32) : Prop :=
  (∀ a, (k0_off146 v2632) a + S1x1x32x1024.size a ≤ S1x108x32x1024.size a)
theorem k0_off146_inb : ∀ (v2632 : BitVec 32) (k0_hw146 : k0_chk146 v2632), ∀ a, (k0_off146 v2632) a + S1x1x32x1024.size a ≤ S1x108x32x1024.size a := fun v2632 k0_hw146 => k0_hw146

def k0_off147 (v2651 : BitVec 32) : Fin 4 → Nat :=
  let c0_2384 : Index := 0#32
  let v2652 : Index := Scalar.indexCast v2651
  let c0_2385 : Index := 0#32
  let c0_2386 : Index := 0#32
  ![0, v2652.toNat, 0, 0]

def k0_chk147 (v2651 : BitVec 32) : Prop :=
  (∀ a, (k0_off147 v2651) a + S1x1x32x1024.size a ≤ S1x108x32x1024.size a)
theorem k0_off147_inb : ∀ (v2651 : BitVec 32) (k0_hw147 : k0_chk147 v2651), ∀ a, (k0_off147 v2651) a + S1x1x32x1024.size a ≤ S1x108x32x1024.size a := fun v2651 k0_hw147 => k0_hw147

def k0_off148 (v2655 : BitVec 32) : Fin 4 → Nat :=
  let c0_2389 : Index := 0#32
  let v2656 : Index := Scalar.indexCast v2655
  let c0_2390 : Index := 0#32
  let c0_2391 : Index := 0#32
  ![0, v2656.toNat, 0, 0]

def k0_chk148 (v2655 : BitVec 32) : Prop :=
  (∀ a, (k0_off148 v2655) a + S1x1x32x1024.size a ≤ S1x108x32x1024.size a)
theorem k0_off148_inb : ∀ (v2655 : BitVec 32) (k0_hw148 : k0_chk148 v2655), ∀ a, (k0_off148 v2655) a + S1x1x32x1024.size a ≤ S1x108x32x1024.size a := fun v2655 k0_hw148 => k0_hw148

def k0_off149 (v2674 : BitVec 32) : Fin 4 → Nat :=
  let c0_2406 : Index := 0#32
  let v2675 : Index := Scalar.indexCast v2674
  let c0_2407 : Index := 0#32
  let c0_2408 : Index := 0#32
  ![0, v2675.toNat, 0, 0]

def k0_chk149 (v2674 : BitVec 32) : Prop :=
  (∀ a, (k0_off149 v2674) a + S1x1x32x1024.size a ≤ S1x108x32x1024.size a)
theorem k0_off149_inb : ∀ (v2674 : BitVec 32) (k0_hw149 : k0_chk149 v2674), ∀ a, (k0_off149 v2674) a + S1x1x32x1024.size a ≤ S1x108x32x1024.size a := fun v2674 k0_hw149 => k0_hw149

def k0_off150 (v2678 : BitVec 32) : Fin 4 → Nat :=
  let c0_2411 : Index := 0#32
  let v2679 : Index := Scalar.indexCast v2678
  let c0_2412 : Index := 0#32
  let c0_2413 : Index := 0#32
  ![0, v2679.toNat, 0, 0]

def k0_chk150 (v2678 : BitVec 32) : Prop :=
  (∀ a, (k0_off150 v2678) a + S1x1x32x1024.size a ≤ S1x108x32x1024.size a)
theorem k0_off150_inb : ∀ (v2678 : BitVec 32) (k0_hw150 : k0_chk150 v2678), ∀ a, (k0_off150 v2678) a + S1x1x32x1024.size a ≤ S1x108x32x1024.size a := fun v2678 k0_hw150 => k0_hw150

def k0_off151 (v2697 : BitVec 32) : Fin 4 → Nat :=
  let c0_2428 : Index := 0#32
  let v2698 : Index := Scalar.indexCast v2697
  let c0_2429 : Index := 0#32
  let c0_2430 : Index := 0#32
  ![0, v2698.toNat, 0, 0]

def k0_chk151 (v2697 : BitVec 32) : Prop :=
  (∀ a, (k0_off151 v2697) a + S1x1x32x1024.size a ≤ S1x108x32x1024.size a)
theorem k0_off151_inb : ∀ (v2697 : BitVec 32) (k0_hw151 : k0_chk151 v2697), ∀ a, (k0_off151 v2697) a + S1x1x32x1024.size a ≤ S1x108x32x1024.size a := fun v2697 k0_hw151 => k0_hw151

def k0_off152 (v2701 : BitVec 32) : Fin 4 → Nat :=
  let c0_2433 : Index := 0#32
  let v2702 : Index := Scalar.indexCast v2701
  let c0_2434 : Index := 0#32
  let c0_2435 : Index := 0#32
  ![0, v2702.toNat, 0, 0]

def k0_chk152 (v2701 : BitVec 32) : Prop :=
  (∀ a, (k0_off152 v2701) a + S1x1x32x1024.size a ≤ S1x108x32x1024.size a)
theorem k0_off152_inb : ∀ (v2701 : BitVec 32) (k0_hw152 : k0_chk152 v2701), ∀ a, (k0_off152 v2701) a + S1x1x32x1024.size a ≤ S1x108x32x1024.size a := fun v2701 k0_hw152 => k0_hw152

def k0_off153 (v2720 : BitVec 32) : Fin 4 → Nat :=
  let c0_2450 : Index := 0#32
  let v2721 : Index := Scalar.indexCast v2720
  let c0_2451 : Index := 0#32
  let c0_2452 : Index := 0#32
  ![0, v2721.toNat, 0, 0]

def k0_chk153 (v2720 : BitVec 32) : Prop :=
  (∀ a, (k0_off153 v2720) a + S1x1x32x1024.size a ≤ S1x108x32x1024.size a)
theorem k0_off153_inb : ∀ (v2720 : BitVec 32) (k0_hw153 : k0_chk153 v2720), ∀ a, (k0_off153 v2720) a + S1x1x32x1024.size a ≤ S1x108x32x1024.size a := fun v2720 k0_hw153 => k0_hw153

def k0_off154 (v2724 : BitVec 32) : Fin 4 → Nat :=
  let c0_2455 : Index := 0#32
  let v2725 : Index := Scalar.indexCast v2724
  let c0_2456 : Index := 0#32
  let c0_2457 : Index := 0#32
  ![0, v2725.toNat, 0, 0]

def k0_chk154 (v2724 : BitVec 32) : Prop :=
  (∀ a, (k0_off154 v2724) a + S1x1x32x1024.size a ≤ S1x108x32x1024.size a)
theorem k0_off154_inb : ∀ (v2724 : BitVec 32) (k0_hw154 : k0_chk154 v2724), ∀ a, (k0_off154 v2724) a + S1x1x32x1024.size a ≤ S1x108x32x1024.size a := fun v2724 k0_hw154 => k0_hw154

def k0_off155 (v2743 : BitVec 32) : Fin 4 → Nat :=
  let c0_2472 : Index := 0#32
  let v2744 : Index := Scalar.indexCast v2743
  let c0_2473 : Index := 0#32
  let c0_2474 : Index := 0#32
  ![0, v2744.toNat, 0, 0]

def k0_chk155 (v2743 : BitVec 32) : Prop :=
  (∀ a, (k0_off155 v2743) a + S1x1x32x1024.size a ≤ S1x108x32x1024.size a)
theorem k0_off155_inb : ∀ (v2743 : BitVec 32) (k0_hw155 : k0_chk155 v2743), ∀ a, (k0_off155 v2743) a + S1x1x32x1024.size a ≤ S1x108x32x1024.size a := fun v2743 k0_hw155 => k0_hw155

def k0_off156 (v2747 : BitVec 32) : Fin 4 → Nat :=
  let c0_2477 : Index := 0#32
  let v2748 : Index := Scalar.indexCast v2747
  let c0_2478 : Index := 0#32
  let c0_2479 : Index := 0#32
  ![0, v2748.toNat, 0, 0]

def k0_chk156 (v2747 : BitVec 32) : Prop :=
  (∀ a, (k0_off156 v2747) a + S1x1x32x1024.size a ≤ S1x108x32x1024.size a)
theorem k0_off156_inb : ∀ (v2747 : BitVec 32) (k0_hw156 : k0_chk156 v2747), ∀ a, (k0_off156 v2747) a + S1x1x32x1024.size a ≤ S1x108x32x1024.size a := fun v2747 k0_hw156 => k0_hw156

def k0_off157 (v2766 : BitVec 32) : Fin 4 → Nat :=
  let c0_2494 : Index := 0#32
  let v2767 : Index := Scalar.indexCast v2766
  let c0_2495 : Index := 0#32
  let c0_2496 : Index := 0#32
  ![0, v2767.toNat, 0, 0]

def k0_chk157 (v2766 : BitVec 32) : Prop :=
  (∀ a, (k0_off157 v2766) a + S1x1x32x1024.size a ≤ S1x108x32x1024.size a)
theorem k0_off157_inb : ∀ (v2766 : BitVec 32) (k0_hw157 : k0_chk157 v2766), ∀ a, (k0_off157 v2766) a + S1x1x32x1024.size a ≤ S1x108x32x1024.size a := fun v2766 k0_hw157 => k0_hw157

def k0_off158 (v2770 : BitVec 32) : Fin 4 → Nat :=
  let c0_2499 : Index := 0#32
  let v2771 : Index := Scalar.indexCast v2770
  let c0_2500 : Index := 0#32
  let c0_2501 : Index := 0#32
  ![0, v2771.toNat, 0, 0]

def k0_chk158 (v2770 : BitVec 32) : Prop :=
  (∀ a, (k0_off158 v2770) a + S1x1x32x1024.size a ≤ S1x108x32x1024.size a)
theorem k0_off158_inb : ∀ (v2770 : BitVec 32) (k0_hw158 : k0_chk158 v2770), ∀ a, (k0_off158 v2770) a + S1x1x32x1024.size a ≤ S1x108x32x1024.size a := fun v2770 k0_hw158 => k0_hw158

def k0_off159 (v2789 : BitVec 32) : Fin 4 → Nat :=
  let c0_2516 : Index := 0#32
  let v2790 : Index := Scalar.indexCast v2789
  let c0_2517 : Index := 0#32
  let c0_2518 : Index := 0#32
  ![0, v2790.toNat, 0, 0]

def k0_chk159 (v2789 : BitVec 32) : Prop :=
  (∀ a, (k0_off159 v2789) a + S1x1x32x1024.size a ≤ S1x108x32x1024.size a)
theorem k0_off159_inb : ∀ (v2789 : BitVec 32) (k0_hw159 : k0_chk159 v2789), ∀ a, (k0_off159 v2789) a + S1x1x32x1024.size a ≤ S1x108x32x1024.size a := fun v2789 k0_hw159 => k0_hw159

def k0_off160 (v2793 : BitVec 32) : Fin 4 → Nat :=
  let c0_2521 : Index := 0#32
  let v2794 : Index := Scalar.indexCast v2793
  let c0_2522 : Index := 0#32
  let c0_2523 : Index := 0#32
  ![0, v2794.toNat, 0, 0]

def k0_chk160 (v2793 : BitVec 32) : Prop :=
  (∀ a, (k0_off160 v2793) a + S1x1x32x1024.size a ≤ S1x108x32x1024.size a)
theorem k0_off160_inb : ∀ (v2793 : BitVec 32) (k0_hw160 : k0_chk160 v2793), ∀ a, (k0_off160 v2793) a + S1x1x32x1024.size a ≤ S1x108x32x1024.size a := fun v2793 k0_hw160 => k0_hw160

def k0_off161 (v2920 : BitVec 32) : Fin 4 → Nat :=
  let c0_2626 : Index := 0#32
  let v2921 : Index := Scalar.indexCast v2920
  let c0_2627 : Index := 0#32
  let c0_2628 : Index := 0#32
  ![0, v2921.toNat, 0, 0]

def k0_chk161 (v2920 : BitVec 32) : Prop :=
  (∀ a, (k0_off161 v2920) a + S1x1x32x1024.size a ≤ S1x108x32x1024.size a)
theorem k0_off161_inb : ∀ (v2920 : BitVec 32) (k0_hw161 : k0_chk161 v2920), ∀ a, (k0_off161 v2920) a + S1x1x32x1024.size a ≤ S1x108x32x1024.size a := fun v2920 k0_hw161 => k0_hw161

def k0_off162 (v2924 : BitVec 32) : Fin 4 → Nat :=
  let c0_2631 : Index := 0#32
  let v2925 : Index := Scalar.indexCast v2924
  let c0_2632 : Index := 0#32
  let c0_2633 : Index := 0#32
  ![0, v2925.toNat, 0, 0]

def k0_chk162 (v2924 : BitVec 32) : Prop :=
  (∀ a, (k0_off162 v2924) a + S1x1x32x1024.size a ≤ S1x108x32x1024.size a)
theorem k0_off162_inb : ∀ (v2924 : BitVec 32) (k0_hw162 : k0_chk162 v2924), ∀ a, (k0_off162 v2924) a + S1x1x32x1024.size a ≤ S1x108x32x1024.size a := fun v2924 k0_hw162 => k0_hw162

def k0_off163 (v2943 : BitVec 32) : Fin 4 → Nat :=
  let c0_2648 : Index := 0#32
  let v2944 : Index := Scalar.indexCast v2943
  let c0_2649 : Index := 0#32
  let c0_2650 : Index := 0#32
  ![0, v2944.toNat, 0, 0]

def k0_chk163 (v2943 : BitVec 32) : Prop :=
  (∀ a, (k0_off163 v2943) a + S1x1x32x1024.size a ≤ S1x108x32x1024.size a)
theorem k0_off163_inb : ∀ (v2943 : BitVec 32) (k0_hw163 : k0_chk163 v2943), ∀ a, (k0_off163 v2943) a + S1x1x32x1024.size a ≤ S1x108x32x1024.size a := fun v2943 k0_hw163 => k0_hw163

def k0_off164 (v2947 : BitVec 32) : Fin 4 → Nat :=
  let c0_2653 : Index := 0#32
  let v2948 : Index := Scalar.indexCast v2947
  let c0_2654 : Index := 0#32
  let c0_2655 : Index := 0#32
  ![0, v2948.toNat, 0, 0]

def k0_chk164 (v2947 : BitVec 32) : Prop :=
  (∀ a, (k0_off164 v2947) a + S1x1x32x1024.size a ≤ S1x108x32x1024.size a)
theorem k0_off164_inb : ∀ (v2947 : BitVec 32) (k0_hw164 : k0_chk164 v2947), ∀ a, (k0_off164 v2947) a + S1x1x32x1024.size a ≤ S1x108x32x1024.size a := fun v2947 k0_hw164 => k0_hw164

def k0_off165 (v2966 : BitVec 32) : Fin 4 → Nat :=
  let c0_2670 : Index := 0#32
  let v2967 : Index := Scalar.indexCast v2966
  let c0_2671 : Index := 0#32
  let c0_2672 : Index := 0#32
  ![0, v2967.toNat, 0, 0]

def k0_chk165 (v2966 : BitVec 32) : Prop :=
  (∀ a, (k0_off165 v2966) a + S1x1x32x1024.size a ≤ S1x108x32x1024.size a)
theorem k0_off165_inb : ∀ (v2966 : BitVec 32) (k0_hw165 : k0_chk165 v2966), ∀ a, (k0_off165 v2966) a + S1x1x32x1024.size a ≤ S1x108x32x1024.size a := fun v2966 k0_hw165 => k0_hw165

def k0_off166 (v2970 : BitVec 32) : Fin 4 → Nat :=
  let c0_2675 : Index := 0#32
  let v2971 : Index := Scalar.indexCast v2970
  let c0_2676 : Index := 0#32
  let c0_2677 : Index := 0#32
  ![0, v2971.toNat, 0, 0]

def k0_chk166 (v2970 : BitVec 32) : Prop :=
  (∀ a, (k0_off166 v2970) a + S1x1x32x1024.size a ≤ S1x108x32x1024.size a)
theorem k0_off166_inb : ∀ (v2970 : BitVec 32) (k0_hw166 : k0_chk166 v2970), ∀ a, (k0_off166 v2970) a + S1x1x32x1024.size a ≤ S1x108x32x1024.size a := fun v2970 k0_hw166 => k0_hw166

def k0_off167 (v2989 : BitVec 32) : Fin 4 → Nat :=
  let c0_2692 : Index := 0#32
  let v2990 : Index := Scalar.indexCast v2989
  let c0_2693 : Index := 0#32
  let c0_2694 : Index := 0#32
  ![0, v2990.toNat, 0, 0]

def k0_chk167 (v2989 : BitVec 32) : Prop :=
  (∀ a, (k0_off167 v2989) a + S1x1x32x1024.size a ≤ S1x108x32x1024.size a)
theorem k0_off167_inb : ∀ (v2989 : BitVec 32) (k0_hw167 : k0_chk167 v2989), ∀ a, (k0_off167 v2989) a + S1x1x32x1024.size a ≤ S1x108x32x1024.size a := fun v2989 k0_hw167 => k0_hw167

def k0_off168 (v2993 : BitVec 32) : Fin 4 → Nat :=
  let c0_2697 : Index := 0#32
  let v2994 : Index := Scalar.indexCast v2993
  let c0_2698 : Index := 0#32
  let c0_2699 : Index := 0#32
  ![0, v2994.toNat, 0, 0]

def k0_chk168 (v2993 : BitVec 32) : Prop :=
  (∀ a, (k0_off168 v2993) a + S1x1x32x1024.size a ≤ S1x108x32x1024.size a)
theorem k0_off168_inb : ∀ (v2993 : BitVec 32) (k0_hw168 : k0_chk168 v2993), ∀ a, (k0_off168 v2993) a + S1x1x32x1024.size a ≤ S1x108x32x1024.size a := fun v2993 k0_hw168 => k0_hw168

def k0_off169 (v3012 : BitVec 32) : Fin 4 → Nat :=
  let c0_2714 : Index := 0#32
  let v3013 : Index := Scalar.indexCast v3012
  let c0_2715 : Index := 0#32
  let c0_2716 : Index := 0#32
  ![0, v3013.toNat, 0, 0]

def k0_chk169 (v3012 : BitVec 32) : Prop :=
  (∀ a, (k0_off169 v3012) a + S1x1x32x1024.size a ≤ S1x108x32x1024.size a)
theorem k0_off169_inb : ∀ (v3012 : BitVec 32) (k0_hw169 : k0_chk169 v3012), ∀ a, (k0_off169 v3012) a + S1x1x32x1024.size a ≤ S1x108x32x1024.size a := fun v3012 k0_hw169 => k0_hw169

def k0_off170 (v3016 : BitVec 32) : Fin 4 → Nat :=
  let c0_2719 : Index := 0#32
  let v3017 : Index := Scalar.indexCast v3016
  let c0_2720 : Index := 0#32
  let c0_2721 : Index := 0#32
  ![0, v3017.toNat, 0, 0]

def k0_chk170 (v3016 : BitVec 32) : Prop :=
  (∀ a, (k0_off170 v3016) a + S1x1x32x1024.size a ≤ S1x108x32x1024.size a)
theorem k0_off170_inb : ∀ (v3016 : BitVec 32) (k0_hw170 : k0_chk170 v3016), ∀ a, (k0_off170 v3016) a + S1x1x32x1024.size a ≤ S1x108x32x1024.size a := fun v3016 k0_hw170 => k0_hw170

def k0_off171 (v3035 : BitVec 32) : Fin 4 → Nat :=
  let c0_2736 : Index := 0#32
  let v3036 : Index := Scalar.indexCast v3035
  let c0_2737 : Index := 0#32
  let c0_2738 : Index := 0#32
  ![0, v3036.toNat, 0, 0]

def k0_chk171 (v3035 : BitVec 32) : Prop :=
  (∀ a, (k0_off171 v3035) a + S1x1x32x1024.size a ≤ S1x108x32x1024.size a)
theorem k0_off171_inb : ∀ (v3035 : BitVec 32) (k0_hw171 : k0_chk171 v3035), ∀ a, (k0_off171 v3035) a + S1x1x32x1024.size a ≤ S1x108x32x1024.size a := fun v3035 k0_hw171 => k0_hw171

def k0_off172 (v3039 : BitVec 32) : Fin 4 → Nat :=
  let c0_2741 : Index := 0#32
  let v3040 : Index := Scalar.indexCast v3039
  let c0_2742 : Index := 0#32
  let c0_2743 : Index := 0#32
  ![0, v3040.toNat, 0, 0]

def k0_chk172 (v3039 : BitVec 32) : Prop :=
  (∀ a, (k0_off172 v3039) a + S1x1x32x1024.size a ≤ S1x108x32x1024.size a)
theorem k0_off172_inb : ∀ (v3039 : BitVec 32) (k0_hw172 : k0_chk172 v3039), ∀ a, (k0_off172 v3039) a + S1x1x32x1024.size a ≤ S1x108x32x1024.size a := fun v3039 k0_hw172 => k0_hw172

def k0_off173 (v3058 : BitVec 32) : Fin 4 → Nat :=
  let c0_2758 : Index := 0#32
  let v3059 : Index := Scalar.indexCast v3058
  let c0_2759 : Index := 0#32
  let c0_2760 : Index := 0#32
  ![0, v3059.toNat, 0, 0]

def k0_chk173 (v3058 : BitVec 32) : Prop :=
  (∀ a, (k0_off173 v3058) a + S1x1x32x1024.size a ≤ S1x108x32x1024.size a)
theorem k0_off173_inb : ∀ (v3058 : BitVec 32) (k0_hw173 : k0_chk173 v3058), ∀ a, (k0_off173 v3058) a + S1x1x32x1024.size a ≤ S1x108x32x1024.size a := fun v3058 k0_hw173 => k0_hw173

def k0_off174 (v3062 : BitVec 32) : Fin 4 → Nat :=
  let c0_2763 : Index := 0#32
  let v3063 : Index := Scalar.indexCast v3062
  let c0_2764 : Index := 0#32
  let c0_2765 : Index := 0#32
  ![0, v3063.toNat, 0, 0]

def k0_chk174 (v3062 : BitVec 32) : Prop :=
  (∀ a, (k0_off174 v3062) a + S1x1x32x1024.size a ≤ S1x108x32x1024.size a)
theorem k0_off174_inb : ∀ (v3062 : BitVec 32) (k0_hw174 : k0_chk174 v3062), ∀ a, (k0_off174 v3062) a + S1x1x32x1024.size a ≤ S1x108x32x1024.size a := fun v3062 k0_hw174 => k0_hw174

def k0_off175 (v3081 : BitVec 32) : Fin 4 → Nat :=
  let c0_2780 : Index := 0#32
  let v3082 : Index := Scalar.indexCast v3081
  let c0_2781 : Index := 0#32
  let c0_2782 : Index := 0#32
  ![0, v3082.toNat, 0, 0]

def k0_chk175 (v3081 : BitVec 32) : Prop :=
  (∀ a, (k0_off175 v3081) a + S1x1x32x1024.size a ≤ S1x108x32x1024.size a)
theorem k0_off175_inb : ∀ (v3081 : BitVec 32) (k0_hw175 : k0_chk175 v3081), ∀ a, (k0_off175 v3081) a + S1x1x32x1024.size a ≤ S1x108x32x1024.size a := fun v3081 k0_hw175 => k0_hw175

def k0_off176 (v3085 : BitVec 32) : Fin 4 → Nat :=
  let c0_2785 : Index := 0#32
  let v3086 : Index := Scalar.indexCast v3085
  let c0_2786 : Index := 0#32
  let c0_2787 : Index := 0#32
  ![0, v3086.toNat, 0, 0]

def k0_chk176 (v3085 : BitVec 32) : Prop :=
  (∀ a, (k0_off176 v3085) a + S1x1x32x1024.size a ≤ S1x108x32x1024.size a)
theorem k0_off176_inb : ∀ (v3085 : BitVec 32) (k0_hw176 : k0_chk176 v3085), ∀ a, (k0_off176 v3085) a + S1x1x32x1024.size a ≤ S1x108x32x1024.size a := fun v3085 k0_hw176 => k0_hw176

def k0_off177 (v3212 : BitVec 32) : Fin 4 → Nat :=
  let c0_2890 : Index := 0#32
  let v3213 : Index := Scalar.indexCast v3212
  let c0_2891 : Index := 0#32
  let c0_2892 : Index := 0#32
  ![0, v3213.toNat, 0, 0]

def k0_chk177 (v3212 : BitVec 32) : Prop :=
  (∀ a, (k0_off177 v3212) a + S1x1x32x1024.size a ≤ S1x108x32x1024.size a)
theorem k0_off177_inb : ∀ (v3212 : BitVec 32) (k0_hw177 : k0_chk177 v3212), ∀ a, (k0_off177 v3212) a + S1x1x32x1024.size a ≤ S1x108x32x1024.size a := fun v3212 k0_hw177 => k0_hw177

def k0_off178 (v3216 : BitVec 32) : Fin 4 → Nat :=
  let c0_2895 : Index := 0#32
  let v3217 : Index := Scalar.indexCast v3216
  let c0_2896 : Index := 0#32
  let c0_2897 : Index := 0#32
  ![0, v3217.toNat, 0, 0]

def k0_chk178 (v3216 : BitVec 32) : Prop :=
  (∀ a, (k0_off178 v3216) a + S1x1x32x1024.size a ≤ S1x108x32x1024.size a)
theorem k0_off178_inb : ∀ (v3216 : BitVec 32) (k0_hw178 : k0_chk178 v3216), ∀ a, (k0_off178 v3216) a + S1x1x32x1024.size a ≤ S1x108x32x1024.size a := fun v3216 k0_hw178 => k0_hw178

def k0_off179 (v3235 : BitVec 32) : Fin 4 → Nat :=
  let c0_2912 : Index := 0#32
  let v3236 : Index := Scalar.indexCast v3235
  let c0_2913 : Index := 0#32
  let c0_2914 : Index := 0#32
  ![0, v3236.toNat, 0, 0]

def k0_chk179 (v3235 : BitVec 32) : Prop :=
  (∀ a, (k0_off179 v3235) a + S1x1x32x1024.size a ≤ S1x108x32x1024.size a)
theorem k0_off179_inb : ∀ (v3235 : BitVec 32) (k0_hw179 : k0_chk179 v3235), ∀ a, (k0_off179 v3235) a + S1x1x32x1024.size a ≤ S1x108x32x1024.size a := fun v3235 k0_hw179 => k0_hw179

def k0_off180 (v3239 : BitVec 32) : Fin 4 → Nat :=
  let c0_2917 : Index := 0#32
  let v3240 : Index := Scalar.indexCast v3239
  let c0_2918 : Index := 0#32
  let c0_2919 : Index := 0#32
  ![0, v3240.toNat, 0, 0]

def k0_chk180 (v3239 : BitVec 32) : Prop :=
  (∀ a, (k0_off180 v3239) a + S1x1x32x1024.size a ≤ S1x108x32x1024.size a)
theorem k0_off180_inb : ∀ (v3239 : BitVec 32) (k0_hw180 : k0_chk180 v3239), ∀ a, (k0_off180 v3239) a + S1x1x32x1024.size a ≤ S1x108x32x1024.size a := fun v3239 k0_hw180 => k0_hw180

def k0_off181 (v3258 : BitVec 32) : Fin 4 → Nat :=
  let c0_2934 : Index := 0#32
  let v3259 : Index := Scalar.indexCast v3258
  let c0_2935 : Index := 0#32
  let c0_2936 : Index := 0#32
  ![0, v3259.toNat, 0, 0]

def k0_chk181 (v3258 : BitVec 32) : Prop :=
  (∀ a, (k0_off181 v3258) a + S1x1x32x1024.size a ≤ S1x108x32x1024.size a)
theorem k0_off181_inb : ∀ (v3258 : BitVec 32) (k0_hw181 : k0_chk181 v3258), ∀ a, (k0_off181 v3258) a + S1x1x32x1024.size a ≤ S1x108x32x1024.size a := fun v3258 k0_hw181 => k0_hw181

def k0_off182 (v3262 : BitVec 32) : Fin 4 → Nat :=
  let c0_2939 : Index := 0#32
  let v3263 : Index := Scalar.indexCast v3262
  let c0_2940 : Index := 0#32
  let c0_2941 : Index := 0#32
  ![0, v3263.toNat, 0, 0]

def k0_chk182 (v3262 : BitVec 32) : Prop :=
  (∀ a, (k0_off182 v3262) a + S1x1x32x1024.size a ≤ S1x108x32x1024.size a)
theorem k0_off182_inb : ∀ (v3262 : BitVec 32) (k0_hw182 : k0_chk182 v3262), ∀ a, (k0_off182 v3262) a + S1x1x32x1024.size a ≤ S1x108x32x1024.size a := fun v3262 k0_hw182 => k0_hw182

def k0_off183 (v3281 : BitVec 32) : Fin 4 → Nat :=
  let c0_2956 : Index := 0#32
  let v3282 : Index := Scalar.indexCast v3281
  let c0_2957 : Index := 0#32
  let c0_2958 : Index := 0#32
  ![0, v3282.toNat, 0, 0]

def k0_chk183 (v3281 : BitVec 32) : Prop :=
  (∀ a, (k0_off183 v3281) a + S1x1x32x1024.size a ≤ S1x108x32x1024.size a)
theorem k0_off183_inb : ∀ (v3281 : BitVec 32) (k0_hw183 : k0_chk183 v3281), ∀ a, (k0_off183 v3281) a + S1x1x32x1024.size a ≤ S1x108x32x1024.size a := fun v3281 k0_hw183 => k0_hw183

def k0_off184 (v3285 : BitVec 32) : Fin 4 → Nat :=
  let c0_2961 : Index := 0#32
  let v3286 : Index := Scalar.indexCast v3285
  let c0_2962 : Index := 0#32
  let c0_2963 : Index := 0#32
  ![0, v3286.toNat, 0, 0]

def k0_chk184 (v3285 : BitVec 32) : Prop :=
  (∀ a, (k0_off184 v3285) a + S1x1x32x1024.size a ≤ S1x108x32x1024.size a)
theorem k0_off184_inb : ∀ (v3285 : BitVec 32) (k0_hw184 : k0_chk184 v3285), ∀ a, (k0_off184 v3285) a + S1x1x32x1024.size a ≤ S1x108x32x1024.size a := fun v3285 k0_hw184 => k0_hw184

def k0_off185 (v3304 : BitVec 32) : Fin 4 → Nat :=
  let c0_2978 : Index := 0#32
  let v3305 : Index := Scalar.indexCast v3304
  let c0_2979 : Index := 0#32
  let c0_2980 : Index := 0#32
  ![0, v3305.toNat, 0, 0]

def k0_chk185 (v3304 : BitVec 32) : Prop :=
  (∀ a, (k0_off185 v3304) a + S1x1x32x1024.size a ≤ S1x108x32x1024.size a)
theorem k0_off185_inb : ∀ (v3304 : BitVec 32) (k0_hw185 : k0_chk185 v3304), ∀ a, (k0_off185 v3304) a + S1x1x32x1024.size a ≤ S1x108x32x1024.size a := fun v3304 k0_hw185 => k0_hw185

def k0_off186 (v3308 : BitVec 32) : Fin 4 → Nat :=
  let c0_2983 : Index := 0#32
  let v3309 : Index := Scalar.indexCast v3308
  let c0_2984 : Index := 0#32
  let c0_2985 : Index := 0#32
  ![0, v3309.toNat, 0, 0]

def k0_chk186 (v3308 : BitVec 32) : Prop :=
  (∀ a, (k0_off186 v3308) a + S1x1x32x1024.size a ≤ S1x108x32x1024.size a)
theorem k0_off186_inb : ∀ (v3308 : BitVec 32) (k0_hw186 : k0_chk186 v3308), ∀ a, (k0_off186 v3308) a + S1x1x32x1024.size a ≤ S1x108x32x1024.size a := fun v3308 k0_hw186 => k0_hw186

def k0_off187 (v3327 : BitVec 32) : Fin 4 → Nat :=
  let c0_3000 : Index := 0#32
  let v3328 : Index := Scalar.indexCast v3327
  let c0_3001 : Index := 0#32
  let c0_3002 : Index := 0#32
  ![0, v3328.toNat, 0, 0]

def k0_chk187 (v3327 : BitVec 32) : Prop :=
  (∀ a, (k0_off187 v3327) a + S1x1x32x1024.size a ≤ S1x108x32x1024.size a)
theorem k0_off187_inb : ∀ (v3327 : BitVec 32) (k0_hw187 : k0_chk187 v3327), ∀ a, (k0_off187 v3327) a + S1x1x32x1024.size a ≤ S1x108x32x1024.size a := fun v3327 k0_hw187 => k0_hw187

def k0_off188 (v3331 : BitVec 32) : Fin 4 → Nat :=
  let c0_3005 : Index := 0#32
  let v3332 : Index := Scalar.indexCast v3331
  let c0_3006 : Index := 0#32
  let c0_3007 : Index := 0#32
  ![0, v3332.toNat, 0, 0]

def k0_chk188 (v3331 : BitVec 32) : Prop :=
  (∀ a, (k0_off188 v3331) a + S1x1x32x1024.size a ≤ S1x108x32x1024.size a)
theorem k0_off188_inb : ∀ (v3331 : BitVec 32) (k0_hw188 : k0_chk188 v3331), ∀ a, (k0_off188 v3331) a + S1x1x32x1024.size a ≤ S1x108x32x1024.size a := fun v3331 k0_hw188 => k0_hw188

def k0_off189 (v3350 : BitVec 32) : Fin 4 → Nat :=
  let c0_3022 : Index := 0#32
  let v3351 : Index := Scalar.indexCast v3350
  let c0_3023 : Index := 0#32
  let c0_3024 : Index := 0#32
  ![0, v3351.toNat, 0, 0]

def k0_chk189 (v3350 : BitVec 32) : Prop :=
  (∀ a, (k0_off189 v3350) a + S1x1x32x1024.size a ≤ S1x108x32x1024.size a)
theorem k0_off189_inb : ∀ (v3350 : BitVec 32) (k0_hw189 : k0_chk189 v3350), ∀ a, (k0_off189 v3350) a + S1x1x32x1024.size a ≤ S1x108x32x1024.size a := fun v3350 k0_hw189 => k0_hw189

def k0_off190 (v3354 : BitVec 32) : Fin 4 → Nat :=
  let c0_3027 : Index := 0#32
  let v3355 : Index := Scalar.indexCast v3354
  let c0_3028 : Index := 0#32
  let c0_3029 : Index := 0#32
  ![0, v3355.toNat, 0, 0]

def k0_chk190 (v3354 : BitVec 32) : Prop :=
  (∀ a, (k0_off190 v3354) a + S1x1x32x1024.size a ≤ S1x108x32x1024.size a)
theorem k0_off190_inb : ∀ (v3354 : BitVec 32) (k0_hw190 : k0_chk190 v3354), ∀ a, (k0_off190 v3354) a + S1x1x32x1024.size a ≤ S1x108x32x1024.size a := fun v3354 k0_hw190 => k0_hw190

def k0_off191 (v3373 : BitVec 32) : Fin 4 → Nat :=
  let c0_3044 : Index := 0#32
  let v3374 : Index := Scalar.indexCast v3373
  let c0_3045 : Index := 0#32
  let c0_3046 : Index := 0#32
  ![0, v3374.toNat, 0, 0]

def k0_chk191 (v3373 : BitVec 32) : Prop :=
  (∀ a, (k0_off191 v3373) a + S1x1x32x1024.size a ≤ S1x108x32x1024.size a)
theorem k0_off191_inb : ∀ (v3373 : BitVec 32) (k0_hw191 : k0_chk191 v3373), ∀ a, (k0_off191 v3373) a + S1x1x32x1024.size a ≤ S1x108x32x1024.size a := fun v3373 k0_hw191 => k0_hw191

def k0_off192 (v3377 : BitVec 32) : Fin 4 → Nat :=
  let c0_3049 : Index := 0#32
  let v3378 : Index := Scalar.indexCast v3377
  let c0_3050 : Index := 0#32
  let c0_3051 : Index := 0#32
  ![0, v3378.toNat, 0, 0]

def k0_chk192 (v3377 : BitVec 32) : Prop :=
  (∀ a, (k0_off192 v3377) a + S1x1x32x1024.size a ≤ S1x108x32x1024.size a)
theorem k0_off192_inb : ∀ (v3377 : BitVec 32) (k0_hw192 : k0_chk192 v3377), ∀ a, (k0_off192 v3377) a + S1x1x32x1024.size a ≤ S1x108x32x1024.size a := fun v3377 k0_hw192 => k0_hw192

def k0_off193 (v3504 : BitVec 32) : Fin 4 → Nat :=
  let c0_3154 : Index := 0#32
  let v3505 : Index := Scalar.indexCast v3504
  let c0_3155 : Index := 0#32
  let c0_3156 : Index := 0#32
  ![0, v3505.toNat, 0, 0]

def k0_chk193 (v3504 : BitVec 32) : Prop :=
  (∀ a, (k0_off193 v3504) a + S1x1x32x1024.size a ≤ S1x108x32x1024.size a)
theorem k0_off193_inb : ∀ (v3504 : BitVec 32) (k0_hw193 : k0_chk193 v3504), ∀ a, (k0_off193 v3504) a + S1x1x32x1024.size a ≤ S1x108x32x1024.size a := fun v3504 k0_hw193 => k0_hw193

def k0_off194 (v3508 : BitVec 32) : Fin 4 → Nat :=
  let c0_3159 : Index := 0#32
  let v3509 : Index := Scalar.indexCast v3508
  let c0_3160 : Index := 0#32
  let c0_3161 : Index := 0#32
  ![0, v3509.toNat, 0, 0]

def k0_chk194 (v3508 : BitVec 32) : Prop :=
  (∀ a, (k0_off194 v3508) a + S1x1x32x1024.size a ≤ S1x108x32x1024.size a)
theorem k0_off194_inb : ∀ (v3508 : BitVec 32) (k0_hw194 : k0_chk194 v3508), ∀ a, (k0_off194 v3508) a + S1x1x32x1024.size a ≤ S1x108x32x1024.size a := fun v3508 k0_hw194 => k0_hw194

def k0_off195 (v3527 : BitVec 32) : Fin 4 → Nat :=
  let c0_3176 : Index := 0#32
  let v3528 : Index := Scalar.indexCast v3527
  let c0_3177 : Index := 0#32
  let c0_3178 : Index := 0#32
  ![0, v3528.toNat, 0, 0]

def k0_chk195 (v3527 : BitVec 32) : Prop :=
  (∀ a, (k0_off195 v3527) a + S1x1x32x1024.size a ≤ S1x108x32x1024.size a)
theorem k0_off195_inb : ∀ (v3527 : BitVec 32) (k0_hw195 : k0_chk195 v3527), ∀ a, (k0_off195 v3527) a + S1x1x32x1024.size a ≤ S1x108x32x1024.size a := fun v3527 k0_hw195 => k0_hw195

def k0_off196 (v3531 : BitVec 32) : Fin 4 → Nat :=
  let c0_3181 : Index := 0#32
  let v3532 : Index := Scalar.indexCast v3531
  let c0_3182 : Index := 0#32
  let c0_3183 : Index := 0#32
  ![0, v3532.toNat, 0, 0]

def k0_chk196 (v3531 : BitVec 32) : Prop :=
  (∀ a, (k0_off196 v3531) a + S1x1x32x1024.size a ≤ S1x108x32x1024.size a)
theorem k0_off196_inb : ∀ (v3531 : BitVec 32) (k0_hw196 : k0_chk196 v3531), ∀ a, (k0_off196 v3531) a + S1x1x32x1024.size a ≤ S1x108x32x1024.size a := fun v3531 k0_hw196 => k0_hw196

def k0_off197 (v3550 : BitVec 32) : Fin 4 → Nat :=
  let c0_3198 : Index := 0#32
  let v3551 : Index := Scalar.indexCast v3550
  let c0_3199 : Index := 0#32
  let c0_3200 : Index := 0#32
  ![0, v3551.toNat, 0, 0]

def k0_chk197 (v3550 : BitVec 32) : Prop :=
  (∀ a, (k0_off197 v3550) a + S1x1x32x1024.size a ≤ S1x108x32x1024.size a)
theorem k0_off197_inb : ∀ (v3550 : BitVec 32) (k0_hw197 : k0_chk197 v3550), ∀ a, (k0_off197 v3550) a + S1x1x32x1024.size a ≤ S1x108x32x1024.size a := fun v3550 k0_hw197 => k0_hw197

def k0_off198 (v3554 : BitVec 32) : Fin 4 → Nat :=
  let c0_3203 : Index := 0#32
  let v3555 : Index := Scalar.indexCast v3554
  let c0_3204 : Index := 0#32
  let c0_3205 : Index := 0#32
  ![0, v3555.toNat, 0, 0]

def k0_chk198 (v3554 : BitVec 32) : Prop :=
  (∀ a, (k0_off198 v3554) a + S1x1x32x1024.size a ≤ S1x108x32x1024.size a)
theorem k0_off198_inb : ∀ (v3554 : BitVec 32) (k0_hw198 : k0_chk198 v3554), ∀ a, (k0_off198 v3554) a + S1x1x32x1024.size a ≤ S1x108x32x1024.size a := fun v3554 k0_hw198 => k0_hw198

def k0_off199 (v3573 : BitVec 32) : Fin 4 → Nat :=
  let c0_3220 : Index := 0#32
  let v3574 : Index := Scalar.indexCast v3573
  let c0_3221 : Index := 0#32
  let c0_3222 : Index := 0#32
  ![0, v3574.toNat, 0, 0]

def k0_chk199 (v3573 : BitVec 32) : Prop :=
  (∀ a, (k0_off199 v3573) a + S1x1x32x1024.size a ≤ S1x108x32x1024.size a)
theorem k0_off199_inb : ∀ (v3573 : BitVec 32) (k0_hw199 : k0_chk199 v3573), ∀ a, (k0_off199 v3573) a + S1x1x32x1024.size a ≤ S1x108x32x1024.size a := fun v3573 k0_hw199 => k0_hw199

def k0_off200 (v3577 : BitVec 32) : Fin 4 → Nat :=
  let c0_3225 : Index := 0#32
  let v3578 : Index := Scalar.indexCast v3577
  let c0_3226 : Index := 0#32
  let c0_3227 : Index := 0#32
  ![0, v3578.toNat, 0, 0]

def k0_chk200 (v3577 : BitVec 32) : Prop :=
  (∀ a, (k0_off200 v3577) a + S1x1x32x1024.size a ≤ S1x108x32x1024.size a)
theorem k0_off200_inb : ∀ (v3577 : BitVec 32) (k0_hw200 : k0_chk200 v3577), ∀ a, (k0_off200 v3577) a + S1x1x32x1024.size a ≤ S1x108x32x1024.size a := fun v3577 k0_hw200 => k0_hw200

def k0_off201 (v3596 : BitVec 32) : Fin 4 → Nat :=
  let c0_3242 : Index := 0#32
  let v3597 : Index := Scalar.indexCast v3596
  let c0_3243 : Index := 0#32
  let c0_3244 : Index := 0#32
  ![0, v3597.toNat, 0, 0]

def k0_chk201 (v3596 : BitVec 32) : Prop :=
  (∀ a, (k0_off201 v3596) a + S1x1x32x1024.size a ≤ S1x108x32x1024.size a)
theorem k0_off201_inb : ∀ (v3596 : BitVec 32) (k0_hw201 : k0_chk201 v3596), ∀ a, (k0_off201 v3596) a + S1x1x32x1024.size a ≤ S1x108x32x1024.size a := fun v3596 k0_hw201 => k0_hw201

def k0_off202 (v3600 : BitVec 32) : Fin 4 → Nat :=
  let c0_3247 : Index := 0#32
  let v3601 : Index := Scalar.indexCast v3600
  let c0_3248 : Index := 0#32
  let c0_3249 : Index := 0#32
  ![0, v3601.toNat, 0, 0]

def k0_chk202 (v3600 : BitVec 32) : Prop :=
  (∀ a, (k0_off202 v3600) a + S1x1x32x1024.size a ≤ S1x108x32x1024.size a)
theorem k0_off202_inb : ∀ (v3600 : BitVec 32) (k0_hw202 : k0_chk202 v3600), ∀ a, (k0_off202 v3600) a + S1x1x32x1024.size a ≤ S1x108x32x1024.size a := fun v3600 k0_hw202 => k0_hw202

def k0_off203 (v3619 : BitVec 32) : Fin 4 → Nat :=
  let c0_3264 : Index := 0#32
  let v3620 : Index := Scalar.indexCast v3619
  let c0_3265 : Index := 0#32
  let c0_3266 : Index := 0#32
  ![0, v3620.toNat, 0, 0]

def k0_chk203 (v3619 : BitVec 32) : Prop :=
  (∀ a, (k0_off203 v3619) a + S1x1x32x1024.size a ≤ S1x108x32x1024.size a)
theorem k0_off203_inb : ∀ (v3619 : BitVec 32) (k0_hw203 : k0_chk203 v3619), ∀ a, (k0_off203 v3619) a + S1x1x32x1024.size a ≤ S1x108x32x1024.size a := fun v3619 k0_hw203 => k0_hw203

def k0_off204 (v3623 : BitVec 32) : Fin 4 → Nat :=
  let c0_3269 : Index := 0#32
  let v3624 : Index := Scalar.indexCast v3623
  let c0_3270 : Index := 0#32
  let c0_3271 : Index := 0#32
  ![0, v3624.toNat, 0, 0]

def k0_chk204 (v3623 : BitVec 32) : Prop :=
  (∀ a, (k0_off204 v3623) a + S1x1x32x1024.size a ≤ S1x108x32x1024.size a)
theorem k0_off204_inb : ∀ (v3623 : BitVec 32) (k0_hw204 : k0_chk204 v3623), ∀ a, (k0_off204 v3623) a + S1x1x32x1024.size a ≤ S1x108x32x1024.size a := fun v3623 k0_hw204 => k0_hw204

def k0_off205 (v3642 : BitVec 32) : Fin 4 → Nat :=
  let c0_3286 : Index := 0#32
  let v3643 : Index := Scalar.indexCast v3642
  let c0_3287 : Index := 0#32
  let c0_3288 : Index := 0#32
  ![0, v3643.toNat, 0, 0]

def k0_chk205 (v3642 : BitVec 32) : Prop :=
  (∀ a, (k0_off205 v3642) a + S1x1x32x1024.size a ≤ S1x108x32x1024.size a)
theorem k0_off205_inb : ∀ (v3642 : BitVec 32) (k0_hw205 : k0_chk205 v3642), ∀ a, (k0_off205 v3642) a + S1x1x32x1024.size a ≤ S1x108x32x1024.size a := fun v3642 k0_hw205 => k0_hw205

def k0_off206 (v3646 : BitVec 32) : Fin 4 → Nat :=
  let c0_3291 : Index := 0#32
  let v3647 : Index := Scalar.indexCast v3646
  let c0_3292 : Index := 0#32
  let c0_3293 : Index := 0#32
  ![0, v3647.toNat, 0, 0]

def k0_chk206 (v3646 : BitVec 32) : Prop :=
  (∀ a, (k0_off206 v3646) a + S1x1x32x1024.size a ≤ S1x108x32x1024.size a)
theorem k0_off206_inb : ∀ (v3646 : BitVec 32) (k0_hw206 : k0_chk206 v3646), ∀ a, (k0_off206 v3646) a + S1x1x32x1024.size a ≤ S1x108x32x1024.size a := fun v3646 k0_hw206 => k0_hw206

def k0_off207 (v3665 : BitVec 32) : Fin 4 → Nat :=
  let c0_3308 : Index := 0#32
  let v3666 : Index := Scalar.indexCast v3665
  let c0_3309 : Index := 0#32
  let c0_3310 : Index := 0#32
  ![0, v3666.toNat, 0, 0]

def k0_chk207 (v3665 : BitVec 32) : Prop :=
  (∀ a, (k0_off207 v3665) a + S1x1x32x1024.size a ≤ S1x108x32x1024.size a)
theorem k0_off207_inb : ∀ (v3665 : BitVec 32) (k0_hw207 : k0_chk207 v3665), ∀ a, (k0_off207 v3665) a + S1x1x32x1024.size a ≤ S1x108x32x1024.size a := fun v3665 k0_hw207 => k0_hw207

def k0_off208 (v3669 : BitVec 32) : Fin 4 → Nat :=
  let c0_3313 : Index := 0#32
  let v3670 : Index := Scalar.indexCast v3669
  let c0_3314 : Index := 0#32
  let c0_3315 : Index := 0#32
  ![0, v3670.toNat, 0, 0]

def k0_chk208 (v3669 : BitVec 32) : Prop :=
  (∀ a, (k0_off208 v3669) a + S1x1x32x1024.size a ≤ S1x108x32x1024.size a)
theorem k0_off208_inb : ∀ (v3669 : BitVec 32) (k0_hw208 : k0_chk208 v3669), ∀ a, (k0_off208 v3669) a + S1x1x32x1024.size a ≤ S1x108x32x1024.size a := fun v3669 k0_hw208 => k0_hw208

def k0_off209 (v3796 : BitVec 32) : Fin 4 → Nat :=
  let c0_3418 : Index := 0#32
  let v3797 : Index := Scalar.indexCast v3796
  let c0_3419 : Index := 0#32
  let c0_3420 : Index := 0#32
  ![0, v3797.toNat, 0, 0]

def k0_chk209 (v3796 : BitVec 32) : Prop :=
  (∀ a, (k0_off209 v3796) a + S1x1x32x1024.size a ≤ S1x108x32x1024.size a)
theorem k0_off209_inb : ∀ (v3796 : BitVec 32) (k0_hw209 : k0_chk209 v3796), ∀ a, (k0_off209 v3796) a + S1x1x32x1024.size a ≤ S1x108x32x1024.size a := fun v3796 k0_hw209 => k0_hw209

def k0_off210 (v3800 : BitVec 32) : Fin 4 → Nat :=
  let c0_3423 : Index := 0#32
  let v3801 : Index := Scalar.indexCast v3800
  let c0_3424 : Index := 0#32
  let c0_3425 : Index := 0#32
  ![0, v3801.toNat, 0, 0]

def k0_chk210 (v3800 : BitVec 32) : Prop :=
  (∀ a, (k0_off210 v3800) a + S1x1x32x1024.size a ≤ S1x108x32x1024.size a)
theorem k0_off210_inb : ∀ (v3800 : BitVec 32) (k0_hw210 : k0_chk210 v3800), ∀ a, (k0_off210 v3800) a + S1x1x32x1024.size a ≤ S1x108x32x1024.size a := fun v3800 k0_hw210 => k0_hw210

def k0_off211 (v3819 : BitVec 32) : Fin 4 → Nat :=
  let c0_3440 : Index := 0#32
  let v3820 : Index := Scalar.indexCast v3819
  let c0_3441 : Index := 0#32
  let c0_3442 : Index := 0#32
  ![0, v3820.toNat, 0, 0]

def k0_chk211 (v3819 : BitVec 32) : Prop :=
  (∀ a, (k0_off211 v3819) a + S1x1x32x1024.size a ≤ S1x108x32x1024.size a)
theorem k0_off211_inb : ∀ (v3819 : BitVec 32) (k0_hw211 : k0_chk211 v3819), ∀ a, (k0_off211 v3819) a + S1x1x32x1024.size a ≤ S1x108x32x1024.size a := fun v3819 k0_hw211 => k0_hw211

def k0_off212 (v3823 : BitVec 32) : Fin 4 → Nat :=
  let c0_3445 : Index := 0#32
  let v3824 : Index := Scalar.indexCast v3823
  let c0_3446 : Index := 0#32
  let c0_3447 : Index := 0#32
  ![0, v3824.toNat, 0, 0]

def k0_chk212 (v3823 : BitVec 32) : Prop :=
  (∀ a, (k0_off212 v3823) a + S1x1x32x1024.size a ≤ S1x108x32x1024.size a)
theorem k0_off212_inb : ∀ (v3823 : BitVec 32) (k0_hw212 : k0_chk212 v3823), ∀ a, (k0_off212 v3823) a + S1x1x32x1024.size a ≤ S1x108x32x1024.size a := fun v3823 k0_hw212 => k0_hw212

def k0_off213 (v3842 : BitVec 32) : Fin 4 → Nat :=
  let c0_3462 : Index := 0#32
  let v3843 : Index := Scalar.indexCast v3842
  let c0_3463 : Index := 0#32
  let c0_3464 : Index := 0#32
  ![0, v3843.toNat, 0, 0]

def k0_chk213 (v3842 : BitVec 32) : Prop :=
  (∀ a, (k0_off213 v3842) a + S1x1x32x1024.size a ≤ S1x108x32x1024.size a)
theorem k0_off213_inb : ∀ (v3842 : BitVec 32) (k0_hw213 : k0_chk213 v3842), ∀ a, (k0_off213 v3842) a + S1x1x32x1024.size a ≤ S1x108x32x1024.size a := fun v3842 k0_hw213 => k0_hw213

def k0_off214 (v3846 : BitVec 32) : Fin 4 → Nat :=
  let c0_3467 : Index := 0#32
  let v3847 : Index := Scalar.indexCast v3846
  let c0_3468 : Index := 0#32
  let c0_3469 : Index := 0#32
  ![0, v3847.toNat, 0, 0]

def k0_chk214 (v3846 : BitVec 32) : Prop :=
  (∀ a, (k0_off214 v3846) a + S1x1x32x1024.size a ≤ S1x108x32x1024.size a)
theorem k0_off214_inb : ∀ (v3846 : BitVec 32) (k0_hw214 : k0_chk214 v3846), ∀ a, (k0_off214 v3846) a + S1x1x32x1024.size a ≤ S1x108x32x1024.size a := fun v3846 k0_hw214 => k0_hw214

def k0_off215 (v3865 : BitVec 32) : Fin 4 → Nat :=
  let c0_3484 : Index := 0#32
  let v3866 : Index := Scalar.indexCast v3865
  let c0_3485 : Index := 0#32
  let c0_3486 : Index := 0#32
  ![0, v3866.toNat, 0, 0]

def k0_chk215 (v3865 : BitVec 32) : Prop :=
  (∀ a, (k0_off215 v3865) a + S1x1x32x1024.size a ≤ S1x108x32x1024.size a)
theorem k0_off215_inb : ∀ (v3865 : BitVec 32) (k0_hw215 : k0_chk215 v3865), ∀ a, (k0_off215 v3865) a + S1x1x32x1024.size a ≤ S1x108x32x1024.size a := fun v3865 k0_hw215 => k0_hw215

def k0_off216 (v3869 : BitVec 32) : Fin 4 → Nat :=
  let c0_3489 : Index := 0#32
  let v3870 : Index := Scalar.indexCast v3869
  let c0_3490 : Index := 0#32
  let c0_3491 : Index := 0#32
  ![0, v3870.toNat, 0, 0]

def k0_chk216 (v3869 : BitVec 32) : Prop :=
  (∀ a, (k0_off216 v3869) a + S1x1x32x1024.size a ≤ S1x108x32x1024.size a)
theorem k0_off216_inb : ∀ (v3869 : BitVec 32) (k0_hw216 : k0_chk216 v3869), ∀ a, (k0_off216 v3869) a + S1x1x32x1024.size a ≤ S1x108x32x1024.size a := fun v3869 k0_hw216 => k0_hw216

def k0_off217 (v3888 : BitVec 32) : Fin 4 → Nat :=
  let c0_3506 : Index := 0#32
  let v3889 : Index := Scalar.indexCast v3888
  let c0_3507 : Index := 0#32
  let c0_3508 : Index := 0#32
  ![0, v3889.toNat, 0, 0]

def k0_chk217 (v3888 : BitVec 32) : Prop :=
  (∀ a, (k0_off217 v3888) a + S1x1x32x1024.size a ≤ S1x108x32x1024.size a)
theorem k0_off217_inb : ∀ (v3888 : BitVec 32) (k0_hw217 : k0_chk217 v3888), ∀ a, (k0_off217 v3888) a + S1x1x32x1024.size a ≤ S1x108x32x1024.size a := fun v3888 k0_hw217 => k0_hw217

def k0_off218 (v3892 : BitVec 32) : Fin 4 → Nat :=
  let c0_3511 : Index := 0#32
  let v3893 : Index := Scalar.indexCast v3892
  let c0_3512 : Index := 0#32
  let c0_3513 : Index := 0#32
  ![0, v3893.toNat, 0, 0]

def k0_chk218 (v3892 : BitVec 32) : Prop :=
  (∀ a, (k0_off218 v3892) a + S1x1x32x1024.size a ≤ S1x108x32x1024.size a)
theorem k0_off218_inb : ∀ (v3892 : BitVec 32) (k0_hw218 : k0_chk218 v3892), ∀ a, (k0_off218 v3892) a + S1x1x32x1024.size a ≤ S1x108x32x1024.size a := fun v3892 k0_hw218 => k0_hw218

def k0_off219 (v3911 : BitVec 32) : Fin 4 → Nat :=
  let c0_3528 : Index := 0#32
  let v3912 : Index := Scalar.indexCast v3911
  let c0_3529 : Index := 0#32
  let c0_3530 : Index := 0#32
  ![0, v3912.toNat, 0, 0]

def k0_chk219 (v3911 : BitVec 32) : Prop :=
  (∀ a, (k0_off219 v3911) a + S1x1x32x1024.size a ≤ S1x108x32x1024.size a)
theorem k0_off219_inb : ∀ (v3911 : BitVec 32) (k0_hw219 : k0_chk219 v3911), ∀ a, (k0_off219 v3911) a + S1x1x32x1024.size a ≤ S1x108x32x1024.size a := fun v3911 k0_hw219 => k0_hw219

def k0_off220 (v3915 : BitVec 32) : Fin 4 → Nat :=
  let c0_3533 : Index := 0#32
  let v3916 : Index := Scalar.indexCast v3915
  let c0_3534 : Index := 0#32
  let c0_3535 : Index := 0#32
  ![0, v3916.toNat, 0, 0]

def k0_chk220 (v3915 : BitVec 32) : Prop :=
  (∀ a, (k0_off220 v3915) a + S1x1x32x1024.size a ≤ S1x108x32x1024.size a)
theorem k0_off220_inb : ∀ (v3915 : BitVec 32) (k0_hw220 : k0_chk220 v3915), ∀ a, (k0_off220 v3915) a + S1x1x32x1024.size a ≤ S1x108x32x1024.size a := fun v3915 k0_hw220 => k0_hw220

def k0_off221 (v3934 : BitVec 32) : Fin 4 → Nat :=
  let c0_3550 : Index := 0#32
  let v3935 : Index := Scalar.indexCast v3934
  let c0_3551 : Index := 0#32
  let c0_3552 : Index := 0#32
  ![0, v3935.toNat, 0, 0]

def k0_chk221 (v3934 : BitVec 32) : Prop :=
  (∀ a, (k0_off221 v3934) a + S1x1x32x1024.size a ≤ S1x108x32x1024.size a)
theorem k0_off221_inb : ∀ (v3934 : BitVec 32) (k0_hw221 : k0_chk221 v3934), ∀ a, (k0_off221 v3934) a + S1x1x32x1024.size a ≤ S1x108x32x1024.size a := fun v3934 k0_hw221 => k0_hw221

def k0_off222 (v3938 : BitVec 32) : Fin 4 → Nat :=
  let c0_3555 : Index := 0#32
  let v3939 : Index := Scalar.indexCast v3938
  let c0_3556 : Index := 0#32
  let c0_3557 : Index := 0#32
  ![0, v3939.toNat, 0, 0]

def k0_chk222 (v3938 : BitVec 32) : Prop :=
  (∀ a, (k0_off222 v3938) a + S1x1x32x1024.size a ≤ S1x108x32x1024.size a)
theorem k0_off222_inb : ∀ (v3938 : BitVec 32) (k0_hw222 : k0_chk222 v3938), ∀ a, (k0_off222 v3938) a + S1x1x32x1024.size a ≤ S1x108x32x1024.size a := fun v3938 k0_hw222 => k0_hw222

def k0_off223 (v3957 : BitVec 32) : Fin 4 → Nat :=
  let c0_3572 : Index := 0#32
  let v3958 : Index := Scalar.indexCast v3957
  let c0_3573 : Index := 0#32
  let c0_3574 : Index := 0#32
  ![0, v3958.toNat, 0, 0]

def k0_chk223 (v3957 : BitVec 32) : Prop :=
  (∀ a, (k0_off223 v3957) a + S1x1x32x1024.size a ≤ S1x108x32x1024.size a)
theorem k0_off223_inb : ∀ (v3957 : BitVec 32) (k0_hw223 : k0_chk223 v3957), ∀ a, (k0_off223 v3957) a + S1x1x32x1024.size a ≤ S1x108x32x1024.size a := fun v3957 k0_hw223 => k0_hw223

def k0_off224 (v3961 : BitVec 32) : Fin 4 → Nat :=
  let c0_3577 : Index := 0#32
  let v3962 : Index := Scalar.indexCast v3961
  let c0_3578 : Index := 0#32
  let c0_3579 : Index := 0#32
  ![0, v3962.toNat, 0, 0]

def k0_chk224 (v3961 : BitVec 32) : Prop :=
  (∀ a, (k0_off224 v3961) a + S1x1x32x1024.size a ≤ S1x108x32x1024.size a)
theorem k0_off224_inb : ∀ (v3961 : BitVec 32) (k0_hw224 : k0_chk224 v3961), ∀ a, (k0_off224 v3961) a + S1x1x32x1024.size a ≤ S1x108x32x1024.size a := fun v3961 k0_hw224 => k0_hw224

def k0_off225 (v4088 : BitVec 32) : Fin 4 → Nat :=
  let c0_3682 : Index := 0#32
  let v4089 : Index := Scalar.indexCast v4088
  let c0_3683 : Index := 0#32
  let c0_3684 : Index := 0#32
  ![0, v4089.toNat, 0, 0]

def k0_chk225 (v4088 : BitVec 32) : Prop :=
  (∀ a, (k0_off225 v4088) a + S1x1x32x1024.size a ≤ S1x108x32x1024.size a)
theorem k0_off225_inb : ∀ (v4088 : BitVec 32) (k0_hw225 : k0_chk225 v4088), ∀ a, (k0_off225 v4088) a + S1x1x32x1024.size a ≤ S1x108x32x1024.size a := fun v4088 k0_hw225 => k0_hw225

def k0_off226 (v4092 : BitVec 32) : Fin 4 → Nat :=
  let c0_3687 : Index := 0#32
  let v4093 : Index := Scalar.indexCast v4092
  let c0_3688 : Index := 0#32
  let c0_3689 : Index := 0#32
  ![0, v4093.toNat, 0, 0]

def k0_chk226 (v4092 : BitVec 32) : Prop :=
  (∀ a, (k0_off226 v4092) a + S1x1x32x1024.size a ≤ S1x108x32x1024.size a)
theorem k0_off226_inb : ∀ (v4092 : BitVec 32) (k0_hw226 : k0_chk226 v4092), ∀ a, (k0_off226 v4092) a + S1x1x32x1024.size a ≤ S1x108x32x1024.size a := fun v4092 k0_hw226 => k0_hw226

def k0_off227 (v4111 : BitVec 32) : Fin 4 → Nat :=
  let c0_3704 : Index := 0#32
  let v4112 : Index := Scalar.indexCast v4111
  let c0_3705 : Index := 0#32
  let c0_3706 : Index := 0#32
  ![0, v4112.toNat, 0, 0]

def k0_chk227 (v4111 : BitVec 32) : Prop :=
  (∀ a, (k0_off227 v4111) a + S1x1x32x1024.size a ≤ S1x108x32x1024.size a)
theorem k0_off227_inb : ∀ (v4111 : BitVec 32) (k0_hw227 : k0_chk227 v4111), ∀ a, (k0_off227 v4111) a + S1x1x32x1024.size a ≤ S1x108x32x1024.size a := fun v4111 k0_hw227 => k0_hw227

def k0_off228 (v4115 : BitVec 32) : Fin 4 → Nat :=
  let c0_3709 : Index := 0#32
  let v4116 : Index := Scalar.indexCast v4115
  let c0_3710 : Index := 0#32
  let c0_3711 : Index := 0#32
  ![0, v4116.toNat, 0, 0]

def k0_chk228 (v4115 : BitVec 32) : Prop :=
  (∀ a, (k0_off228 v4115) a + S1x1x32x1024.size a ≤ S1x108x32x1024.size a)
theorem k0_off228_inb : ∀ (v4115 : BitVec 32) (k0_hw228 : k0_chk228 v4115), ∀ a, (k0_off228 v4115) a + S1x1x32x1024.size a ≤ S1x108x32x1024.size a := fun v4115 k0_hw228 => k0_hw228

def k0_off229 (v4134 : BitVec 32) : Fin 4 → Nat :=
  let c0_3726 : Index := 0#32
  let v4135 : Index := Scalar.indexCast v4134
  let c0_3727 : Index := 0#32
  let c0_3728 : Index := 0#32
  ![0, v4135.toNat, 0, 0]

def k0_chk229 (v4134 : BitVec 32) : Prop :=
  (∀ a, (k0_off229 v4134) a + S1x1x32x1024.size a ≤ S1x108x32x1024.size a)
theorem k0_off229_inb : ∀ (v4134 : BitVec 32) (k0_hw229 : k0_chk229 v4134), ∀ a, (k0_off229 v4134) a + S1x1x32x1024.size a ≤ S1x108x32x1024.size a := fun v4134 k0_hw229 => k0_hw229

def k0_off230 (v4138 : BitVec 32) : Fin 4 → Nat :=
  let c0_3731 : Index := 0#32
  let v4139 : Index := Scalar.indexCast v4138
  let c0_3732 : Index := 0#32
  let c0_3733 : Index := 0#32
  ![0, v4139.toNat, 0, 0]

def k0_chk230 (v4138 : BitVec 32) : Prop :=
  (∀ a, (k0_off230 v4138) a + S1x1x32x1024.size a ≤ S1x108x32x1024.size a)
theorem k0_off230_inb : ∀ (v4138 : BitVec 32) (k0_hw230 : k0_chk230 v4138), ∀ a, (k0_off230 v4138) a + S1x1x32x1024.size a ≤ S1x108x32x1024.size a := fun v4138 k0_hw230 => k0_hw230

def k0_off231 (v4157 : BitVec 32) : Fin 4 → Nat :=
  let c0_3748 : Index := 0#32
  let v4158 : Index := Scalar.indexCast v4157
  let c0_3749 : Index := 0#32
  let c0_3750 : Index := 0#32
  ![0, v4158.toNat, 0, 0]

def k0_chk231 (v4157 : BitVec 32) : Prop :=
  (∀ a, (k0_off231 v4157) a + S1x1x32x1024.size a ≤ S1x108x32x1024.size a)
theorem k0_off231_inb : ∀ (v4157 : BitVec 32) (k0_hw231 : k0_chk231 v4157), ∀ a, (k0_off231 v4157) a + S1x1x32x1024.size a ≤ S1x108x32x1024.size a := fun v4157 k0_hw231 => k0_hw231

def k0_off232 (v4161 : BitVec 32) : Fin 4 → Nat :=
  let c0_3753 : Index := 0#32
  let v4162 : Index := Scalar.indexCast v4161
  let c0_3754 : Index := 0#32
  let c0_3755 : Index := 0#32
  ![0, v4162.toNat, 0, 0]

def k0_chk232 (v4161 : BitVec 32) : Prop :=
  (∀ a, (k0_off232 v4161) a + S1x1x32x1024.size a ≤ S1x108x32x1024.size a)
theorem k0_off232_inb : ∀ (v4161 : BitVec 32) (k0_hw232 : k0_chk232 v4161), ∀ a, (k0_off232 v4161) a + S1x1x32x1024.size a ≤ S1x108x32x1024.size a := fun v4161 k0_hw232 => k0_hw232

def k0_off233 (v4180 : BitVec 32) : Fin 4 → Nat :=
  let c0_3770 : Index := 0#32
  let v4181 : Index := Scalar.indexCast v4180
  let c0_3771 : Index := 0#32
  let c0_3772 : Index := 0#32
  ![0, v4181.toNat, 0, 0]

def k0_chk233 (v4180 : BitVec 32) : Prop :=
  (∀ a, (k0_off233 v4180) a + S1x1x32x1024.size a ≤ S1x108x32x1024.size a)
theorem k0_off233_inb : ∀ (v4180 : BitVec 32) (k0_hw233 : k0_chk233 v4180), ∀ a, (k0_off233 v4180) a + S1x1x32x1024.size a ≤ S1x108x32x1024.size a := fun v4180 k0_hw233 => k0_hw233

def k0_off234 (v4184 : BitVec 32) : Fin 4 → Nat :=
  let c0_3775 : Index := 0#32
  let v4185 : Index := Scalar.indexCast v4184
  let c0_3776 : Index := 0#32
  let c0_3777 : Index := 0#32
  ![0, v4185.toNat, 0, 0]

def k0_chk234 (v4184 : BitVec 32) : Prop :=
  (∀ a, (k0_off234 v4184) a + S1x1x32x1024.size a ≤ S1x108x32x1024.size a)
theorem k0_off234_inb : ∀ (v4184 : BitVec 32) (k0_hw234 : k0_chk234 v4184), ∀ a, (k0_off234 v4184) a + S1x1x32x1024.size a ≤ S1x108x32x1024.size a := fun v4184 k0_hw234 => k0_hw234

def k0_off235 (v4203 : BitVec 32) : Fin 4 → Nat :=
  let c0_3792 : Index := 0#32
  let v4204 : Index := Scalar.indexCast v4203
  let c0_3793 : Index := 0#32
  let c0_3794 : Index := 0#32
  ![0, v4204.toNat, 0, 0]

def k0_chk235 (v4203 : BitVec 32) : Prop :=
  (∀ a, (k0_off235 v4203) a + S1x1x32x1024.size a ≤ S1x108x32x1024.size a)
theorem k0_off235_inb : ∀ (v4203 : BitVec 32) (k0_hw235 : k0_chk235 v4203), ∀ a, (k0_off235 v4203) a + S1x1x32x1024.size a ≤ S1x108x32x1024.size a := fun v4203 k0_hw235 => k0_hw235

def k0_off236 (v4207 : BitVec 32) : Fin 4 → Nat :=
  let c0_3797 : Index := 0#32
  let v4208 : Index := Scalar.indexCast v4207
  let c0_3798 : Index := 0#32
  let c0_3799 : Index := 0#32
  ![0, v4208.toNat, 0, 0]

def k0_chk236 (v4207 : BitVec 32) : Prop :=
  (∀ a, (k0_off236 v4207) a + S1x1x32x1024.size a ≤ S1x108x32x1024.size a)
theorem k0_off236_inb : ∀ (v4207 : BitVec 32) (k0_hw236 : k0_chk236 v4207), ∀ a, (k0_off236 v4207) a + S1x1x32x1024.size a ≤ S1x108x32x1024.size a := fun v4207 k0_hw236 => k0_hw236

def k0_off237 (v4226 : BitVec 32) : Fin 4 → Nat :=
  let c0_3814 : Index := 0#32
  let v4227 : Index := Scalar.indexCast v4226
  let c0_3815 : Index := 0#32
  let c0_3816 : Index := 0#32
  ![0, v4227.toNat, 0, 0]

def k0_chk237 (v4226 : BitVec 32) : Prop :=
  (∀ a, (k0_off237 v4226) a + S1x1x32x1024.size a ≤ S1x108x32x1024.size a)
theorem k0_off237_inb : ∀ (v4226 : BitVec 32) (k0_hw237 : k0_chk237 v4226), ∀ a, (k0_off237 v4226) a + S1x1x32x1024.size a ≤ S1x108x32x1024.size a := fun v4226 k0_hw237 => k0_hw237

def k0_off238 (v4230 : BitVec 32) : Fin 4 → Nat :=
  let c0_3819 : Index := 0#32
  let v4231 : Index := Scalar.indexCast v4230
  let c0_3820 : Index := 0#32
  let c0_3821 : Index := 0#32
  ![0, v4231.toNat, 0, 0]

def k0_chk238 (v4230 : BitVec 32) : Prop :=
  (∀ a, (k0_off238 v4230) a + S1x1x32x1024.size a ≤ S1x108x32x1024.size a)
theorem k0_off238_inb : ∀ (v4230 : BitVec 32) (k0_hw238 : k0_chk238 v4230), ∀ a, (k0_off238 v4230) a + S1x1x32x1024.size a ≤ S1x108x32x1024.size a := fun v4230 k0_hw238 => k0_hw238

def k0_off239 (v4249 : BitVec 32) : Fin 4 → Nat :=
  let c0_3836 : Index := 0#32
  let v4250 : Index := Scalar.indexCast v4249
  let c0_3837 : Index := 0#32
  let c0_3838 : Index := 0#32
  ![0, v4250.toNat, 0, 0]

def k0_chk239 (v4249 : BitVec 32) : Prop :=
  (∀ a, (k0_off239 v4249) a + S1x1x32x1024.size a ≤ S1x108x32x1024.size a)
theorem k0_off239_inb : ∀ (v4249 : BitVec 32) (k0_hw239 : k0_chk239 v4249), ∀ a, (k0_off239 v4249) a + S1x1x32x1024.size a ≤ S1x108x32x1024.size a := fun v4249 k0_hw239 => k0_hw239

def k0_off240 (v4253 : BitVec 32) : Fin 4 → Nat :=
  let c0_3841 : Index := 0#32
  let v4254 : Index := Scalar.indexCast v4253
  let c0_3842 : Index := 0#32
  let c0_3843 : Index := 0#32
  ![0, v4254.toNat, 0, 0]

def k0_chk240 (v4253 : BitVec 32) : Prop :=
  (∀ a, (k0_off240 v4253) a + S1x1x32x1024.size a ≤ S1x108x32x1024.size a)
theorem k0_off240_inb : ∀ (v4253 : BitVec 32) (k0_hw240 : k0_chk240 v4253), ∀ a, (k0_off240 v4253) a + S1x1x32x1024.size a ≤ S1x108x32x1024.size a := fun v4253 k0_hw240 => k0_hw240

def k0_off241 (v4380 : BitVec 32) : Fin 4 → Nat :=
  let c0_3946 : Index := 0#32
  let v4381 : Index := Scalar.indexCast v4380
  let c0_3947 : Index := 0#32
  let c0_3948 : Index := 0#32
  ![0, v4381.toNat, 0, 0]

def k0_chk241 (v4380 : BitVec 32) : Prop :=
  (∀ a, (k0_off241 v4380) a + S1x1x32x1024.size a ≤ S1x108x32x1024.size a)
theorem k0_off241_inb : ∀ (v4380 : BitVec 32) (k0_hw241 : k0_chk241 v4380), ∀ a, (k0_off241 v4380) a + S1x1x32x1024.size a ≤ S1x108x32x1024.size a := fun v4380 k0_hw241 => k0_hw241

def k0_off242 (v4384 : BitVec 32) : Fin 4 → Nat :=
  let c0_3951 : Index := 0#32
  let v4385 : Index := Scalar.indexCast v4384
  let c0_3952 : Index := 0#32
  let c0_3953 : Index := 0#32
  ![0, v4385.toNat, 0, 0]

def k0_chk242 (v4384 : BitVec 32) : Prop :=
  (∀ a, (k0_off242 v4384) a + S1x1x32x1024.size a ≤ S1x108x32x1024.size a)
theorem k0_off242_inb : ∀ (v4384 : BitVec 32) (k0_hw242 : k0_chk242 v4384), ∀ a, (k0_off242 v4384) a + S1x1x32x1024.size a ≤ S1x108x32x1024.size a := fun v4384 k0_hw242 => k0_hw242

def k0_off243 (v4403 : BitVec 32) : Fin 4 → Nat :=
  let c0_3968 : Index := 0#32
  let v4404 : Index := Scalar.indexCast v4403
  let c0_3969 : Index := 0#32
  let c0_3970 : Index := 0#32
  ![0, v4404.toNat, 0, 0]

def k0_chk243 (v4403 : BitVec 32) : Prop :=
  (∀ a, (k0_off243 v4403) a + S1x1x32x1024.size a ≤ S1x108x32x1024.size a)
theorem k0_off243_inb : ∀ (v4403 : BitVec 32) (k0_hw243 : k0_chk243 v4403), ∀ a, (k0_off243 v4403) a + S1x1x32x1024.size a ≤ S1x108x32x1024.size a := fun v4403 k0_hw243 => k0_hw243

def k0_off244 (v4407 : BitVec 32) : Fin 4 → Nat :=
  let c0_3973 : Index := 0#32
  let v4408 : Index := Scalar.indexCast v4407
  let c0_3974 : Index := 0#32
  let c0_3975 : Index := 0#32
  ![0, v4408.toNat, 0, 0]

def k0_chk244 (v4407 : BitVec 32) : Prop :=
  (∀ a, (k0_off244 v4407) a + S1x1x32x1024.size a ≤ S1x108x32x1024.size a)
theorem k0_off244_inb : ∀ (v4407 : BitVec 32) (k0_hw244 : k0_chk244 v4407), ∀ a, (k0_off244 v4407) a + S1x1x32x1024.size a ≤ S1x108x32x1024.size a := fun v4407 k0_hw244 => k0_hw244

def k0_off245 (v4426 : BitVec 32) : Fin 4 → Nat :=
  let c0_3990 : Index := 0#32
  let v4427 : Index := Scalar.indexCast v4426
  let c0_3991 : Index := 0#32
  let c0_3992 : Index := 0#32
  ![0, v4427.toNat, 0, 0]

def k0_chk245 (v4426 : BitVec 32) : Prop :=
  (∀ a, (k0_off245 v4426) a + S1x1x32x1024.size a ≤ S1x108x32x1024.size a)
theorem k0_off245_inb : ∀ (v4426 : BitVec 32) (k0_hw245 : k0_chk245 v4426), ∀ a, (k0_off245 v4426) a + S1x1x32x1024.size a ≤ S1x108x32x1024.size a := fun v4426 k0_hw245 => k0_hw245

def k0_off246 (v4430 : BitVec 32) : Fin 4 → Nat :=
  let c0_3995 : Index := 0#32
  let v4431 : Index := Scalar.indexCast v4430
  let c0_3996 : Index := 0#32
  let c0_3997 : Index := 0#32
  ![0, v4431.toNat, 0, 0]

def k0_chk246 (v4430 : BitVec 32) : Prop :=
  (∀ a, (k0_off246 v4430) a + S1x1x32x1024.size a ≤ S1x108x32x1024.size a)
theorem k0_off246_inb : ∀ (v4430 : BitVec 32) (k0_hw246 : k0_chk246 v4430), ∀ a, (k0_off246 v4430) a + S1x1x32x1024.size a ≤ S1x108x32x1024.size a := fun v4430 k0_hw246 => k0_hw246

def k0_off247 (v4449 : BitVec 32) : Fin 4 → Nat :=
  let c0_4012 : Index := 0#32
  let v4450 : Index := Scalar.indexCast v4449
  let c0_4013 : Index := 0#32
  let c0_4014 : Index := 0#32
  ![0, v4450.toNat, 0, 0]

def k0_chk247 (v4449 : BitVec 32) : Prop :=
  (∀ a, (k0_off247 v4449) a + S1x1x32x1024.size a ≤ S1x108x32x1024.size a)
theorem k0_off247_inb : ∀ (v4449 : BitVec 32) (k0_hw247 : k0_chk247 v4449), ∀ a, (k0_off247 v4449) a + S1x1x32x1024.size a ≤ S1x108x32x1024.size a := fun v4449 k0_hw247 => k0_hw247

def k0_off248 (v4453 : BitVec 32) : Fin 4 → Nat :=
  let c0_4017 : Index := 0#32
  let v4454 : Index := Scalar.indexCast v4453
  let c0_4018 : Index := 0#32
  let c0_4019 : Index := 0#32
  ![0, v4454.toNat, 0, 0]

def k0_chk248 (v4453 : BitVec 32) : Prop :=
  (∀ a, (k0_off248 v4453) a + S1x1x32x1024.size a ≤ S1x108x32x1024.size a)
theorem k0_off248_inb : ∀ (v4453 : BitVec 32) (k0_hw248 : k0_chk248 v4453), ∀ a, (k0_off248 v4453) a + S1x1x32x1024.size a ≤ S1x108x32x1024.size a := fun v4453 k0_hw248 => k0_hw248

def k0_off249 (v4472 : BitVec 32) : Fin 4 → Nat :=
  let c0_4034 : Index := 0#32
  let v4473 : Index := Scalar.indexCast v4472
  let c0_4035 : Index := 0#32
  let c0_4036 : Index := 0#32
  ![0, v4473.toNat, 0, 0]

def k0_chk249 (v4472 : BitVec 32) : Prop :=
  (∀ a, (k0_off249 v4472) a + S1x1x32x1024.size a ≤ S1x108x32x1024.size a)
theorem k0_off249_inb : ∀ (v4472 : BitVec 32) (k0_hw249 : k0_chk249 v4472), ∀ a, (k0_off249 v4472) a + S1x1x32x1024.size a ≤ S1x108x32x1024.size a := fun v4472 k0_hw249 => k0_hw249

def k0_off250 (v4476 : BitVec 32) : Fin 4 → Nat :=
  let c0_4039 : Index := 0#32
  let v4477 : Index := Scalar.indexCast v4476
  let c0_4040 : Index := 0#32
  let c0_4041 : Index := 0#32
  ![0, v4477.toNat, 0, 0]

def k0_chk250 (v4476 : BitVec 32) : Prop :=
  (∀ a, (k0_off250 v4476) a + S1x1x32x1024.size a ≤ S1x108x32x1024.size a)
theorem k0_off250_inb : ∀ (v4476 : BitVec 32) (k0_hw250 : k0_chk250 v4476), ∀ a, (k0_off250 v4476) a + S1x1x32x1024.size a ≤ S1x108x32x1024.size a := fun v4476 k0_hw250 => k0_hw250

def k0_off251 (v4495 : BitVec 32) : Fin 4 → Nat :=
  let c0_4056 : Index := 0#32
  let v4496 : Index := Scalar.indexCast v4495
  let c0_4057 : Index := 0#32
  let c0_4058 : Index := 0#32
  ![0, v4496.toNat, 0, 0]

def k0_chk251 (v4495 : BitVec 32) : Prop :=
  (∀ a, (k0_off251 v4495) a + S1x1x32x1024.size a ≤ S1x108x32x1024.size a)
theorem k0_off251_inb : ∀ (v4495 : BitVec 32) (k0_hw251 : k0_chk251 v4495), ∀ a, (k0_off251 v4495) a + S1x1x32x1024.size a ≤ S1x108x32x1024.size a := fun v4495 k0_hw251 => k0_hw251

def k0_off252 (v4499 : BitVec 32) : Fin 4 → Nat :=
  let c0_4061 : Index := 0#32
  let v4500 : Index := Scalar.indexCast v4499
  let c0_4062 : Index := 0#32
  let c0_4063 : Index := 0#32
  ![0, v4500.toNat, 0, 0]

def k0_chk252 (v4499 : BitVec 32) : Prop :=
  (∀ a, (k0_off252 v4499) a + S1x1x32x1024.size a ≤ S1x108x32x1024.size a)
theorem k0_off252_inb : ∀ (v4499 : BitVec 32) (k0_hw252 : k0_chk252 v4499), ∀ a, (k0_off252 v4499) a + S1x1x32x1024.size a ≤ S1x108x32x1024.size a := fun v4499 k0_hw252 => k0_hw252

def k0_off253 (v4518 : BitVec 32) : Fin 4 → Nat :=
  let c0_4078 : Index := 0#32
  let v4519 : Index := Scalar.indexCast v4518
  let c0_4079 : Index := 0#32
  let c0_4080 : Index := 0#32
  ![0, v4519.toNat, 0, 0]

def k0_chk253 (v4518 : BitVec 32) : Prop :=
  (∀ a, (k0_off253 v4518) a + S1x1x32x1024.size a ≤ S1x108x32x1024.size a)
theorem k0_off253_inb : ∀ (v4518 : BitVec 32) (k0_hw253 : k0_chk253 v4518), ∀ a, (k0_off253 v4518) a + S1x1x32x1024.size a ≤ S1x108x32x1024.size a := fun v4518 k0_hw253 => k0_hw253

def k0_off254 (v4522 : BitVec 32) : Fin 4 → Nat :=
  let c0_4083 : Index := 0#32
  let v4523 : Index := Scalar.indexCast v4522
  let c0_4084 : Index := 0#32
  let c0_4085 : Index := 0#32
  ![0, v4523.toNat, 0, 0]

def k0_chk254 (v4522 : BitVec 32) : Prop :=
  (∀ a, (k0_off254 v4522) a + S1x1x32x1024.size a ≤ S1x108x32x1024.size a)
theorem k0_off254_inb : ∀ (v4522 : BitVec 32) (k0_hw254 : k0_chk254 v4522), ∀ a, (k0_off254 v4522) a + S1x1x32x1024.size a ≤ S1x108x32x1024.size a := fun v4522 k0_hw254 => k0_hw254

def k0_off255 (v4541 : BitVec 32) : Fin 4 → Nat :=
  let c0_4100 : Index := 0#32
  let v4542 : Index := Scalar.indexCast v4541
  let c0_4101 : Index := 0#32
  let c0_4102 : Index := 0#32
  ![0, v4542.toNat, 0, 0]

def k0_chk255 (v4541 : BitVec 32) : Prop :=
  (∀ a, (k0_off255 v4541) a + S1x1x32x1024.size a ≤ S1x108x32x1024.size a)
theorem k0_off255_inb : ∀ (v4541 : BitVec 32) (k0_hw255 : k0_chk255 v4541), ∀ a, (k0_off255 v4541) a + S1x1x32x1024.size a ≤ S1x108x32x1024.size a := fun v4541 k0_hw255 => k0_hw255

def k0_off256 (v4545 : BitVec 32) : Fin 4 → Nat :=
  let c0_4105 : Index := 0#32
  let v4546 : Index := Scalar.indexCast v4545
  let c0_4106 : Index := 0#32
  let c0_4107 : Index := 0#32
  ![0, v4546.toNat, 0, 0]

def k0_chk256 (v4545 : BitVec 32) : Prop :=
  (∀ a, (k0_off256 v4545) a + S1x1x32x1024.size a ≤ S1x108x32x1024.size a)
theorem k0_off256_inb : ∀ (v4545 : BitVec 32) (k0_hw256 : k0_chk256 v4545), ∀ a, (k0_off256 v4545) a + S1x1x32x1024.size a ≤ S1x108x32x1024.size a := fun v4545 k0_hw256 => k0_hw256

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .smem S16x16 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S16x15x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x108x32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x16x32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S4x4x32x32x32 : Shape := ⟨5, ![4, 4, 32, 32, 32]⟩
abbrev S16x16 : Shape := ⟨2, ![16, 16]⟩
abbrev S8x16x16 : Shape := ⟨3, ![8, 16, 16]⟩
abbrev S4x16x16 : Shape := ⟨3, ![4, 16, 16]⟩
abbrev S2x16x16 : Shape := ⟨3, ![2, 16, 16]⟩
abbrev S1x16x16 : Shape := ⟨3, ![1, 16, 16]⟩
abbrev S_ : Shape := ⟨0, ![]⟩
abbrev S4x4x34x34x34 : Shape := ⟨5, ![4, 4, 34, 34, 34]⟩
abbrev S32 : Shape := ⟨1, ![32]⟩
abbrev S32x32x32 : Shape := ⟨3, ![32, 32, 32]⟩
abbrev S32768 : Shape := ⟨1, ![32768]⟩
abbrev S1x32768x1 : Shape := ⟨3, ![1, 32768, 1]⟩
abbrev S16x1x16 : Shape := ⟨3, ![16, 1, 16]⟩
abbrev S16x32768x16 : Shape := ⟨3, ![16, 32768, 16]⟩
abbrev S16x32768x16x1 : Shape := ⟨4, ![16, 32768, 16, 1]⟩
abbrev S16x32768x16x4 : Shape := ⟨4, ![16, 32768, 16, 4]⟩
abbrev S4x16x32768x16 : Shape := ⟨4, ![4, 16, 32768, 16]⟩
abbrev S4x16x32768x8x2 : Shape := ⟨5, ![4, 16, 32768, 8, 2]⟩
abbrev S4x16x32768x8x1 : Shape := ⟨5, ![4, 16, 32768, 8, 1]⟩
abbrev S4x16x32768x8 : Shape := ⟨4, ![4, 16, 32768, 8]⟩
abbrev S8x16 : Shape := ⟨2, ![8, 16]⟩
abbrev S8x16x1 : Shape := ⟨3, ![8, 16, 1]⟩
abbrev S16x8x16 : Shape := ⟨3, ![16, 8, 16]⟩
abbrev S1x16x1x8x16 : Shape := ⟨5, ![1, 16, 1, 8, 16]⟩
abbrev S1x16x1x8x1 : Shape := ⟨5, ![1, 16, 1, 8, 1]⟩
abbrev S1x16x1x8 : Shape := ⟨4, ![1, 16, 1, 8]⟩
abbrev S4x16x32768x4 : Shape := ⟨4, ![4, 16, 32768, 4]⟩
abbrev S4x16 : Shape := ⟨2, ![4, 16]⟩
abbrev S4x16x1 : Shape := ⟨3, ![4, 16, 1]⟩
abbrev S16x4x16 : Shape := ⟨3, ![16, 4, 16]⟩
abbrev S1x16x1x4x16 : Shape := ⟨5, ![1, 16, 1, 4, 16]⟩
abbrev S1x16x1x4x1 : Shape := ⟨5, ![1, 16, 1, 4, 1]⟩
abbrev S1x16x1x4 : Shape := ⟨4, ![1, 16, 1, 4]⟩
abbrev S4x16x32768x2 : Shape := ⟨4, ![4, 16, 32768, 2]⟩
abbrev S2x16 : Shape := ⟨2, ![2, 16]⟩
abbrev S2x16x1 : Shape := ⟨3, ![2, 16, 1]⟩
abbrev S16x2x16 : Shape := ⟨3, ![16, 2, 16]⟩
abbrev S1x16x1x2x16 : Shape := ⟨5, ![1, 16, 1, 2, 16]⟩
abbrev S1x16x1x2x1 : Shape := ⟨5, ![1, 16, 1, 2, 1]⟩
abbrev S1x16x1x2 : Shape := ⟨4, ![1, 16, 1, 2]⟩
abbrev S4x16x32768x1 : Shape := ⟨4, ![4, 16, 32768, 1]⟩
abbrev S1x16 : Shape := ⟨2, ![1, 16]⟩
abbrev S1x16x1 : Shape := ⟨3, ![1, 16, 1]⟩
abbrev S1x16x1x1x16 : Shape := ⟨5, ![1, 16, 1, 1, 16]⟩
abbrev S1x16x1x1x1 : Shape := ⟨5, ![1, 16, 1, 1, 1]⟩
abbrev S1x16x1x1 : Shape := ⟨4, ![1, 16, 1, 1]⟩
abbrev S4x16x32x1024 : Shape := ⟨4, ![4, 16, 32, 1024]⟩

abbrev nBuf : Space → Nat
  | .hbm => 650
  | .vmem => 0
  | .smem => 0
  | _ => 0

abbrev hbmTy0_0 (i : Nat) : BufTy := match i % 128 with
  | 0 => ⟨S4x4x32x32x32, .f32⟩
  | 1 => ⟨S16x16, .i32⟩
  | 2 => ⟨S16x16, .i32⟩
  | 3 => ⟨S16x16, .i32⟩
  | 4 => ⟨S16x16, .i32⟩
  | 5 => ⟨S8x16x16, .f32⟩
  | 6 => ⟨S4x16x16, .f32⟩
  | 7 => ⟨S2x16x16, .f32⟩
  | 8 => ⟨S1x16x16, .f32⟩
  | 9 => ⟨S_, .i32⟩
  | 10 => ⟨S_, .f32⟩
  | 11 => ⟨S4x4x34x34x34, .f32⟩
  | 12 => ⟨S32, .i32⟩
  | 13 => ⟨S32x32x32, .i32⟩
  | 14 => ⟨S32x32x32, .i32⟩
  | 15 => ⟨S32x32x32, .i32⟩
  | 16 => ⟨S32768, .i32⟩
  | 17 => ⟨S32768, .i32⟩
  | 18 => ⟨S32768, .i32⟩
  | 19 => ⟨S1x32768x1, .i32⟩
  | 20 => ⟨S16x1x16, .i32⟩
  | 21 => ⟨S16x32768x16, .i32⟩
  | 22 => ⟨S16x32768x16, .i32⟩
  | 23 => ⟨S16x32768x16, .i32⟩
  | 24 => ⟨S1x32768x1, .i32⟩
  | 25 => ⟨S16x1x16, .i32⟩
  | 26 => ⟨S16x32768x16, .i32⟩
  | 27 => ⟨S16x32768x16, .i32⟩
  | 28 => ⟨S16x32768x16, .i32⟩
  | 29 => ⟨S1x32768x1, .i32⟩
  | 30 => ⟨S16x1x16, .i32⟩
  | 31 => ⟨S16x32768x16, .i32⟩
  | 32 => ⟨S16x32768x16, .i32⟩
  | 33 => ⟨S16x32768x16, .i32⟩
  | 34 => ⟨S16x1x16, .i32⟩
  | 35 => ⟨S16x32768x16, .i32⟩
  | 36 => ⟨S_, .i32⟩
  | 37 => ⟨S16x32768x16, .i32⟩
  | 38 => ⟨S16x32768x16, .i1⟩
  | 39 => ⟨S_, .i32⟩
  | 40 => ⟨S16x32768x16, .i32⟩
  | 41 => ⟨S16x32768x16, .i32⟩
  | 42 => ⟨S16x32768x16, .i32⟩
  | 43 => ⟨S_, .i32⟩
  | 44 => ⟨S16x32768x16, .i32⟩
  | 45 => ⟨S16x32768x16, .i1⟩
  | 46 => ⟨S_, .i32⟩
  | 47 => ⟨S16x32768x16, .i32⟩
  | 48 => ⟨S16x32768x16, .i32⟩
  | 49 => ⟨S16x32768x16, .i32⟩
  | 50 => ⟨S_, .i32⟩
  | 51 => ⟨S16x32768x16, .i32⟩
  | 52 => ⟨S16x32768x16, .i1⟩
  | 53 => ⟨S_, .i32⟩
  | 54 => ⟨S16x32768x16, .i32⟩
  | 55 => ⟨S16x32768x16, .i32⟩
  | 56 => ⟨S16x32768x16, .i32⟩
  | 57 => ⟨S_, .i32⟩
  | 58 => ⟨S16x32768x16, .i32⟩
  | 59 => ⟨S16x32768x16, .i1⟩
  | 60 => ⟨S_, .i32⟩
  | 61 => ⟨S16x32768x16, .i32⟩
  | 62 => ⟨S16x32768x16, .i32⟩
  | 63 => ⟨S16x32768x16, .i32⟩
  | 64 => ⟨S16x32768x16x1, .i32⟩
  | 65 => ⟨S16x32768x16x1, .i32⟩
  | 66 => ⟨S16x32768x16x1, .i32⟩
  | 67 => ⟨S16x32768x16x1, .i32⟩
  | 68 => ⟨S16x32768x16x4, .i32⟩
  | 69 => ⟨S4x16x32768x16, .f32⟩
  | 70 => ⟨S4x16x32768x8x2, .f32⟩
  | 71 => ⟨S4x16x32768x8x1, .f32⟩
  | 72 => ⟨S4x16x32768x8, .f32⟩
  | 73 => ⟨S4x16x32768x8x1, .f32⟩
  | 74 => ⟨S4x16x32768x8, .f32⟩
  | 75 => ⟨S_, .f32⟩
  | 76 => ⟨S8x16, .f32⟩
  | 77 => ⟨S_, .f32⟩
  | 78 => ⟨S8x16, .f32⟩
  | 79 => ⟨S8x16, .f32⟩
  | 80 => ⟨S8x16x1, .f32⟩
  | 81 => ⟨S8x16x16, .f32⟩
  | 82 => ⟨S8x16x16, .f32⟩
  | 83 => ⟨S8x16x16, .f32⟩
  | 84 => ⟨S_, .f32⟩
  | 85 => ⟨S8x16, .f32⟩
  | 86 => ⟨S8x16x1, .f32⟩
  | 87 => ⟨S8x16x16, .f32⟩
  | 88 => ⟨S8x16x16, .f32⟩
  | 89 => ⟨S16x8x16, .f32⟩
  | 90 => ⟨S1x16x1x8x16, .f32⟩
  | 91 => ⟨S4x16x32768x8, .f32⟩
  | 92 => ⟨S_, .f32⟩
  | 93 => ⟨S4x16x32768x8, .f32⟩
  | 94 => ⟨S4x16x32768x8, .f32⟩
  | 95 => ⟨S4x16x32768x8, .f32⟩
  | 96 => ⟨S4x16x32768x8, .f32⟩
  | 97 => ⟨S_, .f32⟩
  | 98 => ⟨S4x16x32768x8, .f32⟩
  | 99 => ⟨S4x16x32768x8, .f32⟩
  | 100 => ⟨S4x16x32768x8, .f32⟩
  | 101 => ⟨S4x16x32768x8, .f32⟩
  | 102 => ⟨S4x16x32768x8, .f32⟩
  | 103 => ⟨S4x16x32768x8, .f32⟩
  | 104 => ⟨S4x16x32768x8, .f32⟩
  | 105 => ⟨S_, .f32⟩
  | 106 => ⟨S4x16x32768x8, .f32⟩
  | 107 => ⟨S4x16x32768x8, .f32⟩
  | 108 => ⟨S4x16x32768x8, .f32⟩
  | 109 => ⟨S_, .f32⟩
  | 110 => ⟨S4x16x32768x8, .f32⟩
  | 111 => ⟨S4x16x32768x8, .f32⟩
  | 112 => ⟨S4x16x32768x8, .f32⟩
  | 113 => ⟨S_, .f32⟩
  | 114 => ⟨S4x16x32768x8, .f32⟩
  | 115 => ⟨S4x16x32768x8, .f32⟩
  | 116 => ⟨S_, .f32⟩
  | 117 => ⟨S4x16x32768x8, .f32⟩
  | 118 => ⟨S4x16x32768x8, .f32⟩
  | 119 => ⟨S_, .f32⟩
  | 120 => ⟨S4x16x32768x8, .f32⟩
  | 121 => ⟨S4x16x32768x8, .f32⟩
  | 122 => ⟨S4x16x32768x8, .f32⟩
  | 123 => ⟨S_, .f32⟩
  | 124 => ⟨S4x16x32768x8, .f32⟩
  | 125 => ⟨S4x16x32768x8, .f32⟩
  | 126 => ⟨S_, .f32⟩
  | 127 => ⟨S4x16x32768x8, .f32⟩
  | _ => ⟨S4x4x32x32x32, .f32⟩

abbrev hbmTy0_1 (i : Nat) : BufTy := match i % 128 with
  | 0 => ⟨S4x16x32768x8, .f32⟩
  | 1 => ⟨S4x16x32768x8, .f32⟩
  | 2 => ⟨S_, .f32⟩
  | 3 => ⟨S4x16x32768x8, .f32⟩
  | 4 => ⟨S4x16x32768x8, .f32⟩
  | 5 => ⟨S_, .f32⟩
  | 6 => ⟨S4x16x32768x8, .f32⟩
  | 7 => ⟨S_, .f32⟩
  | 8 => ⟨S4x16x32768x8, .f32⟩
  | 9 => ⟨S1x16x1x8x1, .f32⟩
  | 10 => ⟨S1x16x1x8, .f32⟩
  | 11 => ⟨S4x16x32768x8, .f32⟩
  | 12 => ⟨S4x16x32768x8, .f32⟩
  | 13 => ⟨S4x16x32768x8, .f32⟩
  | 14 => ⟨S1x16x1x8x1, .f32⟩
  | 15 => ⟨S1x16x1x8, .f32⟩
  | 16 => ⟨S4x16x32768x8, .f32⟩
  | 17 => ⟨S4x16x32768x8, .f32⟩
  | 18 => ⟨S4x16x32768x8, .f32⟩
  | 19 => ⟨S1x16x1x8x1, .f32⟩
  | 20 => ⟨S1x16x1x8, .f32⟩
  | 21 => ⟨S4x16x32768x8, .f32⟩
  | 22 => ⟨S4x16x32768x8, .f32⟩
  | 23 => ⟨S4x16x32768x8, .f32⟩
  | 24 => ⟨S1x16x1x8x1, .f32⟩
  | 25 => ⟨S1x16x1x8, .f32⟩
  | 26 => ⟨S4x16x32768x8, .f32⟩
  | 27 => ⟨S4x16x32768x8, .f32⟩
  | 28 => ⟨S4x16x32768x8, .f32⟩
  | 29 => ⟨S1x16x1x8x1, .f32⟩
  | 30 => ⟨S1x16x1x8, .f32⟩
  | 31 => ⟨S4x16x32768x8, .f32⟩
  | 32 => ⟨S4x16x32768x8, .f32⟩
  | 33 => ⟨S4x16x32768x8, .f32⟩
  | 34 => ⟨S1x16x1x8x1, .f32⟩
  | 35 => ⟨S1x16x1x8, .f32⟩
  | 36 => ⟨S4x16x32768x8, .f32⟩
  | 37 => ⟨S4x16x32768x8, .f32⟩
  | 38 => ⟨S4x16x32768x8, .f32⟩
  | 39 => ⟨S1x16x1x8x1, .f32⟩
  | 40 => ⟨S1x16x1x8, .f32⟩
  | 41 => ⟨S4x16x32768x8, .f32⟩
  | 42 => ⟨S4x16x32768x8, .f32⟩
  | 43 => ⟨S4x16x32768x8, .f32⟩
  | 44 => ⟨S1x16x1x8x1, .f32⟩
  | 45 => ⟨S1x16x1x8, .f32⟩
  | 46 => ⟨S4x16x32768x8, .f32⟩
  | 47 => ⟨S4x16x32768x8, .f32⟩
  | 48 => ⟨S4x16x32768x8, .f32⟩
  | 49 => ⟨S1x16x1x8x1, .f32⟩
  | 50 => ⟨S1x16x1x8, .f32⟩
  | 51 => ⟨S4x16x32768x8, .f32⟩
  | 52 => ⟨S4x16x32768x8, .f32⟩
  | 53 => ⟨S4x16x32768x8, .f32⟩
  | 54 => ⟨S1x16x1x8x1, .f32⟩
  | 55 => ⟨S1x16x1x8, .f32⟩
  | 56 => ⟨S4x16x32768x8, .f32⟩
  | 57 => ⟨S4x16x32768x8, .f32⟩
  | 58 => ⟨S4x16x32768x8, .f32⟩
  | 59 => ⟨S1x16x1x8x1, .f32⟩
  | 60 => ⟨S1x16x1x8, .f32⟩
  | 61 => ⟨S4x16x32768x8, .f32⟩
  | 62 => ⟨S4x16x32768x8, .f32⟩
  | 63 => ⟨S4x16x32768x8, .f32⟩
  | 64 => ⟨S1x16x1x8x1, .f32⟩
  | 65 => ⟨S1x16x1x8, .f32⟩
  | 66 => ⟨S4x16x32768x8, .f32⟩
  | 67 => ⟨S4x16x32768x8, .f32⟩
  | 68 => ⟨S4x16x32768x8, .f32⟩
  | 69 => ⟨S1x16x1x8x1, .f32⟩
  | 70 => ⟨S1x16x1x8, .f32⟩
  | 71 => ⟨S4x16x32768x8, .f32⟩
  | 72 => ⟨S4x16x32768x8, .f32⟩
  | 73 => ⟨S4x16x32768x8, .f32⟩
  | 74 => ⟨S1x16x1x8x1, .f32⟩
  | 75 => ⟨S1x16x1x8, .f32⟩
  | 76 => ⟨S4x16x32768x8, .f32⟩
  | 77 => ⟨S4x16x32768x8, .f32⟩
  | 78 => ⟨S4x16x32768x8, .f32⟩
  | 79 => ⟨S1x16x1x8x1, .f32⟩
  | 80 => ⟨S1x16x1x8, .f32⟩
  | 81 => ⟨S4x16x32768x8, .f32⟩
  | 82 => ⟨S4x16x32768x8, .f32⟩
  | 83 => ⟨S4x16x32768x8, .f32⟩
  | 84 => ⟨S1x16x1x8x1, .f32⟩
  | 85 => ⟨S1x16x1x8, .f32⟩
  | 86 => ⟨S4x16x32768x8, .f32⟩
  | 87 => ⟨S4x16x32768x8, .f32⟩
  | 88 => ⟨S4x16x32768x8, .f32⟩
  | 89 => ⟨S4x16x32768x4, .f32⟩
  | 90 => ⟨S4x16x32768x4, .f32⟩
  | 91 => ⟨S_, .f32⟩
  | 92 => ⟨S4x16, .f32⟩
  | 93 => ⟨S_, .f32⟩
  | 94 => ⟨S4x16, .f32⟩
  | 95 => ⟨S4x16, .f32⟩
  | 96 => ⟨S4x16x1, .f32⟩
  | 97 => ⟨S4x16x16, .f32⟩
  | 98 => ⟨S4x16x16, .f32⟩
  | 99 => ⟨S4x16x16, .f32⟩
  | 100 => ⟨S_, .f32⟩
  | 101 => ⟨S4x16, .f32⟩
  | 102 => ⟨S4x16x1, .f32⟩
  | 103 => ⟨S4x16x16, .f32⟩
  | 104 => ⟨S4x16x16, .f32⟩
  | 105 => ⟨S16x4x16, .f32⟩
  | 106 => ⟨S1x16x1x4x16, .f32⟩
  | 107 => ⟨S4x16x32768x4, .f32⟩
  | 108 => ⟨S_, .f32⟩
  | 109 => ⟨S4x16x32768x4, .f32⟩
  | 110 => ⟨S4x16x32768x4, .f32⟩
  | 111 => ⟨S4x16x32768x4, .f32⟩
  | 112 => ⟨S4x16x32768x4, .f32⟩
  | 113 => ⟨S_, .f32⟩
  | 114 => ⟨S4x16x32768x4, .f32⟩
  | 115 => ⟨S4x16x32768x4, .f32⟩
  | 116 => ⟨S4x16x32768x4, .f32⟩
  | 117 => ⟨S4x16x32768x4, .f32⟩
  | 118 => ⟨S4x16x32768x4, .f32⟩
  | 119 => ⟨S4x16x32768x4, .f32⟩
  | 120 => ⟨S4x16x32768x4, .f32⟩
  | 121 => ⟨S_, .f32⟩
  | 122 => ⟨S4x16x32768x4, .f32⟩
  | 123 => ⟨S4x16x32768x4, .f32⟩
  | 124 => ⟨S4x16x32768x4, .f32⟩
  | 125 => ⟨S_, .f32⟩
  | 126 => ⟨S4x16x32768x4, .f32⟩
  | 127 => ⟨S4x16x32768x4, .f32⟩
  | _ => ⟨S4x4x32x32x32, .f32⟩

abbrev hbmTy0_2 (i : Nat) : BufTy := match i % 128 with
  | 0 => ⟨S4x16x32768x4, .f32⟩
  | 1 => ⟨S_, .f32⟩
  | 2 => ⟨S4x16x32768x4, .f32⟩
  | 3 => ⟨S4x16x32768x4, .f32⟩
  | 4 => ⟨S_, .f32⟩
  | 5 => ⟨S4x16x32768x4, .f32⟩
  | 6 => ⟨S4x16x32768x4, .f32⟩
  | 7 => ⟨S_, .f32⟩
  | 8 => ⟨S4x16x32768x4, .f32⟩
  | 9 => ⟨S4x16x32768x4, .f32⟩
  | 10 => ⟨S4x16x32768x4, .f32⟩
  | 11 => ⟨S_, .f32⟩
  | 12 => ⟨S4x16x32768x4, .f32⟩
  | 13 => ⟨S4x16x32768x4, .f32⟩
  | 14 => ⟨S_, .f32⟩
  | 15 => ⟨S4x16x32768x4, .f32⟩
  | 16 => ⟨S4x16x32768x4, .f32⟩
  | 17 => ⟨S4x16x32768x4, .f32⟩
  | 18 => ⟨S_, .f32⟩
  | 19 => ⟨S4x16x32768x4, .f32⟩
  | 20 => ⟨S4x16x32768x4, .f32⟩
  | 21 => ⟨S_, .f32⟩
  | 22 => ⟨S4x16x32768x4, .f32⟩
  | 23 => ⟨S_, .f32⟩
  | 24 => ⟨S4x16x32768x4, .f32⟩
  | 25 => ⟨S1x16x1x4x1, .f32⟩
  | 26 => ⟨S1x16x1x4, .f32⟩
  | 27 => ⟨S4x16x32768x4, .f32⟩
  | 28 => ⟨S4x16x32768x4, .f32⟩
  | 29 => ⟨S4x16x32768x4, .f32⟩
  | 30 => ⟨S1x16x1x4x1, .f32⟩
  | 31 => ⟨S1x16x1x4, .f32⟩
  | 32 => ⟨S4x16x32768x4, .f32⟩
  | 33 => ⟨S4x16x32768x4, .f32⟩
  | 34 => ⟨S4x16x32768x4, .f32⟩
  | 35 => ⟨S1x16x1x4x1, .f32⟩
  | 36 => ⟨S1x16x1x4, .f32⟩
  | 37 => ⟨S4x16x32768x4, .f32⟩
  | 38 => ⟨S4x16x32768x4, .f32⟩
  | 39 => ⟨S4x16x32768x4, .f32⟩
  | 40 => ⟨S1x16x1x4x1, .f32⟩
  | 41 => ⟨S1x16x1x4, .f32⟩
  | 42 => ⟨S4x16x32768x4, .f32⟩
  | 43 => ⟨S4x16x32768x4, .f32⟩
  | 44 => ⟨S4x16x32768x4, .f32⟩
  | 45 => ⟨S1x16x1x4x1, .f32⟩
  | 46 => ⟨S1x16x1x4, .f32⟩
  | 47 => ⟨S4x16x32768x4, .f32⟩
  | 48 => ⟨S4x16x32768x4, .f32⟩
  | 49 => ⟨S4x16x32768x4, .f32⟩
  | 50 => ⟨S1x16x1x4x1, .f32⟩
  | 51 => ⟨S1x16x1x4, .f32⟩
  | 52 => ⟨S4x16x32768x4, .f32⟩
  | 53 => ⟨S4x16x32768x4, .f32⟩
  | 54 => ⟨S4x16x32768x4, .f32⟩
  | 55 => ⟨S1x16x1x4x1, .f32⟩
  | 56 => ⟨S1x16x1x4, .f32⟩
  | 57 => ⟨S4x16x32768x4, .f32⟩
  | 58 => ⟨S4x16x32768x4, .f32⟩
  | 59 => ⟨S4x16x32768x4, .f32⟩
  | 60 => ⟨S1x16x1x4x1, .f32⟩
  | 61 => ⟨S1x16x1x4, .f32⟩
  | 62 => ⟨S4x16x32768x4, .f32⟩
  | 63 => ⟨S4x16x32768x4, .f32⟩
  | 64 => ⟨S4x16x32768x4, .f32⟩
  | 65 => ⟨S1x16x1x4x1, .f32⟩
  | 66 => ⟨S1x16x1x4, .f32⟩
  | 67 => ⟨S4x16x32768x4, .f32⟩
  | 68 => ⟨S4x16x32768x4, .f32⟩
  | 69 => ⟨S4x16x32768x4, .f32⟩
  | 70 => ⟨S1x16x1x4x1, .f32⟩
  | 71 => ⟨S1x16x1x4, .f32⟩
  | 72 => ⟨S4x16x32768x4, .f32⟩
  | 73 => ⟨S4x16x32768x4, .f32⟩
  | 74 => ⟨S4x16x32768x4, .f32⟩
  | 75 => ⟨S1x16x1x4x1, .f32⟩
  | 76 => ⟨S1x16x1x4, .f32⟩
  | 77 => ⟨S4x16x32768x4, .f32⟩
  | 78 => ⟨S4x16x32768x4, .f32⟩
  | 79 => ⟨S4x16x32768x4, .f32⟩
  | 80 => ⟨S1x16x1x4x1, .f32⟩
  | 81 => ⟨S1x16x1x4, .f32⟩
  | 82 => ⟨S4x16x32768x4, .f32⟩
  | 83 => ⟨S4x16x32768x4, .f32⟩
  | 84 => ⟨S4x16x32768x4, .f32⟩
  | 85 => ⟨S1x16x1x4x1, .f32⟩
  | 86 => ⟨S1x16x1x4, .f32⟩
  | 87 => ⟨S4x16x32768x4, .f32⟩
  | 88 => ⟨S4x16x32768x4, .f32⟩
  | 89 => ⟨S4x16x32768x4, .f32⟩
  | 90 => ⟨S1x16x1x4x1, .f32⟩
  | 91 => ⟨S1x16x1x4, .f32⟩
  | 92 => ⟨S4x16x32768x4, .f32⟩
  | 93 => ⟨S4x16x32768x4, .f32⟩
  | 94 => ⟨S4x16x32768x4, .f32⟩
  | 95 => ⟨S1x16x1x4x1, .f32⟩
  | 96 => ⟨S1x16x1x4, .f32⟩
  | 97 => ⟨S4x16x32768x4, .f32⟩
  | 98 => ⟨S4x16x32768x4, .f32⟩
  | 99 => ⟨S4x16x32768x4, .f32⟩
  | 100 => ⟨S1x16x1x4x1, .f32⟩
  | 101 => ⟨S1x16x1x4, .f32⟩
  | 102 => ⟨S4x16x32768x4, .f32⟩
  | 103 => ⟨S4x16x32768x4, .f32⟩
  | 104 => ⟨S4x16x32768x4, .f32⟩
  | 105 => ⟨S4x16x32768x2, .f32⟩
  | 106 => ⟨S4x16x32768x2, .f32⟩
  | 107 => ⟨S_, .f32⟩
  | 108 => ⟨S2x16, .f32⟩
  | 109 => ⟨S_, .f32⟩
  | 110 => ⟨S2x16, .f32⟩
  | 111 => ⟨S2x16, .f32⟩
  | 112 => ⟨S2x16x1, .f32⟩
  | 113 => ⟨S2x16x16, .f32⟩
  | 114 => ⟨S2x16x16, .f32⟩
  | 115 => ⟨S2x16x16, .f32⟩
  | 116 => ⟨S_, .f32⟩
  | 117 => ⟨S2x16, .f32⟩
  | 118 => ⟨S2x16x1, .f32⟩
  | 119 => ⟨S2x16x16, .f32⟩
  | 120 => ⟨S2x16x16, .f32⟩
  | 121 => ⟨S16x2x16, .f32⟩
  | 122 => ⟨S1x16x1x2x16, .f32⟩
  | 123 => ⟨S4x16x32768x2, .f32⟩
  | 124 => ⟨S_, .f32⟩
  | 125 => ⟨S4x16x32768x2, .f32⟩
  | 126 => ⟨S4x16x32768x2, .f32⟩
  | 127 => ⟨S4x16x32768x2, .f32⟩
  | _ => ⟨S4x4x32x32x32, .f32⟩

abbrev hbmTy0_3 (i : Nat) : BufTy := match i % 128 with
  | 0 => ⟨S4x16x32768x2, .f32⟩
  | 1 => ⟨S_, .f32⟩
  | 2 => ⟨S4x16x32768x2, .f32⟩
  | 3 => ⟨S4x16x32768x2, .f32⟩
  | 4 => ⟨S4x16x32768x2, .f32⟩
  | 5 => ⟨S4x16x32768x2, .f32⟩
  | 6 => ⟨S4x16x32768x2, .f32⟩
  | 7 => ⟨S4x16x32768x2, .f32⟩
  | 8 => ⟨S4x16x32768x2, .f32⟩
  | 9 => ⟨S_, .f32⟩
  | 10 => ⟨S4x16x32768x2, .f32⟩
  | 11 => ⟨S4x16x32768x2, .f32⟩
  | 12 => ⟨S4x16x32768x2, .f32⟩
  | 13 => ⟨S_, .f32⟩
  | 14 => ⟨S4x16x32768x2, .f32⟩
  | 15 => ⟨S4x16x32768x2, .f32⟩
  | 16 => ⟨S4x16x32768x2, .f32⟩
  | 17 => ⟨S_, .f32⟩
  | 18 => ⟨S4x16x32768x2, .f32⟩
  | 19 => ⟨S4x16x32768x2, .f32⟩
  | 20 => ⟨S_, .f32⟩
  | 21 => ⟨S4x16x32768x2, .f32⟩
  | 22 => ⟨S4x16x32768x2, .f32⟩
  | 23 => ⟨S_, .f32⟩
  | 24 => ⟨S4x16x32768x2, .f32⟩
  | 25 => ⟨S4x16x32768x2, .f32⟩
  | 26 => ⟨S4x16x32768x2, .f32⟩
  | 27 => ⟨S_, .f32⟩
  | 28 => ⟨S4x16x32768x2, .f32⟩
  | 29 => ⟨S4x16x32768x2, .f32⟩
  | 30 => ⟨S_, .f32⟩
  | 31 => ⟨S4x16x32768x2, .f32⟩
  | 32 => ⟨S4x16x32768x2, .f32⟩
  | 33 => ⟨S4x16x32768x2, .f32⟩
  | 34 => ⟨S_, .f32⟩
  | 35 => ⟨S4x16x32768x2, .f32⟩
  | 36 => ⟨S4x16x32768x2, .f32⟩
  | 37 => ⟨S_, .f32⟩
  | 38 => ⟨S4x16x32768x2, .f32⟩
  | 39 => ⟨S_, .f32⟩
  | 40 => ⟨S4x16x32768x2, .f32⟩
  | 41 => ⟨S1x16x1x2x1, .f32⟩
  | 42 => ⟨S1x16x1x2, .f32⟩
  | 43 => ⟨S4x16x32768x2, .f32⟩
  | 44 => ⟨S4x16x32768x2, .f32⟩
  | 45 => ⟨S4x16x32768x2, .f32⟩
  | 46 => ⟨S1x16x1x2x1, .f32⟩
  | 47 => ⟨S1x16x1x2, .f32⟩
  | 48 => ⟨S4x16x32768x2, .f32⟩
  | 49 => ⟨S4x16x32768x2, .f32⟩
  | 50 => ⟨S4x16x32768x2, .f32⟩
  | 51 => ⟨S1x16x1x2x1, .f32⟩
  | 52 => ⟨S1x16x1x2, .f32⟩
  | 53 => ⟨S4x16x32768x2, .f32⟩
  | 54 => ⟨S4x16x32768x2, .f32⟩
  | 55 => ⟨S4x16x32768x2, .f32⟩
  | 56 => ⟨S1x16x1x2x1, .f32⟩
  | 57 => ⟨S1x16x1x2, .f32⟩
  | 58 => ⟨S4x16x32768x2, .f32⟩
  | 59 => ⟨S4x16x32768x2, .f32⟩
  | 60 => ⟨S4x16x32768x2, .f32⟩
  | 61 => ⟨S1x16x1x2x1, .f32⟩
  | 62 => ⟨S1x16x1x2, .f32⟩
  | 63 => ⟨S4x16x32768x2, .f32⟩
  | 64 => ⟨S4x16x32768x2, .f32⟩
  | 65 => ⟨S4x16x32768x2, .f32⟩
  | 66 => ⟨S1x16x1x2x1, .f32⟩
  | 67 => ⟨S1x16x1x2, .f32⟩
  | 68 => ⟨S4x16x32768x2, .f32⟩
  | 69 => ⟨S4x16x32768x2, .f32⟩
  | 70 => ⟨S4x16x32768x2, .f32⟩
  | 71 => ⟨S1x16x1x2x1, .f32⟩
  | 72 => ⟨S1x16x1x2, .f32⟩
  | 73 => ⟨S4x16x32768x2, .f32⟩
  | 74 => ⟨S4x16x32768x2, .f32⟩
  | 75 => ⟨S4x16x32768x2, .f32⟩
  | 76 => ⟨S1x16x1x2x1, .f32⟩
  | 77 => ⟨S1x16x1x2, .f32⟩
  | 78 => ⟨S4x16x32768x2, .f32⟩
  | 79 => ⟨S4x16x32768x2, .f32⟩
  | 80 => ⟨S4x16x32768x2, .f32⟩
  | 81 => ⟨S1x16x1x2x1, .f32⟩
  | 82 => ⟨S1x16x1x2, .f32⟩
  | 83 => ⟨S4x16x32768x2, .f32⟩
  | 84 => ⟨S4x16x32768x2, .f32⟩
  | 85 => ⟨S4x16x32768x2, .f32⟩
  | 86 => ⟨S1x16x1x2x1, .f32⟩
  | 87 => ⟨S1x16x1x2, .f32⟩
  | 88 => ⟨S4x16x32768x2, .f32⟩
  | 89 => ⟨S4x16x32768x2, .f32⟩
  | 90 => ⟨S4x16x32768x2, .f32⟩
  | 91 => ⟨S1x16x1x2x1, .f32⟩
  | 92 => ⟨S1x16x1x2, .f32⟩
  | 93 => ⟨S4x16x32768x2, .f32⟩
  | 94 => ⟨S4x16x32768x2, .f32⟩
  | 95 => ⟨S4x16x32768x2, .f32⟩
  | 96 => ⟨S1x16x1x2x1, .f32⟩
  | 97 => ⟨S1x16x1x2, .f32⟩
  | 98 => ⟨S4x16x32768x2, .f32⟩
  | 99 => ⟨S4x16x32768x2, .f32⟩
  | 100 => ⟨S4x16x32768x2, .f32⟩
  | 101 => ⟨S1x16x1x2x1, .f32⟩
  | 102 => ⟨S1x16x1x2, .f32⟩
  | 103 => ⟨S4x16x32768x2, .f32⟩
  | 104 => ⟨S4x16x32768x2, .f32⟩
  | 105 => ⟨S4x16x32768x2, .f32⟩
  | 106 => ⟨S1x16x1x2x1, .f32⟩
  | 107 => ⟨S1x16x1x2, .f32⟩
  | 108 => ⟨S4x16x32768x2, .f32⟩
  | 109 => ⟨S4x16x32768x2, .f32⟩
  | 110 => ⟨S4x16x32768x2, .f32⟩
  | 111 => ⟨S1x16x1x2x1, .f32⟩
  | 112 => ⟨S1x16x1x2, .f32⟩
  | 113 => ⟨S4x16x32768x2, .f32⟩
  | 114 => ⟨S4x16x32768x2, .f32⟩
  | 115 => ⟨S4x16x32768x2, .f32⟩
  | 116 => ⟨S1x16x1x2x1, .f32⟩
  | 117 => ⟨S1x16x1x2, .f32⟩
  | 118 => ⟨S4x16x32768x2, .f32⟩
  | 119 => ⟨S4x16x32768x2, .f32⟩
  | 120 => ⟨S4x16x32768x2, .f32⟩
  | 121 => ⟨S4x16x32768x1, .f32⟩
  | 122 => ⟨S4x16x32768x1, .f32⟩
  | 123 => ⟨S_, .f32⟩
  | 124 => ⟨S1x16, .f32⟩
  | 125 => ⟨S_, .f32⟩
  | 126 => ⟨S1x16, .f32⟩
  | 127 => ⟨S1x16, .f32⟩
  | _ => ⟨S4x4x32x32x32, .f32⟩

abbrev hbmTy0_4 (i : Nat) : BufTy := match i % 128 with
  | 0 => ⟨S1x16x1, .f32⟩
  | 1 => ⟨S1x16x16, .f32⟩
  | 2 => ⟨S1x16x16, .f32⟩
  | 3 => ⟨S1x16x16, .f32⟩
  | 4 => ⟨S_, .f32⟩
  | 5 => ⟨S1x16, .f32⟩
  | 6 => ⟨S1x16x1, .f32⟩
  | 7 => ⟨S1x16x16, .f32⟩
  | 8 => ⟨S1x16x16, .f32⟩
  | 9 => ⟨S16x1x16, .f32⟩
  | 10 => ⟨S1x16x1x1x16, .f32⟩
  | 11 => ⟨S4x16x32768x1, .f32⟩
  | 12 => ⟨S_, .f32⟩
  | 13 => ⟨S4x16x32768x1, .f32⟩
  | 14 => ⟨S4x16x32768x1, .f32⟩
  | 15 => ⟨S4x16x32768x1, .f32⟩
  | 16 => ⟨S4x16x32768x1, .f32⟩
  | 17 => ⟨S_, .f32⟩
  | 18 => ⟨S4x16x32768x1, .f32⟩
  | 19 => ⟨S4x16x32768x1, .f32⟩
  | 20 => ⟨S4x16x32768x1, .f32⟩
  | 21 => ⟨S4x16x32768x1, .f32⟩
  | 22 => ⟨S4x16x32768x1, .f32⟩
  | 23 => ⟨S4x16x32768x1, .f32⟩
  | 24 => ⟨S4x16x32768x1, .f32⟩
  | 25 => ⟨S_, .f32⟩
  | 26 => ⟨S4x16x32768x1, .f32⟩
  | 27 => ⟨S4x16x32768x1, .f32⟩
  | 28 => ⟨S4x16x32768x1, .f32⟩
  | 29 => ⟨S_, .f32⟩
  | 30 => ⟨S4x16x32768x1, .f32⟩
  | 31 => ⟨S4x16x32768x1, .f32⟩
  | 32 => ⟨S4x16x32768x1, .f32⟩
  | 33 => ⟨S_, .f32⟩
  | 34 => ⟨S4x16x32768x1, .f32⟩
  | 35 => ⟨S4x16x32768x1, .f32⟩
  | 36 => ⟨S_, .f32⟩
  | 37 => ⟨S4x16x32768x1, .f32⟩
  | 38 => ⟨S4x16x32768x1, .f32⟩
  | 39 => ⟨S_, .f32⟩
  | 40 => ⟨S4x16x32768x1, .f32⟩
  | 41 => ⟨S4x16x32768x1, .f32⟩
  | 42 => ⟨S4x16x32768x1, .f32⟩
  | 43 => ⟨S_, .f32⟩
  | 44 => ⟨S4x16x32768x1, .f32⟩
  | 45 => ⟨S4x16x32768x1, .f32⟩
  | 46 => ⟨S_, .f32⟩
  | 47 => ⟨S4x16x32768x1, .f32⟩
  | 48 => ⟨S4x16x32768x1, .f32⟩
  | 49 => ⟨S4x16x32768x1, .f32⟩
  | 50 => ⟨S_, .f32⟩
  | 51 => ⟨S4x16x32768x1, .f32⟩
  | 52 => ⟨S4x16x32768x1, .f32⟩
  | 53 => ⟨S_, .f32⟩
  | 54 => ⟨S4x16x32768x1, .f32⟩
  | 55 => ⟨S_, .f32⟩
  | 56 => ⟨S4x16x32768x1, .f32⟩
  | 57 => ⟨S1x16x1x1x1, .f32⟩
  | 58 => ⟨S1x16x1x1, .f32⟩
  | 59 => ⟨S4x16x32768x1, .f32⟩
  | 60 => ⟨S4x16x32768x1, .f32⟩
  | 61 => ⟨S4x16x32768x1, .f32⟩
  | 62 => ⟨S1x16x1x1x1, .f32⟩
  | 63 => ⟨S1x16x1x1, .f32⟩
  | 64 => ⟨S4x16x32768x1, .f32⟩
  | 65 => ⟨S4x16x32768x1, .f32⟩
  | 66 => ⟨S4x16x32768x1, .f32⟩
  | 67 => ⟨S1x16x1x1x1, .f32⟩
  | 68 => ⟨S1x16x1x1, .f32⟩
  | 69 => ⟨S4x16x32768x1, .f32⟩
  | 70 => ⟨S4x16x32768x1, .f32⟩
  | 71 => ⟨S4x16x32768x1, .f32⟩
  | 72 => ⟨S1x16x1x1x1, .f32⟩
  | 73 => ⟨S1x16x1x1, .f32⟩
  | 74 => ⟨S4x16x32768x1, .f32⟩
  | 75 => ⟨S4x16x32768x1, .f32⟩
  | 76 => ⟨S4x16x32768x1, .f32⟩
  | 77 => ⟨S1x16x1x1x1, .f32⟩
  | 78 => ⟨S1x16x1x1, .f32⟩
  | 79 => ⟨S4x16x32768x1, .f32⟩
  | 80 => ⟨S4x16x32768x1, .f32⟩
  | 81 => ⟨S4x16x32768x1, .f32⟩
  | 82 => ⟨S1x16x1x1x1, .f32⟩
  | 83 => ⟨S1x16x1x1, .f32⟩
  | 84 => ⟨S4x16x32768x1, .f32⟩
  | 85 => ⟨S4x16x32768x1, .f32⟩
  | 86 => ⟨S4x16x32768x1, .f32⟩
  | 87 => ⟨S1x16x1x1x1, .f32⟩
  | 88 => ⟨S1x16x1x1, .f32⟩
  | 89 => ⟨S4x16x32768x1, .f32⟩
  | 90 => ⟨S4x16x32768x1, .f32⟩
  | 91 => ⟨S4x16x32768x1, .f32⟩
  | 92 => ⟨S1x16x1x1x1, .f32⟩
  | 93 => ⟨S1x16x1x1, .f32⟩
  | 94 => ⟨S4x16x32768x1, .f32⟩
  | 95 => ⟨S4x16x32768x1, .f32⟩
  | 96 => ⟨S4x16x32768x1, .f32⟩
  | 97 => ⟨S1x16x1x1x1, .f32⟩
  | 98 => ⟨S1x16x1x1, .f32⟩
  | 99 => ⟨S4x16x32768x1, .f32⟩
  | 100 => ⟨S4x16x32768x1, .f32⟩
  | 101 => ⟨S4x16x32768x1, .f32⟩
  | 102 => ⟨S1x16x1x1x1, .f32⟩
  | 103 => ⟨S1x16x1x1, .f32⟩
  | 104 => ⟨S4x16x32768x1, .f32⟩
  | 105 => ⟨S4x16x32768x1, .f32⟩
  | 106 => ⟨S4x16x32768x1, .f32⟩
  | 107 => ⟨S1x16x1x1x1, .f32⟩
  | 108 => ⟨S1x16x1x1, .f32⟩
  | 109 => ⟨S4x16x32768x1, .f32⟩
  | 110 => ⟨S4x16x32768x1, .f32⟩
  | 111 => ⟨S4x16x32768x1, .f32⟩
  | 112 => ⟨S1x16x1x1x1, .f32⟩
  | 113 => ⟨S1x16x1x1, .f32⟩
  | 114 => ⟨S4x16x32768x1, .f32⟩
  | 115 => ⟨S4x16x32768x1, .f32⟩
  | 116 => ⟨S4x16x32768x1, .f32⟩
  | 117 => ⟨S1x16x1x1x1, .f32⟩
  | 118 => ⟨S1x16x1x1, .f32⟩
  | 119 => ⟨S4x16x32768x1, .f32⟩
  | 120 => ⟨S4x16x32768x1, .f32⟩
  | 121 => ⟨S4x16x32768x1, .f32⟩
  | 122 => ⟨S1x16x1x1x1, .f32⟩
  | 123 => ⟨S1x16x1x1, .f32⟩
  | 124 => ⟨S4x16x32768x1, .f32⟩
  | 125 => ⟨S4x16x32768x1, .f32⟩
  | 126 => ⟨S4x16x32768x1, .f32⟩
  | 127 => ⟨S1x16x1x1x1, .f32⟩
  | _ => ⟨S4x4x32x32x32, .f32⟩

abbrev hbmTy0_5 (i : Nat) : BufTy := match i % 128 with
  | 0 => ⟨S1x16x1x1, .f32⟩
  | 1 => ⟨S4x16x32768x1, .f32⟩
  | 2 => ⟨S4x16x32768x1, .f32⟩
  | 3 => ⟨S4x16x32768x1, .f32⟩
  | 4 => ⟨S1x16x1x1x1, .f32⟩
  | 5 => ⟨S1x16x1x1, .f32⟩
  | 6 => ⟨S4x16x32768x1, .f32⟩
  | 7 => ⟨S4x16x32768x1, .f32⟩
  | 8 => ⟨S4x16x32768x1, .f32⟩
  | 9 => ⟨S4x16x32x1024, .f32⟩
  | _ => ⟨S4x4x32x32x32, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S4x4x32x32x32, .f32⟩

abbrev bufTy : (tb : Table) → Fin (tcTables nBuf tb) → BufTy
  | .hbm, ⟨i, _⟩ => hbmTy i
  | _, _ => ⟨S4x4x32x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c_0 : Ref sig .tc := ⟨.hbm, 36, rfl⟩
abbrev main_v25 : Ref sig .tc := ⟨.hbm, 37, rfl⟩
abbrev main_v26 : Ref sig .tc := ⟨.hbm, 38, rfl⟩
abbrev main_c_1 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_2 : Ref sig .tc := ⟨.hbm, 43, rfl⟩
abbrev main_v30 : Ref sig .tc := ⟨.hbm, 44, rfl⟩
abbrev main_v31 : Ref sig .tc := ⟨.hbm, 45, rfl⟩
abbrev main_c_3 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c_4 : Ref sig .tc := ⟨.hbm, 50, rfl⟩
abbrev main_v35 : Ref sig .tc := ⟨.hbm, 51, rfl⟩
abbrev main_v36 : Ref sig .tc := ⟨.hbm, 52, rfl⟩
abbrev main_c_5 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_c_6 : Ref sig .tc := ⟨.hbm, 57, rfl⟩
abbrev main_v40 : Ref sig .tc := ⟨.hbm, 58, rfl⟩
abbrev main_v41 : Ref sig .tc := ⟨.hbm, 59, rfl⟩
abbrev main_c_7 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst : Ref sig .tc := ⟨.hbm, 75, rfl⟩
abbrev main_v56 : Ref sig .tc := ⟨.hbm, 76, rfl⟩
abbrev main_cst_8 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_9 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_cst_10 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_cst_11 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_cst_12 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_cst_13 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_cst_14 : Ref sig .tc := ⟨.hbm, 113, rfl⟩
abbrev main_v87 : Ref sig .tc := ⟨.hbm, 114, rfl⟩
abbrev main_v88 : Ref sig .tc := ⟨.hbm, 115, rfl⟩
abbrev main_cst_15 : Ref sig .tc := ⟨.hbm, 116, rfl⟩
abbrev main_v89 : Ref sig .tc := ⟨.hbm, 117, rfl⟩
abbrev main_v90 : Ref sig .tc := ⟨.hbm, 118, rfl⟩
abbrev main_cst_16 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_cst_17 : Ref sig .tc := ⟨.hbm, 123, rfl⟩
abbrev main_v94 : Ref sig .tc := ⟨.hbm, 124, rfl⟩
abbrev main_v95 : Ref sig .tc := ⟨.hbm, 125, rfl⟩
abbrev main_cst_18 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_cst_19 : Ref sig .tc := ⟨.hbm, 130, rfl⟩
abbrev main_v99 : Ref sig .tc := ⟨.hbm, 131, rfl⟩
abbrev main_v100 : Ref sig .tc := ⟨.hbm, 132, rfl⟩
abbrev main_cst_20 : Ref sig .tc := ⟨.hbm, 133, rfl⟩
abbrev main_v101 : Ref sig .tc := ⟨.hbm, 134, rfl⟩
abbrev main_cst_21 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_v147 : Ref sig .tc := ⟨.hbm, 181, rfl⟩
abbrev main_v148 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_v157 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_v161 : Ref sig .tc := ⟨.hbm, 195, rfl⟩
abbrev main_v162 : Ref sig .tc := ⟨.hbm, 196, rfl⟩
abbrev main_v163 : Ref sig .tc := ⟨.hbm, 197, rfl⟩
abbrev main_v164 : Ref sig .tc := ⟨.hbm, 198, rfl⟩
abbrev main_v165 : Ref sig .tc := ⟨.hbm, 199, rfl⟩
abbrev main_v166 : Ref sig .tc := ⟨.hbm, 200, rfl⟩
abbrev main_v167 : Ref sig .tc := ⟨.hbm, 201, rfl⟩
abbrev main_v168 : Ref sig .tc := ⟨.hbm, 202, rfl⟩
abbrev main_v169 : Ref sig .tc := ⟨.hbm, 203, rfl⟩
abbrev main_v170 : Ref sig .tc := ⟨.hbm, 204, rfl⟩
abbrev main_v171 : Ref sig .tc := ⟨.hbm, 205, rfl⟩
abbrev main_v172 : Ref sig .tc := ⟨.hbm, 206, rfl⟩
abbrev main_v173 : Ref sig .tc := ⟨.hbm, 207, rfl⟩
abbrev main_v174 : Ref sig .tc := ⟨.hbm, 208, rfl⟩
abbrev main_v175 : Ref sig .tc := ⟨.hbm, 209, rfl⟩
abbrev main_v176 : Ref sig .tc := ⟨.hbm, 210, rfl⟩
abbrev main_v177 : Ref sig .tc := ⟨.hbm, 211, rfl⟩
abbrev main_v178 : Ref sig .tc := ⟨.hbm, 212, rfl⟩
abbrev main_v179 : Ref sig .tc := ⟨.hbm, 213, rfl⟩
abbrev main_v180 : Ref sig .tc := ⟨.hbm, 214, rfl⟩
abbrev main_v181 : Ref sig .tc := ⟨.hbm, 215, rfl⟩
abbrev main_v182 : Ref sig .tc := ⟨.hbm, 216, rfl⟩
abbrev main_v183 : Ref sig .tc := ⟨.hbm, 217, rfl⟩
abbrev main_v184 : Ref sig .tc := ⟨.hbm, 218, rfl⟩
abbrev main_cst_22 : Ref sig .tc := ⟨.hbm, 219, rfl⟩
abbrev main_v185 : Ref sig .tc := ⟨.hbm, 220, rfl⟩
abbrev main_cst_23 : Ref sig .tc := ⟨.hbm, 221, rfl⟩
abbrev main_v186 : Ref sig .tc := ⟨.hbm, 222, rfl⟩
abbrev main_v187 : Ref sig .tc := ⟨.hbm, 223, rfl⟩
abbrev main_v188 : Ref sig .tc := ⟨.hbm, 224, rfl⟩
abbrev main_v189 : Ref sig .tc := ⟨.hbm, 225, rfl⟩
abbrev main_v190 : Ref sig .tc := ⟨.hbm, 226, rfl⟩
abbrev main_v191 : Ref sig .tc := ⟨.hbm, 227, rfl⟩
abbrev main_cst_24 : Ref sig .tc := ⟨.hbm, 228, rfl⟩
abbrev main_v192 : Ref sig .tc := ⟨.hbm, 229, rfl⟩
abbrev main_v193 : Ref sig .tc := ⟨.hbm, 230, rfl⟩
abbrev main_v194 : Ref sig .tc := ⟨.hbm, 231, rfl⟩
abbrev main_v195 : Ref sig .tc := ⟨.hbm, 232, rfl⟩
abbrev main_v196 : Ref sig .tc := ⟨.hbm, 233, rfl⟩
abbrev main_v197 : Ref sig .tc := ⟨.hbm, 234, rfl⟩
abbrev main_v198 : Ref sig .tc := ⟨.hbm, 235, rfl⟩
abbrev main_cst_25 : Ref sig .tc := ⟨.hbm, 236, rfl⟩
abbrev main_v199 : Ref sig .tc := ⟨.hbm, 237, rfl⟩
abbrev main_v200 : Ref sig .tc := ⟨.hbm, 238, rfl⟩
abbrev main_v201 : Ref sig .tc := ⟨.hbm, 239, rfl⟩
abbrev main_v202 : Ref sig .tc := ⟨.hbm, 240, rfl⟩
abbrev main_cst_26 : Ref sig .tc := ⟨.hbm, 241, rfl⟩
abbrev main_v203 : Ref sig .tc := ⟨.hbm, 242, rfl⟩
abbrev main_v204 : Ref sig .tc := ⟨.hbm, 243, rfl⟩
abbrev main_v205 : Ref sig .tc := ⟨.hbm, 244, rfl⟩
abbrev main_v206 : Ref sig .tc := ⟨.hbm, 245, rfl⟩
abbrev main_v207 : Ref sig .tc := ⟨.hbm, 246, rfl⟩
abbrev main_v208 : Ref sig .tc := ⟨.hbm, 247, rfl⟩
abbrev main_v209 : Ref sig .tc := ⟨.hbm, 248, rfl⟩
abbrev main_cst_27 : Ref sig .tc := ⟨.hbm, 249, rfl⟩
abbrev main_v210 : Ref sig .tc := ⟨.hbm, 250, rfl⟩
abbrev main_v211 : Ref sig .tc := ⟨.hbm, 251, rfl⟩
abbrev main_v212 : Ref sig .tc := ⟨.hbm, 252, rfl⟩
abbrev main_cst_28 : Ref sig .tc := ⟨.hbm, 253, rfl⟩
abbrev main_v213 : Ref sig .tc := ⟨.hbm, 254, rfl⟩
abbrev main_v214 : Ref sig .tc := ⟨.hbm, 255, rfl⟩
abbrev main_v215 : Ref sig .tc := ⟨.hbm, 256, rfl⟩
abbrev main_cst_29 : Ref sig .tc := ⟨.hbm, 257, rfl⟩
abbrev main_v216 : Ref sig .tc := ⟨.hbm, 258, rfl⟩
abbrev main_v217 : Ref sig .tc := ⟨.hbm, 259, rfl⟩
abbrev main_cst_30 : Ref sig .tc := ⟨.hbm, 260, rfl⟩
abbrev main_v218 : Ref sig .tc := ⟨.hbm, 261, rfl⟩
abbrev main_v219 : Ref sig .tc := ⟨.hbm, 262, rfl⟩
abbrev main_cst_31 : Ref sig .tc := ⟨.hbm, 263, rfl⟩
abbrev main_v220 : Ref sig .tc := ⟨.hbm, 264, rfl⟩
abbrev main_v221 : Ref sig .tc := ⟨.hbm, 265, rfl⟩
abbrev main_v222 : Ref sig .tc := ⟨.hbm, 266, rfl⟩
abbrev main_cst_32 : Ref sig .tc := ⟨.hbm, 267, rfl⟩
abbrev main_v223 : Ref sig .tc := ⟨.hbm, 268, rfl⟩
abbrev main_v224 : Ref sig .tc := ⟨.hbm, 269, rfl⟩
abbrev main_cst_33 : Ref sig .tc := ⟨.hbm, 270, rfl⟩
abbrev main_v225 : Ref sig .tc := ⟨.hbm, 271, rfl⟩
abbrev main_v226 : Ref sig .tc := ⟨.hbm, 272, rfl⟩
abbrev main_v227 : Ref sig .tc := ⟨.hbm, 273, rfl⟩
abbrev main_cst_34 : Ref sig .tc := ⟨.hbm, 274, rfl⟩
abbrev main_v228 : Ref sig .tc := ⟨.hbm, 275, rfl⟩
abbrev main_v229 : Ref sig .tc := ⟨.hbm, 276, rfl⟩
abbrev main_cst_35 : Ref sig .tc := ⟨.hbm, 277, rfl⟩
abbrev main_v230 : Ref sig .tc := ⟨.hbm, 278, rfl⟩
abbrev main_cst_36 : Ref sig .tc := ⟨.hbm, 279, rfl⟩
abbrev main_v231 : Ref sig .tc := ⟨.hbm, 280, rfl⟩
abbrev main_v232 : Ref sig .tc := ⟨.hbm, 281, rfl⟩
abbrev main_v233 : Ref sig .tc := ⟨.hbm, 282, rfl⟩
abbrev main_v234 : Ref sig .tc := ⟨.hbm, 283, rfl⟩
abbrev main_v235 : Ref sig .tc := ⟨.hbm, 284, rfl⟩
abbrev main_v236 : Ref sig .tc := ⟨.hbm, 285, rfl⟩
abbrev main_v237 : Ref sig .tc := ⟨.hbm, 286, rfl⟩
abbrev main_v238 : Ref sig .tc := ⟨.hbm, 287, rfl⟩
abbrev main_v239 : Ref sig .tc := ⟨.hbm, 288, rfl⟩
abbrev main_v240 : Ref sig .tc := ⟨.hbm, 289, rfl⟩
abbrev main_v241 : Ref sig .tc := ⟨.hbm, 290, rfl⟩
abbrev main_v242 : Ref sig .tc := ⟨.hbm, 291, rfl⟩
abbrev main_v243 : Ref sig .tc := ⟨.hbm, 292, rfl⟩
abbrev main_v244 : Ref sig .tc := ⟨.hbm, 293, rfl⟩
abbrev main_v245 : Ref sig .tc := ⟨.hbm, 294, rfl⟩
abbrev main_v246 : Ref sig .tc := ⟨.hbm, 295, rfl⟩
abbrev main_v247 : Ref sig .tc := ⟨.hbm, 296, rfl⟩
abbrev main_v248 : Ref sig .tc := ⟨.hbm, 297, rfl⟩
abbrev main_v249 : Ref sig .tc := ⟨.hbm, 298, rfl⟩
abbrev main_v250 : Ref sig .tc := ⟨.hbm, 299, rfl⟩
abbrev main_v251 : Ref sig .tc := ⟨.hbm, 300, rfl⟩
abbrev main_v252 : Ref sig .tc := ⟨.hbm, 301, rfl⟩
abbrev main_v253 : Ref sig .tc := ⟨.hbm, 302, rfl⟩
abbrev main_v254 : Ref sig .tc := ⟨.hbm, 303, rfl⟩
abbrev main_v255 : Ref sig .tc := ⟨.hbm, 304, rfl⟩
abbrev main_v256 : Ref sig .tc := ⟨.hbm, 305, rfl⟩
abbrev main_v257 : Ref sig .tc := ⟨.hbm, 306, rfl⟩
abbrev main_v258 : Ref sig .tc := ⟨.hbm, 307, rfl⟩
abbrev main_v259 : Ref sig .tc := ⟨.hbm, 308, rfl⟩
abbrev main_v260 : Ref sig .tc := ⟨.hbm, 309, rfl⟩
abbrev main_v261 : Ref sig .tc := ⟨.hbm, 310, rfl⟩
abbrev main_v262 : Ref sig .tc := ⟨.hbm, 311, rfl⟩
abbrev main_v263 : Ref sig .tc := ⟨.hbm, 312, rfl⟩
abbrev main_v264 : Ref sig .tc := ⟨.hbm, 313, rfl⟩
abbrev main_v265 : Ref sig .tc := ⟨.hbm, 314, rfl⟩
abbrev main_v266 : Ref sig .tc := ⟨.hbm, 315, rfl⟩
abbrev main_v267 : Ref sig .tc := ⟨.hbm, 316, rfl⟩
abbrev main_v268 : Ref sig .tc := ⟨.hbm, 317, rfl⟩
abbrev main_v269 : Ref sig .tc := ⟨.hbm, 318, rfl⟩
abbrev main_v270 : Ref sig .tc := ⟨.hbm, 319, rfl⟩
abbrev main_v271 : Ref sig .tc := ⟨.hbm, 320, rfl⟩
abbrev main_v272 : Ref sig .tc := ⟨.hbm, 321, rfl⟩
abbrev main_v273 : Ref sig .tc := ⟨.hbm, 322, rfl⟩
abbrev main_v274 : Ref sig .tc := ⟨.hbm, 323, rfl⟩
abbrev main_v275 : Ref sig .tc := ⟨.hbm, 324, rfl⟩
abbrev main_v276 : Ref sig .tc := ⟨.hbm, 325, rfl⟩
abbrev main_v277 : Ref sig .tc := ⟨.hbm, 326, rfl⟩
abbrev main_v278 : Ref sig .tc := ⟨.hbm, 327, rfl⟩
abbrev main_v279 : Ref sig .tc := ⟨.hbm, 328, rfl⟩
abbrev main_v280 : Ref sig .tc := ⟨.hbm, 329, rfl⟩
abbrev main_v281 : Ref sig .tc := ⟨.hbm, 330, rfl⟩
abbrev main_v282 : Ref sig .tc := ⟨.hbm, 331, rfl⟩
abbrev main_v283 : Ref sig .tc := ⟨.hbm, 332, rfl⟩
abbrev main_v284 : Ref sig .tc := ⟨.hbm, 333, rfl⟩
abbrev main_v285 : Ref sig .tc := ⟨.hbm, 334, rfl⟩
abbrev main_v286 : Ref sig .tc := ⟨.hbm, 335, rfl⟩
abbrev main_v287 : Ref sig .tc := ⟨.hbm, 336, rfl⟩
abbrev main_v288 : Ref sig .tc := ⟨.hbm, 337, rfl⟩
abbrev main_v289 : Ref sig .tc := ⟨.hbm, 338, rfl⟩
abbrev main_v290 : Ref sig .tc := ⟨.hbm, 339, rfl⟩
abbrev main_v291 : Ref sig .tc := ⟨.hbm, 340, rfl⟩
abbrev main_v292 : Ref sig .tc := ⟨.hbm, 341, rfl⟩
abbrev main_v293 : Ref sig .tc := ⟨.hbm, 342, rfl⟩
abbrev main_v294 : Ref sig .tc := ⟨.hbm, 343, rfl⟩
abbrev main_v295 : Ref sig .tc := ⟨.hbm, 344, rfl⟩
abbrev main_v296 : Ref sig .tc := ⟨.hbm, 345, rfl⟩
abbrev main_v297 : Ref sig .tc := ⟨.hbm, 346, rfl⟩
abbrev main_v298 : Ref sig .tc := ⟨.hbm, 347, rfl⟩
abbrev main_v299 : Ref sig .tc := ⟨.hbm, 348, rfl⟩
abbrev main_v300 : Ref sig .tc := ⟨.hbm, 349, rfl⟩
abbrev main_v301 : Ref sig .tc := ⟨.hbm, 350, rfl⟩
abbrev main_v302 : Ref sig .tc := ⟨.hbm, 351, rfl⟩
abbrev main_v303 : Ref sig .tc := ⟨.hbm, 352, rfl⟩
abbrev main_v304 : Ref sig .tc := ⟨.hbm, 353, rfl⟩
abbrev main_v305 : Ref sig .tc := ⟨.hbm, 354, rfl⟩
abbrev main_v306 : Ref sig .tc := ⟨.hbm, 355, rfl⟩
abbrev main_v307 : Ref sig .tc := ⟨.hbm, 356, rfl⟩
abbrev main_v308 : Ref sig .tc := ⟨.hbm, 357, rfl⟩
abbrev main_v309 : Ref sig .tc := ⟨.hbm, 358, rfl⟩
abbrev main_v310 : Ref sig .tc := ⟨.hbm, 359, rfl⟩
abbrev main_v311 : Ref sig .tc := ⟨.hbm, 360, rfl⟩
abbrev main_v312 : Ref sig .tc := ⟨.hbm, 361, rfl⟩
abbrev main_v313 : Ref sig .tc := ⟨.hbm, 362, rfl⟩
abbrev main_cst_37 : Ref sig .tc := ⟨.hbm, 363, rfl⟩
abbrev main_v314 : Ref sig .tc := ⟨.hbm, 364, rfl⟩
abbrev main_cst_38 : Ref sig .tc := ⟨.hbm, 365, rfl⟩
abbrev main_v315 : Ref sig .tc := ⟨.hbm, 366, rfl⟩
abbrev main_v316 : Ref sig .tc := ⟨.hbm, 367, rfl⟩
abbrev main_v317 : Ref sig .tc := ⟨.hbm, 368, rfl⟩
abbrev main_v318 : Ref sig .tc := ⟨.hbm, 369, rfl⟩
abbrev main_v319 : Ref sig .tc := ⟨.hbm, 370, rfl⟩
abbrev main_v320 : Ref sig .tc := ⟨.hbm, 371, rfl⟩
abbrev main_cst_39 : Ref sig .tc := ⟨.hbm, 372, rfl⟩
abbrev main_v321 : Ref sig .tc := ⟨.hbm, 373, rfl⟩
abbrev main_v322 : Ref sig .tc := ⟨.hbm, 374, rfl⟩
abbrev main_v323 : Ref sig .tc := ⟨.hbm, 375, rfl⟩
abbrev main_v324 : Ref sig .tc := ⟨.hbm, 376, rfl⟩
abbrev main_v325 : Ref sig .tc := ⟨.hbm, 377, rfl⟩
abbrev main_v326 : Ref sig .tc := ⟨.hbm, 378, rfl⟩
abbrev main_v327 : Ref sig .tc := ⟨.hbm, 379, rfl⟩
abbrev main_cst_40 : Ref sig .tc := ⟨.hbm, 380, rfl⟩
abbrev main_v328 : Ref sig .tc := ⟨.hbm, 381, rfl⟩
abbrev main_v329 : Ref sig .tc := ⟨.hbm, 382, rfl⟩
abbrev main_v330 : Ref sig .tc := ⟨.hbm, 383, rfl⟩
abbrev main_v331 : Ref sig .tc := ⟨.hbm, 384, rfl⟩
abbrev main_cst_41 : Ref sig .tc := ⟨.hbm, 385, rfl⟩
abbrev main_v332 : Ref sig .tc := ⟨.hbm, 386, rfl⟩
abbrev main_v333 : Ref sig .tc := ⟨.hbm, 387, rfl⟩
abbrev main_v334 : Ref sig .tc := ⟨.hbm, 388, rfl⟩
abbrev main_v335 : Ref sig .tc := ⟨.hbm, 389, rfl⟩
abbrev main_v336 : Ref sig .tc := ⟨.hbm, 390, rfl⟩
abbrev main_v337 : Ref sig .tc := ⟨.hbm, 391, rfl⟩
abbrev main_v338 : Ref sig .tc := ⟨.hbm, 392, rfl⟩
abbrev main_cst_42 : Ref sig .tc := ⟨.hbm, 393, rfl⟩
abbrev main_v339 : Ref sig .tc := ⟨.hbm, 394, rfl⟩
abbrev main_v340 : Ref sig .tc := ⟨.hbm, 395, rfl⟩
abbrev main_v341 : Ref sig .tc := ⟨.hbm, 396, rfl⟩
abbrev main_cst_43 : Ref sig .tc := ⟨.hbm, 397, rfl⟩
abbrev main_v342 : Ref sig .tc := ⟨.hbm, 398, rfl⟩
abbrev main_v343 : Ref sig .tc := ⟨.hbm, 399, rfl⟩
abbrev main_v344 : Ref sig .tc := ⟨.hbm, 400, rfl⟩
abbrev main_cst_44 : Ref sig .tc := ⟨.hbm, 401, rfl⟩
abbrev main_v345 : Ref sig .tc := ⟨.hbm, 402, rfl⟩
abbrev main_v346 : Ref sig .tc := ⟨.hbm, 403, rfl⟩
abbrev main_cst_45 : Ref sig .tc := ⟨.hbm, 404, rfl⟩
abbrev main_v347 : Ref sig .tc := ⟨.hbm, 405, rfl⟩
abbrev main_v348 : Ref sig .tc := ⟨.hbm, 406, rfl⟩
abbrev main_cst_46 : Ref sig .tc := ⟨.hbm, 407, rfl⟩
abbrev main_v349 : Ref sig .tc := ⟨.hbm, 408, rfl⟩
abbrev main_v350 : Ref sig .tc := ⟨.hbm, 409, rfl⟩
abbrev main_v351 : Ref sig .tc := ⟨.hbm, 410, rfl⟩
abbrev main_cst_47 : Ref sig .tc := ⟨.hbm, 411, rfl⟩
abbrev main_v352 : Ref sig .tc := ⟨.hbm, 412, rfl⟩
abbrev main_v353 : Ref sig .tc := ⟨.hbm, 413, rfl⟩
abbrev main_cst_48 : Ref sig .tc := ⟨.hbm, 414, rfl⟩
abbrev main_v354 : Ref sig .tc := ⟨.hbm, 415, rfl⟩
abbrev main_v355 : Ref sig .tc := ⟨.hbm, 416, rfl⟩
abbrev main_v356 : Ref sig .tc := ⟨.hbm, 417, rfl⟩
abbrev main_cst_49 : Ref sig .tc := ⟨.hbm, 418, rfl⟩
abbrev main_v357 : Ref sig .tc := ⟨.hbm, 419, rfl⟩
abbrev main_v358 : Ref sig .tc := ⟨.hbm, 420, rfl⟩
abbrev main_cst_50 : Ref sig .tc := ⟨.hbm, 421, rfl⟩
abbrev main_v359 : Ref sig .tc := ⟨.hbm, 422, rfl⟩
abbrev main_cst_51 : Ref sig .tc := ⟨.hbm, 423, rfl⟩
abbrev main_v360 : Ref sig .tc := ⟨.hbm, 424, rfl⟩
abbrev main_v361 : Ref sig .tc := ⟨.hbm, 425, rfl⟩
abbrev main_v362 : Ref sig .tc := ⟨.hbm, 426, rfl⟩
abbrev main_v363 : Ref sig .tc := ⟨.hbm, 427, rfl⟩
abbrev main_v364 : Ref sig .tc := ⟨.hbm, 428, rfl⟩
abbrev main_v365 : Ref sig .tc := ⟨.hbm, 429, rfl⟩
abbrev main_v366 : Ref sig .tc := ⟨.hbm, 430, rfl⟩
abbrev main_v367 : Ref sig .tc := ⟨.hbm, 431, rfl⟩
abbrev main_v368 : Ref sig .tc := ⟨.hbm, 432, rfl⟩
abbrev main_v369 : Ref sig .tc := ⟨.hbm, 433, rfl⟩
abbrev main_v370 : Ref sig .tc := ⟨.hbm, 434, rfl⟩
abbrev main_v371 : Ref sig .tc := ⟨.hbm, 435, rfl⟩
abbrev main_v372 : Ref sig .tc := ⟨.hbm, 436, rfl⟩
abbrev main_v373 : Ref sig .tc := ⟨.hbm, 437, rfl⟩
abbrev main_v374 : Ref sig .tc := ⟨.hbm, 438, rfl⟩
abbrev main_v375 : Ref sig .tc := ⟨.hbm, 439, rfl⟩
abbrev main_v376 : Ref sig .tc := ⟨.hbm, 440, rfl⟩
abbrev main_v377 : Ref sig .tc := ⟨.hbm, 441, rfl⟩
abbrev main_v378 : Ref sig .tc := ⟨.hbm, 442, rfl⟩
abbrev main_v379 : Ref sig .tc := ⟨.hbm, 443, rfl⟩
abbrev main_v380 : Ref sig .tc := ⟨.hbm, 444, rfl⟩
abbrev main_v381 : Ref sig .tc := ⟨.hbm, 445, rfl⟩
abbrev main_v382 : Ref sig .tc := ⟨.hbm, 446, rfl⟩
abbrev main_v383 : Ref sig .tc := ⟨.hbm, 447, rfl⟩
abbrev main_v384 : Ref sig .tc := ⟨.hbm, 448, rfl⟩
abbrev main_v385 : Ref sig .tc := ⟨.hbm, 449, rfl⟩
abbrev main_v386 : Ref sig .tc := ⟨.hbm, 450, rfl⟩
abbrev main_v387 : Ref sig .tc := ⟨.hbm, 451, rfl⟩
abbrev main_v388 : Ref sig .tc := ⟨.hbm, 452, rfl⟩
abbrev main_v389 : Ref sig .tc := ⟨.hbm, 453, rfl⟩
abbrev main_v390 : Ref sig .tc := ⟨.hbm, 454, rfl⟩
abbrev main_v391 : Ref sig .tc := ⟨.hbm, 455, rfl⟩
abbrev main_v392 : Ref sig .tc := ⟨.hbm, 456, rfl⟩
abbrev main_v393 : Ref sig .tc := ⟨.hbm, 457, rfl⟩
abbrev main_v394 : Ref sig .tc := ⟨.hbm, 458, rfl⟩
abbrev main_v395 : Ref sig .tc := ⟨.hbm, 459, rfl⟩
abbrev main_v396 : Ref sig .tc := ⟨.hbm, 460, rfl⟩
abbrev main_v397 : Ref sig .tc := ⟨.hbm, 461, rfl⟩
abbrev main_v398 : Ref sig .tc := ⟨.hbm, 462, rfl⟩
abbrev main_v399 : Ref sig .tc := ⟨.hbm, 463, rfl⟩
abbrev main_v400 : Ref sig .tc := ⟨.hbm, 464, rfl⟩
abbrev main_v401 : Ref sig .tc := ⟨.hbm, 465, rfl⟩
abbrev main_v402 : Ref sig .tc := ⟨.hbm, 466, rfl⟩
abbrev main_v403 : Ref sig .tc := ⟨.hbm, 467, rfl⟩
abbrev main_v404 : Ref sig .tc := ⟨.hbm, 468, rfl⟩
abbrev main_v405 : Ref sig .tc := ⟨.hbm, 469, rfl⟩
abbrev main_v406 : Ref sig .tc := ⟨.hbm, 470, rfl⟩
abbrev main_v407 : Ref sig .tc := ⟨.hbm, 471, rfl⟩
abbrev main_v408 : Ref sig .tc := ⟨.hbm, 472, rfl⟩
abbrev main_v409 : Ref sig .tc := ⟨.hbm, 473, rfl⟩
abbrev main_v410 : Ref sig .tc := ⟨.hbm, 474, rfl⟩
abbrev main_v411 : Ref sig .tc := ⟨.hbm, 475, rfl⟩
abbrev main_v412 : Ref sig .tc := ⟨.hbm, 476, rfl⟩
abbrev main_v413 : Ref sig .tc := ⟨.hbm, 477, rfl⟩
abbrev main_v414 : Ref sig .tc := ⟨.hbm, 478, rfl⟩
abbrev main_v415 : Ref sig .tc := ⟨.hbm, 479, rfl⟩
abbrev main_v416 : Ref sig .tc := ⟨.hbm, 480, rfl⟩
abbrev main_v417 : Ref sig .tc := ⟨.hbm, 481, rfl⟩
abbrev main_v418 : Ref sig .tc := ⟨.hbm, 482, rfl⟩
abbrev main_v419 : Ref sig .tc := ⟨.hbm, 483, rfl⟩
abbrev main_v420 : Ref sig .tc := ⟨.hbm, 484, rfl⟩
abbrev main_v421 : Ref sig .tc := ⟨.hbm, 485, rfl⟩
abbrev main_v422 : Ref sig .tc := ⟨.hbm, 486, rfl⟩
abbrev main_v423 : Ref sig .tc := ⟨.hbm, 487, rfl⟩
abbrev main_v424 : Ref sig .tc := ⟨.hbm, 488, rfl⟩
abbrev main_v425 : Ref sig .tc := ⟨.hbm, 489, rfl⟩
abbrev main_v426 : Ref sig .tc := ⟨.hbm, 490, rfl⟩
abbrev main_v427 : Ref sig .tc := ⟨.hbm, 491, rfl⟩
abbrev main_v428 : Ref sig .tc := ⟨.hbm, 492, rfl⟩
abbrev main_v429 : Ref sig .tc := ⟨.hbm, 493, rfl⟩
abbrev main_v430 : Ref sig .tc := ⟨.hbm, 494, rfl⟩
abbrev main_v431 : Ref sig .tc := ⟨.hbm, 495, rfl⟩
abbrev main_v432 : Ref sig .tc := ⟨.hbm, 496, rfl⟩
abbrev main_v433 : Ref sig .tc := ⟨.hbm, 497, rfl⟩
abbrev main_v434 : Ref sig .tc := ⟨.hbm, 498, rfl⟩
abbrev main_v435 : Ref sig .tc := ⟨.hbm, 499, rfl⟩
abbrev main_v436 : Ref sig .tc := ⟨.hbm, 500, rfl⟩
abbrev main_v437 : Ref sig .tc := ⟨.hbm, 501, rfl⟩
abbrev main_v438 : Ref sig .tc := ⟨.hbm, 502, rfl⟩
abbrev main_v439 : Ref sig .tc := ⟨.hbm, 503, rfl⟩
abbrev main_v440 : Ref sig .tc := ⟨.hbm, 504, rfl⟩
abbrev main_v441 : Ref sig .tc := ⟨.hbm, 505, rfl⟩
abbrev main_v442 : Ref sig .tc := ⟨.hbm, 506, rfl⟩
abbrev main_cst_52 : Ref sig .tc := ⟨.hbm, 507, rfl⟩
abbrev main_v443 : Ref sig .tc := ⟨.hbm, 508, rfl⟩
abbrev main_cst_53 : Ref sig .tc := ⟨.hbm, 509, rfl⟩
abbrev main_v444 : Ref sig .tc := ⟨.hbm, 510, rfl⟩
abbrev main_v445 : Ref sig .tc := ⟨.hbm, 511, rfl⟩
abbrev main_v446 : Ref sig .tc := ⟨.hbm, 512, rfl⟩
abbrev main_v447 : Ref sig .tc := ⟨.hbm, 513, rfl⟩
abbrev main_v448 : Ref sig .tc := ⟨.hbm, 514, rfl⟩
abbrev main_v449 : Ref sig .tc := ⟨.hbm, 515, rfl⟩
abbrev main_cst_54 : Ref sig .tc := ⟨.hbm, 516, rfl⟩
abbrev main_v450 : Ref sig .tc := ⟨.hbm, 517, rfl⟩
abbrev main_v451 : Ref sig .tc := ⟨.hbm, 518, rfl⟩
abbrev main_v452 : Ref sig .tc := ⟨.hbm, 519, rfl⟩
abbrev main_v453 : Ref sig .tc := ⟨.hbm, 520, rfl⟩
abbrev main_v454 : Ref sig .tc := ⟨.hbm, 521, rfl⟩
abbrev main_v455 : Ref sig .tc := ⟨.hbm, 522, rfl⟩
abbrev main_v456 : Ref sig .tc := ⟨.hbm, 523, rfl⟩
abbrev main_cst_55 : Ref sig .tc := ⟨.hbm, 524, rfl⟩
abbrev main_v457 : Ref sig .tc := ⟨.hbm, 525, rfl⟩
abbrev main_v458 : Ref sig .tc := ⟨.hbm, 526, rfl⟩
abbrev main_v459 : Ref sig .tc := ⟨.hbm, 527, rfl⟩
abbrev main_v460 : Ref sig .tc := ⟨.hbm, 528, rfl⟩
abbrev main_cst_56 : Ref sig .tc := ⟨.hbm, 529, rfl⟩
abbrev main_v461 : Ref sig .tc := ⟨.hbm, 530, rfl⟩
abbrev main_v462 : Ref sig .tc := ⟨.hbm, 531, rfl⟩
abbrev main_v463 : Ref sig .tc := ⟨.hbm, 532, rfl⟩
abbrev main_v464 : Ref sig .tc := ⟨.hbm, 533, rfl⟩
abbrev main_v465 : Ref sig .tc := ⟨.hbm, 534, rfl⟩
abbrev main_v466 : Ref sig .tc := ⟨.hbm, 535, rfl⟩
abbrev main_v467 : Ref sig .tc := ⟨.hbm, 536, rfl⟩
abbrev main_cst_57 : Ref sig .tc := ⟨.hbm, 537, rfl⟩
abbrev main_v468 : Ref sig .tc := ⟨.hbm, 538, rfl⟩
abbrev main_v469 : Ref sig .tc := ⟨.hbm, 539, rfl⟩
abbrev main_v470 : Ref sig .tc := ⟨.hbm, 540, rfl⟩
abbrev main_cst_58 : Ref sig .tc := ⟨.hbm, 541, rfl⟩
abbrev main_v471 : Ref sig .tc := ⟨.hbm, 542, rfl⟩
abbrev main_v472 : Ref sig .tc := ⟨.hbm, 543, rfl⟩
abbrev main_v473 : Ref sig .tc := ⟨.hbm, 544, rfl⟩
abbrev main_cst_59 : Ref sig .tc := ⟨.hbm, 545, rfl⟩
abbrev main_v474 : Ref sig .tc := ⟨.hbm, 546, rfl⟩
abbrev main_v475 : Ref sig .tc := ⟨.hbm, 547, rfl⟩
abbrev main_cst_60 : Ref sig .tc := ⟨.hbm, 548, rfl⟩
abbrev main_v476 : Ref sig .tc := ⟨.hbm, 549, rfl⟩
abbrev main_v477 : Ref sig .tc := ⟨.hbm, 550, rfl⟩
abbrev main_cst_61 : Ref sig .tc := ⟨.hbm, 551, rfl⟩
abbrev main_v478 : Ref sig .tc := ⟨.hbm, 552, rfl⟩
abbrev main_v479 : Ref sig .tc := ⟨.hbm, 553, rfl⟩
abbrev main_v480 : Ref sig .tc := ⟨.hbm, 554, rfl⟩
abbrev main_cst_62 : Ref sig .tc := ⟨.hbm, 555, rfl⟩
abbrev main_v481 : Ref sig .tc := ⟨.hbm, 556, rfl⟩
abbrev main_v482 : Ref sig .tc := ⟨.hbm, 557, rfl⟩
abbrev main_cst_63 : Ref sig .tc := ⟨.hbm, 558, rfl⟩
abbrev main_v483 : Ref sig .tc := ⟨.hbm, 559, rfl⟩
abbrev main_v484 : Ref sig .tc := ⟨.hbm, 560, rfl⟩
abbrev main_v485 : Ref sig .tc := ⟨.hbm, 561, rfl⟩
abbrev main_cst_64 : Ref sig .tc := ⟨.hbm, 562, rfl⟩
abbrev main_v486 : Ref sig .tc := ⟨.hbm, 563, rfl⟩
abbrev main_v487 : Ref sig .tc := ⟨.hbm, 564, rfl⟩
abbrev main_cst_65 : Ref sig .tc := ⟨.hbm, 565, rfl⟩
abbrev main_v488 : Ref sig .tc := ⟨.hbm, 566, rfl⟩
abbrev main_cst_66 : Ref sig .tc := ⟨.hbm, 567, rfl⟩
abbrev main_v489 : Ref sig .tc := ⟨.hbm, 568, rfl⟩
abbrev main_v490 : Ref sig .tc := ⟨.hbm, 569, rfl⟩
abbrev main_v491 : Ref sig .tc := ⟨.hbm, 570, rfl⟩
abbrev main_v492 : Ref sig .tc := ⟨.hbm, 571, rfl⟩
abbrev main_v493 : Ref sig .tc := ⟨.hbm, 572, rfl⟩
abbrev main_v494 : Ref sig .tc := ⟨.hbm, 573, rfl⟩
abbrev main_v495 : Ref sig .tc := ⟨.hbm, 574, rfl⟩
abbrev main_v496 : Ref sig .tc := ⟨.hbm, 575, rfl⟩
abbrev main_v497 : Ref sig .tc := ⟨.hbm, 576, rfl⟩
abbrev main_v498 : Ref sig .tc := ⟨.hbm, 577, rfl⟩
abbrev main_v499 : Ref sig .tc := ⟨.hbm, 578, rfl⟩
abbrev main_v500 : Ref sig .tc := ⟨.hbm, 579, rfl⟩
abbrev main_v501 : Ref sig .tc := ⟨.hbm, 580, rfl⟩
abbrev main_v502 : Ref sig .tc := ⟨.hbm, 581, rfl⟩
abbrev main_v503 : Ref sig .tc := ⟨.hbm, 582, rfl⟩
abbrev main_v504 : Ref sig .tc := ⟨.hbm, 583, rfl⟩
abbrev main_v505 : Ref sig .tc := ⟨.hbm, 584, rfl⟩
abbrev main_v506 : Ref sig .tc := ⟨.hbm, 585, rfl⟩
abbrev main_v507 : Ref sig .tc := ⟨.hbm, 586, rfl⟩
abbrev main_v508 : Ref sig .tc := ⟨.hbm, 587, rfl⟩
abbrev main_v509 : Ref sig .tc := ⟨.hbm, 588, rfl⟩
abbrev main_v510 : Ref sig .tc := ⟨.hbm, 589, rfl⟩
abbrev main_v511 : Ref sig .tc := ⟨.hbm, 590, rfl⟩
abbrev main_v512 : Ref sig .tc := ⟨.hbm, 591, rfl⟩
abbrev main_v513 : Ref sig .tc := ⟨.hbm, 592, rfl⟩
abbrev main_v514 : Ref sig .tc := ⟨.hbm, 593, rfl⟩
abbrev main_v515 : Ref sig .tc := ⟨.hbm, 594, rfl⟩
abbrev main_v516 : Ref sig .tc := ⟨.hbm, 595, rfl⟩
abbrev main_v517 : Ref sig .tc := ⟨.hbm, 596, rfl⟩
abbrev main_v518 : Ref sig .tc := ⟨.hbm, 597, rfl⟩
abbrev main_v519 : Ref sig .tc := ⟨.hbm, 598, rfl⟩
abbrev main_v520 : Ref sig .tc := ⟨.hbm, 599, rfl⟩
abbrev main_v521 : Ref sig .tc := ⟨.hbm, 600, rfl⟩
abbrev main_v522 : Ref sig .tc := ⟨.hbm, 601, rfl⟩
abbrev main_v523 : Ref sig .tc := ⟨.hbm, 602, rfl⟩
abbrev main_v524 : Ref sig .tc := ⟨.hbm, 603, rfl⟩
abbrev main_v525 : Ref sig .tc := ⟨.hbm, 604, rfl⟩
abbrev main_v526 : Ref sig .tc := ⟨.hbm, 605, rfl⟩
abbrev main_v527 : Ref sig .tc := ⟨.hbm, 606, rfl⟩
abbrev main_v528 : Ref sig .tc := ⟨.hbm, 607, rfl⟩
abbrev main_v529 : Ref sig .tc := ⟨.hbm, 608, rfl⟩
abbrev main_v530 : Ref sig .tc := ⟨.hbm, 609, rfl⟩
abbrev main_v531 : Ref sig .tc := ⟨.hbm, 610, rfl⟩
abbrev main_v532 : Ref sig .tc := ⟨.hbm, 611, rfl⟩
abbrev main_v533 : Ref sig .tc := ⟨.hbm, 612, rfl⟩
abbrev main_v534 : Ref sig .tc := ⟨.hbm, 613, rfl⟩
abbrev main_v535 : Ref sig .tc := ⟨.hbm, 614, rfl⟩
abbrev main_v536 : Ref sig .tc := ⟨.hbm, 615, rfl⟩
abbrev main_v537 : Ref sig .tc := ⟨.hbm, 616, rfl⟩
abbrev main_v538 : Ref sig .tc := ⟨.hbm, 617, rfl⟩
abbrev main_v539 : Ref sig .tc := ⟨.hbm, 618, rfl⟩
abbrev main_v540 : Ref sig .tc := ⟨.hbm, 619, rfl⟩
abbrev main_v541 : Ref sig .tc := ⟨.hbm, 620, rfl⟩
abbrev main_v542 : Ref sig .tc := ⟨.hbm, 621, rfl⟩
abbrev main_v543 : Ref sig .tc := ⟨.hbm, 622, rfl⟩
abbrev main_v544 : Ref sig .tc := ⟨.hbm, 623, rfl⟩
abbrev main_v545 : Ref sig .tc := ⟨.hbm, 624, rfl⟩
abbrev main_v546 : Ref sig .tc := ⟨.hbm, 625, rfl⟩
abbrev main_v547 : Ref sig .tc := ⟨.hbm, 626, rfl⟩
abbrev main_v548 : Ref sig .tc := ⟨.hbm, 627, rfl⟩
abbrev main_v549 : Ref sig .tc := ⟨.hbm, 628, rfl⟩
abbrev main_v550 : Ref sig .tc := ⟨.hbm, 629, rfl⟩
abbrev main_v551 : Ref sig .tc := ⟨.hbm, 630, rfl⟩
abbrev main_v552 : Ref sig .tc := ⟨.hbm, 631, rfl⟩
abbrev main_v553 : Ref sig .tc := ⟨.hbm, 632, rfl⟩
abbrev main_v554 : Ref sig .tc := ⟨.hbm, 633, rfl⟩
abbrev main_v555 : Ref sig .tc := ⟨.hbm, 634, rfl⟩
abbrev main_v556 : Ref sig .tc := ⟨.hbm, 635, rfl⟩
abbrev main_v557 : Ref sig .tc := ⟨.hbm, 636, rfl⟩
abbrev main_v558 : Ref sig .tc := ⟨.hbm, 637, rfl⟩
abbrev main_v559 : Ref sig .tc := ⟨.hbm, 638, rfl⟩
abbrev main_v560 : Ref sig .tc := ⟨.hbm, 639, rfl⟩
abbrev main_v561 : Ref sig .tc := ⟨.hbm, 640, rfl⟩
abbrev main_v562 : Ref sig .tc := ⟨.hbm, 641, rfl⟩
abbrev main_v563 : Ref sig .tc := ⟨.hbm, 642, rfl⟩
abbrev main_v564 : Ref sig .tc := ⟨.hbm, 643, rfl⟩
abbrev main_v565 : Ref sig .tc := ⟨.hbm, 644, rfl⟩
abbrev main_v566 : Ref sig .tc := ⟨.hbm, 645, rfl⟩
abbrev main_v567 : Ref sig .tc := ⟨.hbm, 646, rfl⟩
abbrev main_v568 : Ref sig .tc := ⟨.hbm, 647, rfl⟩
abbrev main_v569 : Ref sig .tc := ⟨.hbm, 648, rfl⟩
abbrev main_v570 : Ref sig .tc := ⟨.hbm, 649, rfl⟩

abbrev nD : Nat := 1
abbrev τ : Topo := Topo.v7x

variable {F : FTy → Type} [FloatOps F]
-- ==== Proof.Ranges.lean ====
/- What the preconditions say of the argument arrays. `wired`: every word of the wiring is a small natural number.
   `in_range`: moreover the image and the logits of the three inner levels hold no infinity. -/
module

public import proofs.«01_k».proof.Pre_in_range
public import proofs.«01_k».proof.Pre_wired
public import proofs.«01_k».proof.Proof.Gen.Pre_in_range
public import proofs.«01_k».proof.Proof.Gen.Pre_wired
public import Idealize.ShloMosaic.Lib.ReduceAll
public import Idealize.ShloMosaic.Lib.Affine
public import Idealize.ShloMosaic.PureOps.Ideal

@[expose] public section

namespace Cert.Ranges

open Idealize.ShloMosaic Cert.Pre_in_range

/-- The arrays of no axes have one index. -/
instance : Subsingleton S_.Idx := ⟨fun a b => funext fun i => i.elim0⟩

/-- A word that is at least zero and below a small bound, both as signed numbers, is that small as a natural number. -/
theorem toNat_lt_of_signed {w b : BitVec 32} (h0 : (0#32 : BitVec 32).toInt ≤ w.toInt) (h1 : w.toInt < b.toInt)
    (hb : b.toNat < 2 ^ 31) : w.toNat < b.toNat := by
  rw [BitVec.toInt_eq_toNat_cond] at h0 h1
  rw [BitVec.toInt_eq_toNat_cond] at h0 h1
  simp at h0
  split at h1 <;> split at h1 <;> omega

/-- Two comparisons of an array of words that hold everywhere bound the words as natural numbers. -/
theorem word_lt (x : IVec S16x16 32) (b : BitVec 32) (hb : b.toNat < 2 ^ 31) (j : S_.Idx)
    (e0 : Host.reduce IntOp.andi (cmpi .sge x (broadcastInDim S16x16 ![] Facts.bcast_S_S16x16 (constantI S_ 32 0#32)))
      (constantI S_ 1 1#1) Facts.reducesTo_S16x16_S_d0_1 Facts.h_S_ j = 1#1)
    (e1 : Host.reduce IntOp.andi (cmpi .slt x (broadcastInDim S16x16 ![] Facts.bcast_S_S16x16 (constantI S_ 32 b)))
      (constantI S_ 1 1#1) Facts.reducesTo_S16x16_S_d0_1 Facts.h_S_ j = 1#1) (i : S16x16.Idx) : (x i).toNat < b.toNat :=
  toNat_lt_of_signed (IntOp.cmpi_sge.1 (Host.reduce_andi_all _ _ _ _ _ e0 i))
    (IntOp.cmpi_slt.1 (Host.reduce_andi_all _ _ _ _ _ e1 i)) hb

/-- `wired` at 1, decoded: the bounds on the four arrays of words. -/
theorem decode_wired {F : FTy → Type} [FloatOps F] (x0 : FVec F S4x4x32x32x32 .f32) (x1 x2 x3 x4 : IVec S16x16 32)
    (x5 : FVec F S8x16x16 .f32) (x6 : FVec F S4x16x16 .f32) (x7 : FVec F S2x16x16 .f32) (x8 : FVec F S1x16x16 .f32)
    (j : S_.Idx) (h : Cert.Pre_wired.fn (F := F) x0 x1 x2 x3 x4 x5 x6 x7 x8 j = 1#1) :
    (∀ i, (x1 i).toNat < 4) ∧ (∀ i, (x2 i).toNat < 3) ∧ (∀ i, (x3 i).toNat < 3) ∧ (∀ i, (x4 i).toNat < 3) := by
  simp only [Cert.Pre_wired.fn, Cert.Pre_wired.fn_part1, andi, IntOp.andi_eq_one] at h
  obtain ⟨⟨⟨c0, c1⟩, h0, h1⟩, ⟨w0, w1⟩, d0, d1⟩ := h
  exact ⟨word_lt x1 4#32 (by decide) j c0 c1, word_lt x2 3#32 (by decide) j h0 h1, word_lt x3 3#32 (by decide) j w0 w1,
    word_lt x4 3#32 (by decide) j d0 d1⟩

/-- `in_range` at 1, decoded: the bounds on the four arrays of words, and the comparisons with the two infinities. -/
theorem decode {F : FTy → Type} [FloatOps F] (x0 : FVec F S4x4x32x32x32 .f32) (x1 x2 x3 x4 : IVec S16x16 32)
    (x5 : FVec F S8x16x16 .f32) (x6 : FVec F S4x16x16 .f32) (x7 : FVec F S2x16x16 .f32) (x8 : FVec F S1x16x16 .f32)
    (j : S_.Idx) (h : fn (F := F) x0 x1 x2 x3 x4 x5 x6 x7 x8 j = 1#1) :
    ((∀ i, (x1 i).toNat < 4) ∧ (∀ i, (x2 i).toNat < 3) ∧ (∀ i, (x3 i).toNat < 3) ∧ (∀ i, (x4 i).toNat < 3))
    ∧ (∀ i, FloatOps.cmpf .ogt (x0 i) (FloatOps.ofBits .f32 0xFF800000#32) = 1#1
        ∧ FloatOps.cmpf .olt (x0 i) (FloatOps.ofBits .f32 0x7F800000#32) = 1#1)
    ∧ (∀ i, FloatOps.cmpf .ogt (x5 i) (FloatOps.ofBits .f32 0xFF800000#32) = 1#1
        ∧ FloatOps.cmpf .olt (x5 i) (FloatOps.ofBits .f32 0x7F800000#32) = 1#1)
    ∧ (∀ i, FloatOps.cmpf .ogt (x6 i) (FloatOps.ofBits .f32 0xFF800000#32) = 1#1
        ∧ FloatOps.cmpf .olt (x6 i) (FloatOps.ofBits .f32 0x7F800000#32) = 1#1)
    ∧ (∀ i, FloatOps.cmpf .ogt (x7 i) (FloatOps.ofBits .f32 0xFF800000#32) = 1#1
        ∧ FloatOps.cmpf .olt (x7 i) (FloatOps.ofBits .f32 0x7F800000#32) = 1#1) := by
  simp only [fn, fn_part1, fn_part2, fn_part3, andi, IntOp.andi_eq_one] at h
  obtain ⟨⟨⟨⟨⟨⟨c0, c1⟩, h0, h1⟩, ⟨w0, w1⟩, d0, d1⟩, hx⟩, h5, h6⟩, h7⟩ := h
  refine ⟨⟨word_lt x1 4#32 (by decide) j c0 c1, word_lt x2 3#32 (by decide) j h0 h1, word_lt x3 3#32 (by decide) j w0 w1,
    word_lt x4 3#32 (by decide) j d0 d1⟩, fun i => ?_, fun i => ?_, fun i => ?_, fun i => ?_⟩
  · exact IntOp.andi_eq_one.1 (Host.reduce_andi_all _ _ _ _ _ hx i)
  · exact IntOp.andi_eq_one.1 (Host.reduce_andi_all _ _ _ _ _ h5 i)
  · exact IntOp.andi_eq_one.1 (Host.reduce_andi_all _ _ _ _ _ h6 i)
  · exact IntOp.andi_eq_one.1 (Host.reduce_andi_all _ _ _ _ _ h7 i)

/-- Over the extended reals, a value above the lower infinity and below the upper one is a real number. -/
theorem real_of_cmp (x : Ideal .f32)
    (h : FloatOps.cmpf (F := Ideal) .ogt x (FloatOps.ofBits .f32 0xFF800000#32) = 1#1
      ∧ FloatOps.cmpf (F := Ideal) .olt x (FloatOps.ofBits .f32 0x7F800000#32) = 1#1) : ∃ r : ℝ, x = (r : EReal) := by
  have ht : Ideal.ofBits .f32 0x7F800000#32 = ⊤ := by simp [Ideal.ofBits, Ideal.ieee]
  have hb : Ideal.ofBits .f32 0xFF800000#32 = ⊥ := by simp [Ideal.ofBits, Ideal.ieee]
  obtain ⟨h0, h1⟩ := h
  change Ideal.cmp .ogt x (Ideal.ofBits .f32 0xFF800000#32) = 1#1 at h0
  change Ideal.cmp .olt x (Ideal.ofBits .f32 0x7F800000#32) = 1#1 at h1
  rw [hb] at h0
  rw [ht] at h1
  induction x using EReal.rec with
  | bot => simp [Ideal.cmp] at h0
  | top => simp [Ideal.cmp] at h1
  | coe r => exact ⟨r, rfl⟩

end Cert.Ranges
-- ==== Proof.Wiring.lean ====
/- The word the kernel's wiring table holds: the number of a shifted copy of the image, made of an offset in each of the
   three spatial directions and of a channel. -/
module

public import Idealize.ShloMosaic.Lib.Affine

@[expose] public section

namespace Cert.Wiring

open Idealize.ShloMosaic

/-- The word of the table for the offsets `h`, `w`, `d` and the channel `c`. -/
def word (c h w d : BitVec 32) : BitVec 32 :=
  IntOp.addi (IntOp.muli (IntOp.addi (IntOp.muli (IntOp.addi (IntOp.muli h 3#32) w) 3#32) d) 4#32) c

/-- In range nothing wraps: as a number the word is `((h * 3 + w) * 3 + d) * 4 + c`. -/
theorem toNat_word {c h w d : BitVec 32} (hc : c.toNat < 4) (hh : h.toNat < 3) (hw : w.toNat < 3) (hd : d.toNat < 3) :
    (word c h w d).toNat = ((h.toNat * 3 + w.toNat) * 3 + d.toNat) * 4 + c.toNat := by
  simp only [word, IntOp.addi, IntOp.muli, BitVec.toNat_add, BitVec.toNat_mul, BitVec.toNat_ofNat]
  omega

/-- In range the word names one of the `108` shifted channels. -/
theorem toNat_word_lt {c h w d : BitVec 32} (hc : c.toNat < 4) (hh : h.toNat < 3) (hw : w.toNat < 3) (hd : d.toNat < 3) :
    (word c h w d).toNat < 108 := by
  rw [toNat_word hc hh hw hd]; omega

end Cert.Wiring

end
-- ==== Proof.HypsIdeal.lean ====
/- Every load of the kernel at a computed row stays inside its block, given the precondition: the row is a word of the
   wiring table, which the host computes from the four arrays of words. -/
module

public import proofs.«01_k».proof.Proof.Gen.KernelIdeal.Frame.Runs
public import proofs.«01_k».proof.Proof.Ranges
public import proofs.«01_k».proof.Proof.Wiring

@[expose] public section

set_option maxRecDepth 16384

noncomputable section

namespace Cert.KernelIdeal.Gen

open Idealize.ShloMosaic Idealize.ShloMosaic.TcCoe

variable {F : FTy → Type} [FloatOps F]
variable (m : (ℓ : Loc nD τ sig) → Buf (Elt F) ℓ)

set_option maxHeartbeats 1600000 in
/-- The wiring table as the region finds it, word by word. -/
theorem V_wiring (c : Dev nD) : (V m c main_v67 : IVec S16x16 32) = fun i =>
    Wiring.word (m ((c : Thread nD τ).loc main_arg1) i) (m ((c : Thread nD τ).loc main_arg2) i)
      (m ((c : Thread nD τ).loc main_arg3) i) (m ((c : Thread nD τ).loc main_arg4) i) := by
  simp only [V, hostOps0, hostOps0_1, hostOps0_2, List.flatten_cons, List.flatten_nil, List.append_nil, List.cons_append,
      List.nil_append]
  after_results
  rfl

/-- A row below `108` is a row of the block. -/
theorem chk_of_lt (v : BitVec 32) (h : v.toNat < 108) : k0_chk1 v := by
  intro a
  have h0 : 0 + 1 ≤ 1 := by omega
  have h1 : v.toNat + 1 ≤ 108 := h
  have h2 : 0 + 32 ≤ 32 := by omega
  have h3 : 0 + 1024 ≤ 1024 := by omega
  fin_cases a
  exacts [h0, h1, h2, h3]

/-- The kernel reads the table as the region finds it. -/
theorem wiring_read (c : Dev nD) (t : Fin cfg0.N) (r : Rect S16x16) (j : r.toLoadRect.shape.Idx) :
    ∃ i, ((ms0_0 t).view.readAt (Elt F) r.toLoadRect ((hs0_0 t).unread (iblk m c 0 t)) j : BitVec 32)
      = (V m c main_v67 : IVec S16x16 32) i := by
  rw [View.readAt_apply, Memref.IsWhole.read_unread]
  exact ⟨_, rfl⟩

/-- What the run asks of the table holds when the four arrays of words are in range. -/
theorem hyps_of_words
    (h : ∀ c : Dev nD, (∀ i, (m ((c : Thread nD τ).loc main_arg1) i).toNat < 4)
      ∧ (∀ i, (m ((c : Thread nD τ).loc main_arg2) i).toNat < 3)
      ∧ (∀ i, (m ((c : Thread nD τ).loc main_arg3) i).toNat < 3)
      ∧ (∀ i, (m ((c : Thread nD τ).loc main_arg4) i).toNat < 3)) : Hyps m := by
  intro c t
  have key : ∀ (r : Rect S16x16) (j : r.toLoadRect.shape.Idx),
      k0_chk1 ((ms0_0 t).view.readAt (Elt F) r.toLoadRect ((hs0_0 t).unread (iblk m c 0 t)) j) := by
    intro r j
    obtain ⟨i, hi⟩ := wiring_read m c t r j
    rw [hi, V_wiring]
    exact chk_of_lt _ (Wiring.toNat_word_lt ((h c).1 i) ((h c).2.1 i) ((h c).2.2.1 i) ((h c).2.2.2 i))
  repeat' apply And.intro
  all_goals exact key _ _

/-- … in particular under the precondition `wired`. -/
theorem hyps_of_wired
    (h : ∀ c : Dev nD, Cert.Pre_wired.fn (F := F) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) = fun _ => 1#1) : Hyps m :=
  hyps_of_words m fun c => Ranges.decode_wired _ _ _ _ _ _ _ _ _ (fun a => a.elim0) (congrFun (h c) _)

/-- … in particular under the precondition `in_range`. -/
theorem hyps_of_in_range
    (h : ∀ c : Dev nD, Cert.Pre_in_range.fn (F := F) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) = fun _ => 1#1) : Hyps m :=
  hyps_of_words m fun c => (Ranges.decode _ _ _ _ _ _ _ _ _ (fun a => a.elim0) (congrFun (h c) _)).1

end Cert.KernelIdeal.Gen

end
-- ==== Proof.Algebra.lean ====
/- The mathematics the claim rests on, over the extended reals and with no program in it: a softmax is sixteen real
   numbers or sixteen times the lower infinity; the sum of sixteen weighted two-argument operations is one polynomial
   in the two arguments; and a tree of such nodes is the same either way. -/
module

public import Idealize.ShloMosaic.PureOps.Ideal
public import Mathlib.Data.EReal.Operations
public import Mathlib.Algebra.BigOperators.Fin
public import Mathlib.Tactic.Ring
public import Mathlib.Data.EReal.Inv

@[expose] public section

noncomputable section

namespace Cert.Tree

open Idealize.ShloMosaic

/-! ## The tree -/

/-- Eight nodes over sixteen leaves, four over those, two over those, and one at the root; `f n` is node `n`. -/
def tree {α : Type} (f : Fin 15 → α → α → α) (leaf : Fin 16 → α) : α :=
  f 14 (f 12 (f 8 (f 0 (leaf 0) (leaf 1)) (f 1 (leaf 2) (leaf 3))) (f 9 (f 2 (leaf 4) (leaf 5)) (f 3 (leaf 6) (leaf 7))))
    (f 13 (f 10 (f 4 (leaf 8) (leaf 9)) (f 5 (leaf 10) (leaf 11))) (f 11 (f 6 (leaf 12) (leaf 13)) (f 7 (leaf 14) (leaf 15))))

/-- A map that takes each node to a node takes the tree to the tree. -/
theorem map_tree {α β : Type} (φ : α → β) (f : Fin 15 → α → α → α) (g : Fin 15 → β → β → β) (leaf : Fin 16 → α)
    (h : ∀ n a b, φ (f n a b) = g n (φ a) (φ b)) : φ (tree f leaf) = tree g (fun l => φ (leaf l)) := by
  simp only [tree, h]

/-- An extended real that is a real number. -/
def IsReal (x : EReal) : Prop := ∃ r : ℝ, x = (r : EReal)

/-- Two trees over the same real leaves agree when their nodes agree on real arguments and every node but the root's
    takes real arguments to a real number. -/
theorem tree_congr (f g : Fin 15 → EReal → EReal → EReal) (leaf : Fin 16 → EReal) (hl : ∀ l, IsReal (leaf l))
    (hfg : ∀ n a b, IsReal a → IsReal b → f n a b = g n a b)
    (hr : ∀ n a b, n ≠ 14 → IsReal a → IsReal b → IsReal (f n a b)) : tree f leaf = tree g leaf := by
  have step : ∀ n, n ≠ 14 → ∀ a b a' b', a = a' ∧ IsReal a → b = b' ∧ IsReal b → f n a b = g n a' b' ∧ IsReal (f n a b) := by
    rintro n hn a b a' b' ⟨rfl, ha⟩ ⟨rfl, hb⟩
    exact ⟨hfg n a b ha hb, hr n a b hn ha hb⟩
  have base : ∀ l, leaf l = leaf l ∧ IsReal (leaf l) := fun l => ⟨rfl, hl l⟩
  have s12 := step 12 (by decide) _ _ _ _ (step 8 (by decide) _ _ _ _ (step 0 (by decide) _ _ _ _ (base 0) (base 1)) (step 1 (by decide) _ _ _ _ (base 2) (base 3)))
    (step 9 (by decide) _ _ _ _ (step 2 (by decide) _ _ _ _ (base 4) (base 5)) (step 3 (by decide) _ _ _ _ (base 6) (base 7)))
  have s13 := step 13 (by decide) _ _ _ _ (step 10 (by decide) _ _ _ _ (step 4 (by decide) _ _ _ _ (base 8) (base 9)) (step 5 (by decide) _ _ _ _ (base 10) (base 11)))
    (step 11 (by decide) _ _ _ _ (step 6 (by decide) _ _ _ _ (base 12) (base 13)) (step 7 (by decide) _ _ _ _ (base 14) (base 15)))
  unfold tree
  rw [hfg 14 _ _ s12.2 s13.2, s12.1, s13.1]

/-! ## The softmax -/

/-- The exponential of the lower infinity is zero. -/
theorem exp_bot : Ideal.exp ⊥ = 0 := rfl

/-- The exponential of a logit less its row's largest. -/
def expo (w : Fin 16 → EReal) (i : Fin 16) : EReal := Ideal.exp (w i - Finset.univ.sup w)

/-- The softmax of a row of logits. -/
def prob (w : Fin 16 → EReal) (i : Fin 16) : EReal := Ideal.div (expo w i) (0 + ∑ j, expo w j)

/-- A row whose largest logit is real has a softmax of real numbers. -/
theorem prob_real_of_sup (w : Fin 16 → EReal) (r : ℝ) (hr : Finset.univ.sup w = (r : EReal)) :
    ∃ q : Fin 16 → ℝ, ∀ i, prob w i = (q i : EReal) := by
  have he : ∀ i, ∃ e : ℝ, 0 ≤ e ∧ expo w i = (e : EReal) ∧ (w i = (r : EReal) → 0 < e) := by
    intro i
    have hle : w i ≤ (r : EReal) := hr ▸ Finset.le_sup (f := w) (Finset.mem_univ i)
    unfold expo
    rw [hr]
    generalize w i = x at hle ⊢
    induction x using EReal.rec with
    | bot => exact ⟨0, le_refl _, by rw [EReal.bot_sub, exp_bot]; rfl, fun h => absurd h (by simp)⟩
    | top => simp at hle
    | coe x => exact ⟨Real.exp (x - r), (Real.exp_pos _).le, by rw [← EReal.coe_sub]; rfl, fun _ => Real.exp_pos _⟩
  choose e he0 he1 hepos using he
  obtain ⟨i0, -, hi0⟩ := Finset.exists_mem_eq_sup Finset.univ ⟨0, Finset.mem_univ _⟩ w
  have hpos : 0 < ∑ j, e j := Finset.sum_pos' (fun j _ => he0 j) ⟨i0, Finset.mem_univ _, hepos i0 (by rw [← hi0, hr])⟩
  refine ⟨fun i => e i * (∑ j, e j)⁻¹, fun i => ?_⟩
  unfold prob
  simp only [he1]
  have hs : (0 + ∑ j, (e j : EReal)) = ((∑ j, e j : ℝ) : EReal) := by
    rw [zero_add]; exact (map_sum (⟨⟨Real.toEReal, EReal.coe_zero⟩, EReal.coe_add⟩ : ℝ →+ EReal) e Finset.univ).symm
  rw [hs, Ideal.div, if_neg (by exact_mod_cast hpos.ne'), ← EReal.coe_inv, ← EReal.coe_mul]

/-- A row of real logits has a softmax of real numbers. -/
theorem prob_real (w : Fin 16 → EReal) (hw : ∀ i, IsReal (w i)) : ∃ q : Fin 16 → ℝ, ∀ i, prob w i = (q i : EReal) := by
  obtain ⟨i0, -, hi0⟩ := Finset.exists_mem_eq_sup Finset.univ ⟨0, Finset.mem_univ _⟩ w
  obtain ⟨r, hr⟩ := hw i0
  exact prob_real_of_sup w r (by rw [hi0, hr])

/-- The softmax of any row is sixteen real numbers, or the lower infinity sixteen times. -/
theorem prob_cases (w : Fin 16 → EReal) :
    (∃ q : Fin 16 → ℝ, ∀ i, prob w i = (q i : EReal)) ∨ ∀ i, prob w i = ⊥ := by
  have zero : (∀ i, expo w i = 0) → ∀ i, prob w i = ⊥ := fun h i => by simp [prob, h, Ideal.div]
  cases hs : Finset.univ.sup w using EReal.rec with
  | bot =>
    right
    refine zero fun i => ?_
    have hle : w i ≤ ⊥ := hs ▸ Finset.le_sup (f := w) (Finset.mem_univ i)
    rw [expo, hs, le_bot_iff.1 hle, EReal.bot_sub, exp_bot]
  | top =>
    right
    refine zero fun i => ?_
    rw [expo, hs, EReal.sub_top, exp_bot]
  | coe r => exact Or.inl (prob_real_of_sup w r hs)

/-! ## The node -/

/-- The sixteen operations on two arguments, weighted and summed, in the order the reference adds them. -/
def lut (p : Fin 16 → EReal) (a b : EReal) : EReal :=
  0 + p 0 * 0 + p 1 * (a * b) + p 2 * (a - a * b) + p 3 * a + p 4 * (b - a * b) + p 5 * b
    + p 6 * (a + b - 2 * (a * b)) + p 7 * (a + b - a * b) + p 8 * (1 - (a + b - a * b)) + p 9 * (1 - (a + b - 2 * (a * b)))
    + p 10 * (1 - b) + p 11 * (1 - b + a * b) + p 12 * (1 - a) + p 13 * (1 - a + a * b) + p 14 * (1 - a * b) + p 15 * 1

/-- What each operation is as a polynomial: its coefficients of one, of `a`, of `b` and of `ab`. -/
def opCoef : Fin 16 → Fin 4 → ℝ :=
  ![![0, 0, 0, 0], ![0, 0, 0, 1], ![0, 1, 0, -1], ![0, 1, 0, 0], ![0, 0, 1, -1], ![0, 0, 1, 0], ![0, 1, 1, -2],
    ![0, 1, 1, -1], ![1, -1, -1, 1], ![1, -1, -1, 2], ![1, 0, -1, 0], ![1, 0, -1, 1], ![1, -1, 0, 0], ![1, -1, 0, 1],
    ![1, 0, 0, -1], ![1, 0, 0, 0]]

/-- The kernel's coefficient `j` of a node: the weighted sum of the operations' coefficients. -/
def mix (p : Fin 16 → EReal) (j : Fin 4) : EReal := 0 + ∑ i, p i * (opCoef i j : EReal)

/-- The kernel's node, from four coefficients. -/
def poly (c : Fin 4 → EReal) (a b : EReal) : EReal := c 0 + c 1 * a + c 2 * b + c 3 * (a * b)

/-- A sum of images of real numbers is the image of the sum. -/
theorem coe_sum {n : ℕ} (e : Fin n → ℝ) : (∑ j, (e j : EReal)) = ((∑ j, e j : ℝ) : EReal) :=
  (map_sum (⟨⟨Real.toEReal, EReal.coe_zero⟩, EReal.coe_add⟩ : ℝ →+ EReal) e Finset.univ).symm

/-- The polynomial with real weights, as a real number. -/
theorem poly_coe (q : Fin 16 → ℝ) (a b : ℝ) : poly (mix fun i => (q i : EReal)) a b
    = (((∑ i, q i * opCoef i 0) + (∑ i, q i * opCoef i 1) * a + (∑ i, q i * opCoef i 2) * b
        + (∑ i, q i * opCoef i 3) * (a * b) : ℝ) : EReal) := by
  have hm : ∀ j, mix (fun i => (q i : EReal)) j = ((∑ i, q i * opCoef i j : ℝ) : EReal) := fun j => by
    unfold mix
    rw [zero_add]
    simp only [← EReal.coe_mul]
    exact coe_sum _
  unfold poly
  simp only [hm, ← EReal.coe_mul, ← EReal.coe_add]

/-- The weighted sum of the operations with real weights, as a real number. -/
theorem lut_coe (q : Fin 16 → ℝ) (a b : ℝ) : lut (fun i => (q i : EReal)) a b
    = ((0 + q 0 * 0 + q 1 * (a * b) + q 2 * (a - a * b) + q 3 * a + q 4 * (b - a * b) + q 5 * b
    + q 6 * (a + b - 2 * (a * b)) + q 7 * (a + b - a * b) + q 8 * (1 - (a + b - a * b)) + q 9 * (1 - (a + b - 2 * (a * b)))
    + q 10 * (1 - b) + q 11 * (1 - b + a * b) + q 12 * (1 - a) + q 13 * (1 - a + a * b) + q 14 * (1 - a * b) + q 15 * 1 : ℝ) : EReal) := by
  unfold lut
  rw [show (0 : EReal) = ((0 : ℝ) : EReal) from rfl, show (1 : EReal) = ((1 : ℝ) : EReal) from rfl,
    show (2 : EReal) = ((2 : ℝ) : EReal) from rfl]
  simp only [← EReal.coe_mul, ← EReal.coe_add, ← EReal.coe_sub]

/-- With real weights and real arguments the two forms of a node agree. -/
theorem poly_eq_lut_real (p : Fin 16 → EReal) (q : Fin 16 → ℝ) (hp : ∀ i, p i = (q i : EReal)) (a b : EReal)
    (ha : IsReal a) (hb : IsReal b) : poly (mix p) a b = lut p a b ∧ IsReal (poly (mix p) a b) := by
  obtain ⟨a, rfl⟩ := ha
  obtain ⟨b, rfl⟩ := hb
  obtain rfl : p = fun i => (q i : EReal) := funext hp
  refine ⟨?_, _, poly_coe q a b⟩
  rw [poly_coe, lut_coe]
  congr 1
  simp only [Fin.sum_univ_succ, Fin.sum_univ_zero, opCoef]
  simp
  ring

/-- A sum with the lower infinity among its terms is the lower infinity. -/
theorem sum_eq_bot {n : ℕ} (e : Fin n → EReal) (i : Fin n) (h : e i = ⊥) : ∑ j, e j = ⊥ := by
  rw [← Finset.add_sum_erase _ _ (Finset.mem_univ i), h, EReal.bot_add]

/-- With every weight the lower infinity, both forms of a node are the lower infinity. -/
theorem poly_eq_lut_bot (p : Fin 16 → EReal) (hp : ∀ i, p i = ⊥) (a b : EReal) : poly (mix p) a b = lut p a b := by
  have h0 : mix p 0 = ⊥ := by
    unfold mix
    rw [sum_eq_bot _ 15 (by rw [hp]; simp [opCoef]), EReal.add_bot]
  unfold poly lut
  rw [h0, hp 15, mul_one, EReal.add_bot, EReal.bot_add, EReal.bot_add, EReal.bot_add]

/-- The kernel's tree of polynomials is the reference's tree of weighted operations, when the leaves and every row of
    logits but the root's are real. -/
theorem tree_poly_eq_tree_lut (w : Fin 15 → Fin 16 → EReal) (leaf : Fin 16 → EReal) (hl : ∀ l, IsReal (leaf l))
    (hw : ∀ n, n ≠ 14 → ∀ i, IsReal (w n i)) :
    tree (fun n => poly (mix (prob (w n)))) leaf = tree (fun n => lut (prob (w n))) leaf := by
  refine tree_congr _ _ leaf hl (fun n a b ha hb => ?_) fun n a b hn ha hb => ?_
  · rcases prob_cases (w n) with ⟨q, hq⟩ | h
    · exact (poly_eq_lut_real _ q hq a b ha hb).1
    · exact poly_eq_lut_bot _ h a b
  · obtain ⟨q, hq⟩ := prob_real (w n) (hw n hn)
    exact (poly_eq_lut_real _ q hq a b ha hb).2

end Cert.Tree

end
-- ==== Proof.Pieces.lean ====
/- What one iteration of the kernel leaves in its block: sixteen stores, one per tree, each the same tree of nodes over
   the rows of the block of shifted images that the wiring table names. -/
module

public import proofs.«01_k».proof.Proof.Gen.KernelIdeal.Value
public import proofs.«01_k».proof.Proof.Algebra
public import proofs.«01_k».proof.Proof.HypsIdeal
public import Idealize.ShloMosaic.Lib.Pointwise

@[expose] public section

set_option maxRecDepth 131072

noncomputable section

namespace Cert.KernelIdeal.Pieces

open Cert.KernelIdeal Cert.KernelIdeal.Gen Idealize.ShloMosaic Idealize.ShloMosaic.TcCoe
open Cert.Tree

variable {F : FTy → Type} [FloatOps F]
variable (m : (ℓ : Loc nD τ sig) → Buf (Elt F) ℓ) (hH : Hyps m) (c : Dev nD) (t : Fin cfg0.N)

/-! ## One tree of one iteration, as the kernel computes it -/

/-- A word of the wiring table lies inside it. -/
theorem wordBound (k l : Fin 16) : ∀ a, (![(k : ℕ), (l : ℕ)] : Fin 2 → ℕ) a + S1x1.size a ≤ S16x16.size a := by
  intro a
  have h0 : (k : ℕ) + 1 ≤ 16 := k.isLt
  have h1 : (l : ℕ) + 1 ≤ 16 := l.isLt
  fin_cases a
  exacts [h0, h1]

/-- A coefficient lies inside its table. -/
theorem coefBound (k : Fin 16) (n : Fin 15) (j : Fin 4) :
    ∀ a, (![(k : ℕ), (n : ℕ), (j : ℕ)] : Fin 3 → ℕ) a + S1x1x1.size a ≤ S16x15x4.size a := by
  intro a
  have h0 : (k : ℕ) + 1 ≤ 16 := k.isLt
  have h1 : (n : ℕ) + 1 ≤ 15 := n.isLt
  have h2 : (j : ℕ) + 1 ≤ 4 := j.isLt
  fin_cases a
  exacts [h0, h1, h2]

/-- A tree's tile lies inside the block that is written. -/
theorem tileBound (k : Fin 16) :
    ∀ a, (![0, (k : ℕ), 0, 0] : Fin 4 → ℕ) a + S1x1x32x1024.size a ≤ S1x16x32x1024.size a := by
  intro a
  have h0 : 0 + 1 ≤ 1 := by omega
  have h1 : (k : ℕ) + 1 ≤ 16 := k.isLt
  have h2 : 0 + 32 ≤ 32 := by omega
  have h3 : 0 + 1024 ≤ 1024 := by omega
  fin_cases a
  exacts [h0, h1, h2, h3]

/-- The word of the table for leaf `l` of tree `k`, as the kernel loads it. -/
def word (k l : Fin 16) : BitVec 32 :=
  (ms0_0 t).view.readAt (Elt F) (Rect.unit (s := S16x16) ![(k : ℕ), (l : ℕ)] S1x1.size (wordBound k l)).toLoadRect
    ((hs0_0 t).unread (iblk m c 0 t)) (Shape.Idx.first (numel1_S1x1.symm ▸ Nat.one_pos))

/-- Coefficient `j` of node `n` of tree `k`, as the kernel loads it. -/
def coef (k : Fin 16) (n : Fin 15) (j : Fin 4) : Elt F .f32 :=
  (ms0_1 t).view.readAt (Elt F) (Rect.unit (s := S16x15x4) ![(k : ℕ), (n : ℕ), (j : ℕ)] S1x1x1.size (coefBound k n j)).toLoadRect
    ((hs0_1 t).unread (iblk m c 1 t)) (Shape.Idx.first (numel1_S1x1x1.symm ▸ Nat.one_pos))

/-- Node `n` of tree `k` on two whole planes. -/
def node (k : Fin 16) (n : Fin 15) (a b : FVec F S32x1024 .f32) : FVec F S32x1024 .f32 :=
  addf (addf (addf (broadcast S32x1024 (coef m c t k n 0)) (mulf (broadcast S32x1024 (coef m c t k n 1)) a))
    (mulf (broadcast S32x1024 (coef m c t k n 2)) b)) (mulf (broadcast S32x1024 (coef m c t k n 3)) (mulf a b))

/-- The plane of leaf `l` of tree `k`: the row of the block of shifted images its word names. -/
def leaf (hw : ∀ k l, k0_chk1 (word m c t k l)) (k l : Fin 16) : FVec F S32x1024 .f32 :=
  shapeCast S32x1024 ((ms0_2 t).view.readAt (Elt F)
    (Rect.unit (s := S1x108x32x1024) (k0_off1 (word m c t k l)) S1x1x32x1024.size (hw k l)).toLoadRect
    ((hs0_2 t).unread (iblk m c 2 t))) shapeCasts_S1x1x32x1024_S32x1024

/-- The store of tree `k`. -/
def piece (hw : ∀ k l, k0_chk1 (word m c t k l)) (k : Fin 16) : View.Piece (Elt F) S1x16x32x1024 .f32 :=
  ⟨Rect.unit ![0, (k : ℕ), 0, 0] S1x1x32x1024.size (tileBound k),
    shapeCast S1x1x32x1024 (tree (node m c t k) (leaf m c t hw k)) shapeCasts_S32x1024_S1x1x32x1024⟩

set_option maxHeartbeats 8000000 in
/-- The run's sixteen stores are those of the sixteen trees, the last first. -/
theorem outsAt0_eq (hw : ∀ k l, k0_chk1 (word m c t k l)) :
    outsAt0 m hH c t = VO0_3.read (Elt F) (VO0_3.writes (Elt F) VO0_3.junk
      [piece m c t hw 15, piece m c t hw 14, piece m c t hw 13, piece m c t hw 12, piece m c t hw 11, piece m c t hw 10,
        piece m c t hw 9, piece m c t hw 8, piece m c t hw 7, piece m c t hw 6, piece m c t hw 5, piece m c t hw 4,
        piece m c t hw 3, piece m c t hw 2, piece m c t hw 1, piece m c t hw 0]) := by
  unfold outsAt0 out0_A_3 kernelRun0_A
  rfl

/-! ## … and read at an index -/

/-- The loaded word is the block's element. -/
theorem word_eq (k l : Fin 16) : word m c t k l = (iblk m c 0 t : IVec S16x16 32) (ix2 k l) := by
  unfold word
  rw [View.readAt_apply, Memref.IsWhole.read_unread]
  refine congrArg _ (funext fun a => Fin.ext ?_)
  fin_cases a <;> rfl

/-- The loaded coefficient is the block's element. -/
theorem coef_eq (k : Fin 16) (n : Fin 15) (j : Fin 4) :
    coef m c t k n j = (iblk m c 1 t : FVec F S16x15x4 .f32) (ix3 k n j) := by
  unfold coef
  rw [View.readAt_apply, Memref.IsWhole.read_unread]
  refine congrArg _ (funext fun a => Fin.ext ?_)
  fin_cases a <;> rfl

/-- A plane out of a block of one row. -/
theorem plane_apply {α : Type} (v : S1x1x32x1024.Idx → α) (hc : S1x1x32x1024.ShapeCasts S32x1024) (h : Fin 32) (d : Fin 1024) :
    shapeCast S32x1024 v hc (ix2 h d) = v (ix4 0 0 h d) := by
  pointwise

/-- … and back. -/
theorem row_apply {α : Type} (v : S32x1024.Idx → α) (hc : S32x1024.ShapeCasts S1x1x32x1024) (x : S1x1x32x1024.Idx) :
    shapeCast S1x1x32x1024 v hc x = v (ix2 (x 2) (x 3)) := by
  pointwise

/-- A leaf's plane at a position is the block of shifted images there, at the row the word names. -/
theorem leaf_apply (hw : ∀ k l, k0_chk1 (word m c t k l)) (k l : Fin 16) (r : Fin 108)
    (hr : r.val = (word m c t k l).toNat) (h : Fin 32) (d : Fin 1024) :
    leaf m c t hw k l (ix2 h d) = (iblk m c 2 t : FVec F S1x108x32x1024 .f32) (ix4 0 r h d) := by
  unfold leaf
  rw [plane_apply, View.readAt_apply, Memref.IsWhole.read_unread]
  refine congrArg _ (funext fun a => Fin.ext ?_)
  fin_cases a
  · rfl
  · show (word m c t k l).toNat + 1 * 0 = r.val
    omega
  · show 0 + 1 * h.val = h.val
    omega
  · show 0 + 1 * d.val = d.val
    omega

/-- One node of tree `k` on numbers: its polynomial, the coefficients read from the block of coefficients. -/
def gate (k : Fin 16) (n : Fin 15) (a b : F .f32) : F .f32 :=
  FloatOps.addf (FloatOps.addf (FloatOps.addf ((iblk m c 1 t : FVec F S16x15x4 .f32) (ix3 k n 0))
        (FloatOps.mulf ((iblk m c 1 t : FVec F S16x15x4 .f32) (ix3 k n 1)) a))
        (FloatOps.mulf ((iblk m c 1 t : FVec F S16x15x4 .f32) (ix3 k n 2)) b))
        (FloatOps.mulf ((iblk m c 1 t : FVec F S16x15x4 .f32) (ix3 k n 3)) (FloatOps.mulf a b))

/-- One element of the block an iteration leaves: the tree of its index, at its position, over the rows `row k l` of the
    block of shifted images. -/
def block (row : Fin 16 → Fin 16 → Fin 108) (y : S1x16x32x1024.Idx) : Elt F .f32 :=
  tree (gate m c t (y 1))
    (fun l => (iblk m c 2 t : FVec F S1x108x32x1024 .f32) (ix4 0 (row (y 1) l) (y 2) (y 3)))

/-- The store of a tree holds the block's elements. -/
theorem piece_apply (hw : ∀ k l, k0_chk1 (word m c t k l)) (row : Fin 16 → Fin 16 → Fin 108)
    (hrow : ∀ k l, (row k l).val = ((iblk m c 0 t : IVec S16x16 32) (ix2 k l)).toNat) (k : Fin 16)
    (x : (piece m c t hw k).1.shape.Idx) : (piece m c t hw k).2 x = block m c t row ((piece m c t hw k).1.emb x) := by
  have e1 : (piece m c t hw k).1.emb x 1 = k := Fin.ext (by
    have h1 : (x 1).val < 1 := (x 1).isLt
    show k.val + 1 * (x 1).val = k.val
    omega)
  have e2 : (piece m c t hw k).1.emb x 2 = x 2 := Fin.ext (by show 0 + 1 * (x 2).val = (x 2).val; omega)
  have e3 : (piece m c t hw k).1.emb x 3 = x 3 := Fin.ext (by show 0 + 1 * (x 3).val = (x 3).val; omega)
  unfold block
  rw [e1, e2, e3]
  refine (row_apply (tree (node m c t k) (leaf m c t hw k)) shapeCasts_S32x1024_S1x1x32x1024 x).trans ?_
  refine (map_tree (fun v : FVec F S32x1024 .f32 => v (ix2 (x 2) (x 3))) (node m c t k) (gate m c t k) (leaf m c t hw k) ?_).trans ?_
  · intro n a b
    simp only [gate, ← coef_eq]
    rfl
  · refine congrArg _ (funext fun l => ?_)
    exact leaf_apply m c t hw k l (row k l) (by rw [hrow, word_eq]) (x 2) (x 3)

/-- What one iteration leaves in its block. -/
theorem outsAt0_apply (row : Fin 16 → Fin 16 → Fin 108)
    (hrow : ∀ k l, (row k l).val = ((iblk m c 0 t : IVec S16x16 32) (ix2 k l)).toNat) :
    outsAt0 m hH c t = block m c t row := by
  have hw : ∀ k l, k0_chk1 (word m c t k l) := fun k l =>
    chk_of_lt _ (by rw [word_eq, ← hrow]; exact (row k l).isLt)
  rw [outsAt0_eq m hH c t hw, View.read_writes_junk_eq_canon]
  funext y
  refine View.canon_apply_of_pieces (block m c t row) _ ?_ y ⟨piece m c t hw (y 1), ?_, ?_⟩
  · intro p hp
    obtain ⟨k, rfl⟩ : ∃ k, p = piece m c t hw k := by
      simp only [List.mem_cons, List.not_mem_nil, or_false] at hp
      rcases hp with h | h | h | h | h | h | h | h | h | h | h | h | h | h | h | h <;> exact ⟨_, h⟩
    exact piece_apply m c t hw row hrow k
  · have mem : ∀ k : Fin 16, k ∈ [15, 14, 13, 12, 11, 10, 9, 8, 7, 6, 5, 4, 3, 2, 1, 0] := by decide
    exact List.mem_map_of_mem (f := piece m c t hw) (mem (y 1))
  · refine (Rect.mem_set_unit (inb := tileBound (y 1))).2 fun a => ?_
    have h0 : (y 0).val < 1 := (y 0).isLt
    have h2 : (y 2).val < 32 := (y 2).isLt
    have h3 : (y 3).val < 1024 := (y 3).isLt
    fin_cases a
    · show 0 ≤ (y 0).val ∧ (y 0).val < 0 + 1
      omega
    · show (y 1).val ≤ (y 1).val ∧ (y 1).val < (y 1).val + 1
      omega
    · show 0 ≤ (y 2).val ∧ (y 2).val < 0 + 32
      omega
    · show 0 ≤ (y 3).val ∧ (y 3).val < 0 + 1024
      omega

end Cert.KernelIdeal.Pieces

end
-- ==== Proof.Array.lean ====
/- The array the kernel's region leaves, at an index, in terms of the three arrays the region reads. A grid point is one
   image of the batch: it reads the whole wiring table, the whole table of coefficients and its image's shifted planes, and
   writes its image's sixteen trees. -/
module

public import proofs.«01_k».proof.Proof.Pieces

@[expose] public section

set_option maxRecDepth 131072

noncomputable section

namespace Cert.KernelIdeal.Pieces

open Cert.KernelIdeal Cert.KernelIdeal.Gen Idealize.ShloMosaic Idealize.ShloMosaic.TcCoe
open Cert.Tree

variable {F : FTy → Type} [FloatOps F]
variable (m : (ℓ : Loc nD τ sig) → Buf (Elt F) ℓ) (hH : Hyps m) (c : Dev nD)

/-- Where each window's block lies, at every grid point. -/
theorem index_facts : ∀ t : Fin cfg0.N, (win0_0.index t (0 : Fin 2) = 0 ∧ win0_0.index t (1 : Fin 2) = 0)
    ∧ (win0_1.index t (0 : Fin 3) = 0 ∧ win0_1.index t (1 : Fin 3) = 0 ∧ win0_1.index t (2 : Fin 3) = 0)
    ∧ (win0_2.index t (0 : Fin 4) = t.val ∧ win0_2.index t (1 : Fin 4) = 0 ∧ win0_2.index t (2 : Fin 4) = 0 ∧ win0_2.index t (3 : Fin 4) = 0)
    ∧ (win0_3.index t (0 : Fin 4) = t.val ∧ win0_3.index t (1 : Fin 4) = 0 ∧ win0_3.index t (2 : Fin 4) = 0 ∧ win0_3.index t (3 : Fin 4) = 0) :=
  (by decide +kernel : ∀ t : Fin grid0.N, _)

/-- The block of the wiring table is the table. -/
theorem wiring_block (t : Fin cfg0.N) (y : S16x16.Idx) : iblk m c 0 t y = V m c main_v67 y := by
  show V m c main_v67 (((cfg0.win 0).blk t).view.emb y) = _
  obtain ⟨⟨e0, e1⟩, -⟩ := index_facts t
  refine congrArg _ (funext fun a => Fin.ext ?_)
  match a with
  | ⟨0, _⟩ => show win0_0.index t (0 : Fin 2) * 16 + 1 * (y 0).val = (y 0).val; omega
  | ⟨1, _⟩ => show win0_0.index t (1 : Fin 2) * 16 + 1 * (y 1).val = (y 1).val; omega

/-- The block of the table of coefficients is the table. -/
theorem coef_block (t : Fin cfg0.N) (y : S16x15x4.Idx) : iblk m c 1 t y = V m c main_v140 y := by
  show V m c main_v140 (((cfg0.win 1).blk t).view.emb y) = _
  obtain ⟨-, ⟨e0, e1, e2⟩, -⟩ := index_facts t
  refine congrArg _ (funext fun a => Fin.ext ?_)
  match a with
  | ⟨0, _⟩ => show win0_1.index t (0 : Fin 3) * 16 + 1 * (y 0).val = (y 0).val; omega
  | ⟨1, _⟩ => show win0_1.index t (1 : Fin 3) * 15 + 1 * (y 1).val = (y 1).val; omega
  | ⟨2, _⟩ => show win0_1.index t (2 : Fin 3) * 4 + 1 * (y 2).val = (y 2).val; omega

/-- The block of shifted planes is the planes of the grid point's image. -/
theorem plane_read (X : FVec F S4x108x32x1024 .f32) (t : Fin cfg0.N) (y : S1x108x32x1024.Idx) (i : S4x108x32x1024.Idx)
    (h0 : (i 0).val = t.val) (h1 : (i 1).val = (y 1).val) (h2 : (i 2).val = (y 2).val) (h3 : (i 3).val = (y 3).val) :
    ((cfg0.win 2).blk t).view.read (Elt F) X y = X i := by
  show X (((cfg0.win 2).blk t).view.emb y) = _
  obtain ⟨-, -, ⟨e0, e1, e2, e3⟩, -⟩ := index_facts t
  have hy : (y 0).val < 1 := (y 0).isLt
  refine congrArg _ (funext fun a => Fin.ext ?_)
  match a with
  | ⟨0, _⟩ => show win0_2.index t (0 : Fin 4) * 1 + 1 * (y 0).val = (i 0).val; omega
  | ⟨1, _⟩ => show win0_2.index t (1 : Fin 4) * 108 + 1 * (y 1).val = (i 1).val; omega
  | ⟨2, _⟩ => show win0_2.index t (2 : Fin 4) * 32 + 1 * (y 2).val = (i 2).val; omega
  | ⟨3, _⟩ => show win0_2.index t (3 : Fin 4) * 1024 + 1 * (y 3).val = (i 3).val; omega

/-- So the block's element is the array's, at the region's entry. -/
theorem plane_block (t : Fin cfg0.N) (y : S1x108x32x1024.Idx) (i : S4x108x32x1024.Idx) (h0 : (i 0).val = t.val)
    (h1 : (i 1).val = (y 1).val) (h2 : (i 2).val = (y 2).val) (h3 : (i 3).val = (y 3).val) :
    iblk m c 2 t y = V m c main_v58 i :=
  plane_read (V m c main_v58) t y i h0 h1 h2 h3

/-- One node of tree `k` on numbers, the coefficients read from the whole table. -/
def polyAt (C : FVec F S16x15x4 .f32) (k : Fin 16) (n : Fin 15) (a b : F .f32) : F .f32 :=
  FloatOps.addf (FloatOps.addf (FloatOps.addf (C (ix3 k n 0)) (FloatOps.mulf (C (ix3 k n 1)) a)) (FloatOps.mulf (C (ix3 k n 2)) b))
    (FloatOps.mulf (C (ix3 k n 3)) (FloatOps.mulf a b))

/-- THE REGION'S RESULT AT AN INDEX. -/
theorem final_apply (row : Fin 16 → Fin 16 → Fin 108)
    (hrow : ∀ k l, (row k l).val = ((V m c main_v67 : IVec S16x16 32) (ix2 k l)).toNat)
    (b : Fin 4) (k : Fin 16) (h : Fin 32) (d : Fin 1024) :
    (dats m hH 0 c).arrAt 3 cfg0.N (ix4 b k h d : S4x16x32x1024.Idx)
      = tree (polyAt (V m c main_v140) k) (fun l => (V m c main_v58 : FVec F S4x108x32x1024 .f32) (ix4 b (row k l) h d)) := by
  obtain ⟨t, ht⟩ : ∃ t : Fin cfg0.N, b.val = t.val := ⟨⟨b.val, b.isLt⟩, rfl⟩
  have e := congrFun (Cert.KernelIdeal.Value.blocks3 m hH c t (flush0_3 t)) (ix4 0 k h d : S1x16x32x1024.Idx)
  rw [Cert.KernelIdeal.Value.flushed3, outsAt0_apply m hH c t row (fun k l => by rw [hrow, wiring_block])] at e
  have e' : (dats m hH 0 c).arrAt 3 cfg0.N (((cfg0.win 3).blk t).view.emb (ix4 0 k h d : S1x16x32x1024.Idx))
      = block m c t row (ix4 0 k h d) := e
  obtain ⟨-, -, -, ⟨e0, e1, e2, e3⟩⟩ := index_facts t
  have he : ((cfg0.win 3).blk t).view.emb (ix4 0 k h d : S1x16x32x1024.Idx) = (ix4 b k h d : S4x16x32x1024.Idx) := by
    refine funext fun a => Fin.ext ?_
    match a with
    | ⟨0, _⟩ => show win0_3.index t (0 : Fin 4) * 1 + 1 * 0 = b.val; omega
    | ⟨1, _⟩ => show win0_3.index t (1 : Fin 4) * 16 + 1 * k.val = k.val; omega
    | ⟨2, _⟩ => show win0_3.index t (2 : Fin 4) * 32 + 1 * h.val = h.val; omega
    | ⟨3, _⟩ => show win0_3.index t (3 : Fin 4) * 1024 + 1 * d.val = d.val; omega
  rw [he] at e'
  refine e'.trans ?_
  unfold block
  refine congrArg₂ tree (funext fun n => funext fun a => funext fun b => ?_)
    (funext fun l => plane_block m c t _ _ ht rfl rfl rfl)
  show gate m c t k n a b = _
  simp only [gate, polyAt, coef_block]

end Cert.KernelIdeal.Pieces

end
-- ==== Proof.Answer.lean ====
/- What both programs compute, with no program in it: the tree of a position over the padded image, its leaves read where
   the wiring says. -/
module

public import proofs.«01_k».proof.Proof.Algebra
public import Idealize.ShloMosaic.Lib.Pointwise

@[expose] public section

noncomputable section

namespace Cert.Tree

open Idealize.ShloMosaic

/-- The image with one zero around each volume. -/
def padded (x : FVec Ideal ⟨5, ![4, 4, 32, 32, 32]⟩ .f32) : FVec Ideal ⟨5, ![4, 4, 34, 34, 34]⟩ .f32 :=
  pad ⟨5, ![4, 4, 34, 34, 34]⟩ ![0, 0, 1, 1, 1] ![0, 0, 1, 1, 1] ![0, 0, 0, 0, 0] x (sitofp .f32 (constantI ⟨0, ![]⟩ 32 0#32)) (by decide) (by decide)

/-- The padded image of real numbers is real numbers. -/
theorem padded_real (x : FVec Ideal ⟨5, ![4, 4, 32, 32, 32]⟩ .f32) (h : ∀ i, IsReal (x i)) (i : (⟨5, ![4, 4, 34, 34, 34]⟩ : Shape).Idx) :
    IsReal (padded x i) := by
  unfold padded pad
  split
  · exact h _
  · exact ⟨_, rfl⟩

/-- A wiring: for each tree and leaf a channel and three offsets. -/
structure Wires where
  c : Fin 16 → Fin 16 → Fin 4
  h : Fin 16 → Fin 16 → Fin 3
  w : Fin 16 → Fin 16 → Fin 3
  d : Fin 16 → Fin 16 → Fin 3

/-- The four tables of words hold the wiring. -/
structure Holds (W : Wires) (c h w d : IVec ⟨2, ![16, 16]⟩ 32) : Prop where
  c : ∀ k l, (c (ix2 k l)).toNat = (W.c k l).val
  h : ∀ k l, (h (ix2 k l)).toNat = (W.h k l).val
  w : ∀ k l, (w (ix2 k l)).toNat = (W.w k l).val
  d : ∀ k l, (d (ix2 k l)).toNat = (W.d k l).val

/-- Leaf `l` of tree `k` at the position of plane `H` and place `D`. -/
def leafAt (x : FVec Ideal ⟨5, ![4, 4, 34, 34, 34]⟩ .f32) (W : Wires) (b : Fin 4) (k : Fin 16) (H : Fin 32) (D : Fin 1024) (l : Fin 16) : EReal :=
  x (ix5 b (W.c k l) ⟨H.val + (W.h k l).val, by omega⟩ ⟨D.val / 32 + (W.w k l).val, by omega⟩ ⟨D.val % 32 + (W.d k l).val, by omega⟩)

/-- The logits of the fifteen nodes of tree `k`, level by level. -/
def logitsAt (w0 : FVec Ideal ⟨3, ![8, 16, 16]⟩ .f32) (w1 : FVec Ideal ⟨3, ![4, 16, 16]⟩ .f32) (w2 : FVec Ideal ⟨3, ![2, 16, 16]⟩ .f32)
    (w3 : FVec Ideal ⟨3, ![1, 16, 16]⟩ .f32) (k : Fin 16) : Fin 15 → Fin 16 → EReal :=
  ![fun j => w0 (ix3 0 k j), fun j => w0 (ix3 1 k j), fun j => w0 (ix3 2 k j), fun j => w0 (ix3 3 k j), fun j => w0 (ix3 4 k j),
    fun j => w0 (ix3 5 k j), fun j => w0 (ix3 6 k j), fun j => w0 (ix3 7 k j), fun j => w1 (ix3 0 k j), fun j => w1 (ix3 1 k j),
    fun j => w1 (ix3 2 k j), fun j => w1 (ix3 3 k j), fun j => w2 (ix3 0 k j), fun j => w2 (ix3 1 k j), fun j => w3 (ix3 0 k j)]

/-- A property of every logit below the root is one of every logit of the three lower levels. -/
theorem logitsAt_real (w0 : FVec Ideal ⟨3, ![8, 16, 16]⟩ .f32) (w1 : FVec Ideal ⟨3, ![4, 16, 16]⟩ .f32) (w2 : FVec Ideal ⟨3, ![2, 16, 16]⟩ .f32)
    (w3 : FVec Ideal ⟨3, ![1, 16, 16]⟩ .f32) (h0 : ∀ i, IsReal (w0 i)) (h1 : ∀ i, IsReal (w1 i)) (h2 : ∀ i, IsReal (w2 i)) (k : Fin 16) (n : Fin 15)
    (hn : n ≠ 14) (j : Fin 16) : IsReal (logitsAt w0 w1 w2 w3 k n j) := by
  fin_cases n
  all_goals first | exact h0 _ | exact h1 _ | exact h2 _ | exact absurd rfl hn

/-- THE ANSWER: at each position the tree of differentiable lookup tables over its sixteen leaves. -/
def answer (x : FVec Ideal ⟨5, ![4, 4, 32, 32, 32]⟩ .f32) (W : Wires) (w0 : FVec Ideal ⟨3, ![8, 16, 16]⟩ .f32) (w1 : FVec Ideal ⟨3, ![4, 16, 16]⟩ .f32)
    (w2 : FVec Ideal ⟨3, ![2, 16, 16]⟩ .f32) (w3 : FVec Ideal ⟨3, ![1, 16, 16]⟩ .f32) : FVec Ideal ⟨4, ![4, 16, 32, 1024]⟩ .f32 :=
  fun i => tree (fun n => lut (prob (logitsAt w0 w1 w2 w3 (i 1) n))) (leafAt (padded x) W (i 0) (i 1) (i 2) (i 3))

end Cert.Tree

end
-- ==== Proof.Planes.lean ====
/- The shifted planes that the kernel's region reads, at an index: the padded image moved by the shift that the plane's
   number names. -/
module

public import proofs.«01_k».proof.Proof.Gen.KernelIdeal.Frame.Runs
public import proofs.«01_k».proof.Proof.Answer

@[expose] public section

set_option maxRecDepth 131072

noncomputable section

namespace Cert.KernelIdeal.Planes

open Cert.KernelIdeal Cert.KernelIdeal.Gen Idealize.ShloMosaic Idealize.ShloMosaic.TcCoe
open Cert.Tree

/-- The padded image moved by one shift, with an axis of one for the shifts. -/
def shift (X : FVec Ideal S4x4x34x34x34 .f32) (hi wi di : ℕ) (hs : S4x4x34x34x34.Slices ![0, 0, hi, wi, di] S4x4x32x32x32 := by decide) :
    FVec Ideal S4x1x4x32x32x32 .f32 :=
  broadcastInDim S4x1x4x32x32x32 ![0, 2, 3, 4, 5] bcast_S4x4x32x32x32_S4x1x4x32x32x32_0_2_3_4_5
    (extractStridedSlice S4x4x32x32x32 ![0, 0, hi, wi, di] X hs)

/-- The first sixteen shifts. -/
def front (X : FVec Ideal S4x4x34x34x34 .f32) : FVec Ideal S4x16x4x32x32x32 .f32 :=
  concatenate S4x16x4x32x32x32 1
    [⟨S4x1x4x32x32x32, shift X 0 0 0⟩, ⟨S4x1x4x32x32x32, shift X 0 0 1⟩, ⟨S4x1x4x32x32x32, shift X 0 0 2⟩,
     ⟨S4x1x4x32x32x32, shift X 0 1 0⟩, ⟨S4x1x4x32x32x32, shift X 0 1 1⟩, ⟨S4x1x4x32x32x32, shift X 0 1 2⟩,
     ⟨S4x1x4x32x32x32, shift X 0 2 0⟩, ⟨S4x1x4x32x32x32, shift X 0 2 1⟩, ⟨S4x1x4x32x32x32, shift X 0 2 2⟩,
     ⟨S4x1x4x32x32x32, shift X 1 0 0⟩, ⟨S4x1x4x32x32x32, shift X 1 0 1⟩, ⟨S4x1x4x32x32x32, shift X 1 0 2⟩,
     ⟨S4x1x4x32x32x32, shift X 1 1 0⟩, ⟨S4x1x4x32x32x32, shift X 1 1 1⟩, ⟨S4x1x4x32x32x32, shift X 1 1 2⟩,
     ⟨S4x1x4x32x32x32, shift X 1 2 0⟩]
    (show Shape.Concatenates (List.replicate 16 S4x1x4x32x32x32) S4x16x4x32x32x32 1 by decide)

/-- The last eleven shifts. -/
def back (X : FVec Ideal S4x4x34x34x34 .f32) : FVec Ideal S4x11x4x32x32x32 .f32 :=
  concatenate S4x11x4x32x32x32 1
    [⟨S4x1x4x32x32x32, shift X 1 2 1⟩, ⟨S4x1x4x32x32x32, shift X 1 2 2⟩, ⟨S4x1x4x32x32x32, shift X 2 0 0⟩,
     ⟨S4x1x4x32x32x32, shift X 2 0 1⟩, ⟨S4x1x4x32x32x32, shift X 2 0 2⟩, ⟨S4x1x4x32x32x32, shift X 2 1 0⟩,
     ⟨S4x1x4x32x32x32, shift X 2 1 1⟩, ⟨S4x1x4x32x32x32, shift X 2 1 2⟩, ⟨S4x1x4x32x32x32, shift X 2 2 0⟩,
     ⟨S4x1x4x32x32x32, shift X 2 2 1⟩, ⟨S4x1x4x32x32x32, shift X 2 2 2⟩]
    (show Shape.Concatenates (List.replicate 11 S4x1x4x32x32x32) S4x11x4x32x32x32 1 by decide)

/-- All twenty-seven shifts. -/
def stack (X : FVec Ideal S4x4x34x34x34 .f32) : FVec Ideal S4x27x4x32x32x32 .f32 :=
  concatenate S4x27x4x32x32x32 1 [⟨S4x16x4x32x32x32, front X⟩, ⟨S4x11x4x32x32x32, back X⟩]
    concatenates_S4x16x4x32x32x32_S4x11x4x32x32x32_S4x27x4x32x32x32_d1

/-- A shift at an index. -/
theorem shift_apply (X : FVec Ideal S4x4x34x34x34 .f32) (hi wi di : Fin 3) (hs : S4x4x34x34x34.Slices ![0, 0, hi.val, wi.val, di.val] S4x4x32x32x32)
    (b : Fin 4) (z : Fin 1) (c : Fin 4) (h w d : Fin 32) :
    shift X hi.val wi.val di.val hs (ix6 b z c h w d) = X (ix5 b c ⟨hi.val + h.val, by omega⟩ ⟨wi.val + w.val, by omega⟩ ⟨di.val + d.val, by omega⟩) := by
  pointwise [shift]

/-- The stack of shifts at an index: the plane's number names the shift. -/
theorem stack_apply (X : FVec Ideal S4x4x34x34x34 .f32) (hi wi di : Fin 3) (b c : Fin 4) (h w d : Fin 32) :
    stack X (ix6 b ⟨(hi.val * 3 + wi.val) * 3 + di.val, by omega⟩ c h w d) =
      X (ix5 b c ⟨hi.val + h.val, by omega⟩ ⟨wi.val + w.val, by omega⟩ ⟨di.val + d.val, by omega⟩) := by
  fin_cases hi <;> fin_cases wi <;> fin_cases di <;> pointwise [stack, front, back, shift]

/-- Folding shift and channel into one row, and the last two axes into one, at an index. -/
theorem flat_apply (x : FVec Ideal S4x27x4x32x32x32 .f32) (b : Fin 4) (s : Fin 27) (c : Fin 4) (h : Fin 32) (D : Fin 1024)
    (hs : s.val * 4 + c.val < 108) :
    (shapeCast S4x108x32x1024 x shapeCasts_S4x27x4x32x32x32_S4x108x32x1024 : FVec Ideal S4x108x32x1024 .f32)
        (ix4 b ⟨s.val * 4 + c.val, hs⟩ h D) =
      x (ix6 b s c h ⟨D.val / 32, by omega⟩ ⟨D.val % 32, by omega⟩) := by
  pointwise

set_option maxHeartbeats 16000000 in
/-- The region's planes as the host leaves them. -/
theorem V_planes (m : (ℓ : Loc nD τ sig) → Buf (Elt Ideal) ℓ) (c : Dev nD) : (V m c main_v58 : FVec Ideal S4x108x32x1024 .f32) =
    shapeCast _ (stack (padded (m ((c : Thread nD τ).loc main_arg0)))) shapeCasts_S4x27x4x32x32x32_S4x108x32x1024 := by
  simp only [V, hostOps0, hostOps0_1, hostOps0_2, List.flatten_cons, List.flatten_nil, List.append_nil, List.cons_append,
      List.nil_append]
  after_results
  rfl

end Cert.KernelIdeal.Planes

end
-- ==== Proof.Levels.lean ====
/- One level of the reference's tree, at an index: the sum of sixteen weighted operations on two arrays, and the softmax
   that the weights are. -/
module

public import proofs.«01_k».proof.Proof.Gen.ReferenceIdeal.Run
public import proofs.«01_k».proof.Proof.Algebra
public import Idealize.ShloMosaic.Lib.Pointwise
public import Idealize.ShloMosaic.Lib.IdealHost

@[expose] public section

set_option maxRecDepth 131072

noncomputable section

namespace Cert.ReferenceIdeal.Levels

open Cert.ReferenceIdeal Cert.ReferenceIdeal.Gen Cert.ReferenceIdeal.Value Idealize.ShloMosaic Idealize.ShloMosaic.TcCoe
open Cert.Tree Idealize.ShloMosaic.StableHlo

/-! ## The sum of weighted operations -/

/-- A sum of sixteen operations on two arrays, each weighted by an array. -/
def lutArr {s : Shape} (hb : S_.BroadcastsInDim s ![]) (W : Fin 16 → FVec Ideal s .f32) (A B : FVec Ideal s .f32) : FVec Ideal s .f32 :=
  let zero : FVec Ideal s .f32 := broadcastInDim s ![] hb (constant S_ .f32 0x00000000#32)
  let one : FVec Ideal s .f32 := broadcastInDim s ![] hb (constant S_ .f32 0x3F800000#32)
  let two : FVec Ideal s .f32 := broadcastInDim s ![] hb (constant S_ .f32 0x40000000#32)
  let ab := mulf A B
  addf (addf (addf (addf (addf (addf (addf (addf (addf (addf (addf (addf (addf (addf (addf (addf zero (mulf (W 0) zero)) (mulf (W 1) ab))
    (mulf (W 2) (subf A ab))) (mulf (W 3) A)) (mulf (W 4) (subf B ab))) (mulf (W 5) B)) (mulf (W 6) (subf (addf A B) (mulf two ab))))
    (mulf (W 7) (subf (addf A B) ab))) (mulf (W 8) (subf one (subf (addf A B) ab)))) (mulf (W 9) (subf one (subf (addf A B) (mulf two ab)))))
    (mulf (W 10) (subf one B))) (mulf (W 11) (addf (subf one B) ab))) (mulf (W 12) (subf one A))) (mulf (W 13) (addf (subf one A) ab)))
    (mulf (W 14) (subf one ab))) (mulf (W 15) one)

/-- The word of two is two. -/
theorem word_two : Ideal.ofBits .f32 0x40000000#32 = 2 := by
  rw [show (2 : EReal) = ((2 : ℝ) : EReal) by norm_cast]
  simp [Ideal.ofBits, Ideal.ieee, -EReal.coe_mul]
  norm_num

/-- The word of the lower infinity is the lower infinity. -/
theorem word_bot : Ideal.ofBits .f32 0xFF800000#32 = ⊥ := by
  simp [Ideal.ofBits, Ideal.ieee]

/-- The sum at an index. -/
theorem lutArr_apply {s : Shape} (hb : S_.BroadcastsInDim s ![]) (W : Fin 16 → FVec Ideal s .f32) (A B : FVec Ideal s .f32) (y : s.Idx) :
    lutArr hb W A B y = lut (fun i => W i y) (A y) (B y) := by
  show Ideal.ofBits .f32 0x00000000#32 + W 0 y * Ideal.ofBits .f32 0x00000000#32 + _ + _ + _ + _ + _ + W 6 y * (A y + B y - Ideal.ofBits .f32 0x40000000#32 * (A y * B y))
      + _ + W 8 y * (Ideal.ofBits .f32 0x3F800000#32 - (A y + B y - A y * B y)) + W 9 y * (Ideal.ofBits .f32 0x3F800000#32 - (A y + B y - Ideal.ofBits .f32 0x40000000#32 * (A y * B y)))
      + W 10 y * (Ideal.ofBits .f32 0x3F800000#32 - B y) + W 11 y * (Ideal.ofBits .f32 0x3F800000#32 - B y + A y * B y)
      + W 12 y * (Ideal.ofBits .f32 0x3F800000#32 - A y) + W 13 y * (Ideal.ofBits .f32 0x3F800000#32 - A y + A y * B y)
      + W 14 y * (Ideal.ofBits .f32 0x3F800000#32 - A y * B y) + W 15 y * Ideal.ofBits .f32 0x3F800000#32 = _
  rw [Ideal.ofBits_zero_f32, Ideal.ofBits_one_f32, word_two]
  rfl

/-! ## The softmax of a level's logits -/

section

variable (N : ℕ)

/-- The shape of the logits of a level of `N` nodes. -/
abbrev logits : Shape := ⟨3, ![N, 16, 16]⟩
/-- One number for each row of logits. -/
abbrev rows : Shape := ⟨2, ![N, 16]⟩
/-- The same, with an axis of one. -/
abbrev rowsCol : Shape := ⟨3, ![N, 16, 1]⟩
/-- The logits with trees before nodes. -/
abbrev swapped : Shape := ⟨3, ![16, N, 16]⟩
/-- The weights, with the values' axes. -/
abbrev weights : Shape := ⟨5, ![1, 16, 1, N, 16]⟩
/-- One operation's weights. -/
abbrev weightCol : Shape := ⟨5, ![1, 16, 1, N, 1]⟩
/-- The same, without the operations' axis. -/
abbrev weightRow : Shape := ⟨4, ![1, 16, 1, N]⟩
/-- The values at the nodes of a level. -/
abbrev values : Shape := ⟨4, ![4, 16, 32768, N]⟩

variable {N} (hN : N = 8 ∨ N = 4 ∨ N = 2 ∨ N = 1)

include hN

/-- A weight spread over the values is the node's. -/
theorem weight_apply (P : FVec Ideal (weights N) .f32) (i : Fin 16) (hs : (weights N).Slices ![0, 0, 0, 0, i.val] (weightCol N))
    (hc : (weightCol N).ShapeCasts (weightRow N)) (hb : (weightRow N).BroadcastsInDim (values N) ![0, 1, 2, 3])
    (b : Fin 4) (k : Fin 16) (p : Fin 32768) (n : Fin N) :
    broadcastInDim (values N) ![0, 1, 2, 3] hb (shapeCast _ (extractStridedSlice (weightCol N) ![0, 0, 0, 0, i.val] P hs) hc) (ix4 b k p n)
      = P (ix5 0 k 0 n i) := by
  rcases hN with rfl | rfl | rfl | rfl
  · pointwise
  · pointwise
  · pointwise
  · obtain rfl : n = 0 := Subsingleton.elim _ _
    pointwise

/-- The exponentials of the logits less their row's largest. -/
def expArr (w : FVec Ideal (logits N) .f32) (hb : (rowsCol N).BroadcastsInDim (logits N) ![0, 1, 2])
    (hr : (rows N).BroadcastsInDim (rowsCol N) ![0, 1]) (h0 : S_.BroadcastsInDim (rows N) ![])
    (hd : (logits N).ReducesTo [2] (rows N)) : FVec Ideal (logits N) .f32 :=
  Host.exp (subf w (broadcastInDim (logits N) ![0, 1, 2] hb (broadcastInDim (rowsCol N) ![0, 1] hr
        (maximumf (broadcastInDim (rows N) ![] h0 (constant S_ .f32 0xFF800000#32))
          (Host.reduce FloatOps.maximumf w (constant S_ .f32 0xFF800000#32) hd h_S_)))))

/-- At an index they are the exponentials of the index's row. -/
theorem expArr_apply (w : FVec Ideal (logits N) .f32) (hb : (rowsCol N).BroadcastsInDim (logits N) ![0, 1, 2])
    (hr : (rows N).BroadcastsInDim (rowsCol N) ![0, 1]) (h0 : S_.BroadcastsInDim (rows N) ![])
    (hd : (logits N).ReducesTo [2] (rows N)) (n : Fin N) (k i : Fin 16) :
    expArr w hb hr h0 hd (ix3 n k i) = expo (fun j => w (ix3 n k j)) i := by
  have h : expArr w hb hr h0 hd (ix3 n k i) = Ideal.exp (w (ix3 n k i) - max (Ideal.ofBits .f32 0xFF800000#32)
      (Finset.fold max (Ideal.ofBits .f32 0xFF800000#32) (fun x => w (ix3 n k x)) Finset.univ)) := by
    rcases hN with rfl | rfl | rfl | rfl
    · pointwise [expArr]
    · pointwise [expArr]
    · pointwise [expArr]
    · obtain rfl : n = 0 := Subsingleton.elim _ _
      pointwise [expArr]
  rw [h, word_bot, max_eq_right bot_le]
  rfl

/-- The softmax, moved to the values' axes. -/
def probArr (e : FVec Ideal (logits N) .f32) (hb : (rowsCol N).BroadcastsInDim (logits N) ![0, 1, 2])
    (hr : (rows N).BroadcastsInDim (rowsCol N) ![0, 1]) (hd : (logits N).ReducesTo [2] (rows N))
    (ht : (logits N).Transposes [1, 0, 2] (swapped N)) (hw : (swapped N).BroadcastsInDim (weights N) ![1, 3, 4]) : FVec Ideal (weights N) .f32 :=
  broadcastInDim (weights N) ![1, 3, 4] hw (transpose (swapped N) [1, 0, 2] (Host.divf e (broadcastInDim (logits N) ![0, 1, 2] hb
    (broadcastInDim (rowsCol N) ![0, 1] hr (Host.reduceAdd e (constant S_ .f32 0x00000000#32) hd h_S_)))) ht)

/-- At an index it is the softmax of the node's row of logits. -/
theorem probArr_apply (w : FVec Ideal (logits N) .f32) (hb : (rowsCol N).BroadcastsInDim (logits N) ![0, 1, 2])
    (hr : (rows N).BroadcastsInDim (rowsCol N) ![0, 1]) (h0 : S_.BroadcastsInDim (rows N) ![]) (hd : (logits N).ReducesTo [2] (rows N))
    (ht : (logits N).Transposes [1, 0, 2] (swapped N)) (hw : (swapped N).BroadcastsInDim (weights N) ![1, 3, 4])
    (k : Fin 16) (n : Fin N) (i : Fin 16) :
    probArr (expArr w hb hr h0 hd) hb hr hd ht hw (ix5 0 k 0 n i) = prob (fun j => w (ix3 n k j)) i := by
  have h : ∀ e : FVec Ideal (logits N) .f32, probArr e hb hr hd ht hw (ix5 0 k 0 n i)
      = Ideal.div (e (ix3 n k i)) (0 + ∑ j : Fin 16, e (ix3 n k j)) := by
    intro e
    rcases hN with rfl | rfl | rfl | rfl
    · pointwise [probArr]
    · pointwise [probArr]
    · pointwise [probArr]
    · obtain rfl : n = 0 := Subsingleton.elim _ _
      pointwise [probArr]
  rw [h]
  simp only [expArr_apply hN, prob]

/-- A level's array of values, from its weights and the two arrays it combines. -/
def levelArr (hb : S_.BroadcastsInDim (values N) ![]) (hw : (weightRow N).BroadcastsInDim (values N) ![0, 1, 2, 3])
    (hs : ∀ i : Fin 16, (weights N).Slices ![0, 0, 0, 0, i.val] (weightCol N)) (hc : (weightCol N).ShapeCasts (weightRow N))
    (P : FVec Ideal (weights N) .f32) (A B : FVec Ideal (values N) .f32) : FVec Ideal (values N) .f32 :=
  lutArr hb (fun i => broadcastInDim (values N) ![0, 1, 2, 3] hw
    (shapeCast _ (extractStridedSlice (weightCol N) ![0, 0, 0, 0, i.val] P (hs i)) hc)) A B

/-- A level's value at a node: the node's weighted operations on its two inputs. -/
theorem levelArr_apply (hb : S_.BroadcastsInDim (values N) ![]) (hw : (weightRow N).BroadcastsInDim (values N) ![0, 1, 2, 3])
    (hs : ∀ i : Fin 16, (weights N).Slices ![0, 0, 0, 0, i.val] (weightCol N)) (hc : (weightCol N).ShapeCasts (weightRow N))
    (P : FVec Ideal (weights N) .f32) (A B : FVec Ideal (values N) .f32) (b : Fin 4) (k : Fin 16) (p : Fin 32768) (n : Fin N) :
    levelArr hb hw hs hc P A B (ix4 b k p n) = lut (fun i => P (ix5 0 k 0 n i)) (A (ix4 b k p n)) (B (ix4 b k p n)) := by
  unfold levelArr
  rw [lutArr_apply]
  simp only [weight_apply hN]

omit hN in
/-- Every second value, from an offset. -/
theorem second_apply {M : ℕ} (o : ℕ) (x : FVec Ideal (values M) .f32) (h : (values M).SlicesBy ![0, 0, 0, o] ![1, 1, 1, 2] (values N))
    (b : Fin 4) (k : Fin 16) (p : Fin 32768) (n : Fin N) (n' : Fin M) (hn : n'.val = o + 2 * n.val) :
    Host.slice (values N) ![0, 0, 0, o] ![1, 1, 1, 2] x h (ix4 b k p n) = x (ix4 b k p n') := by
  refine congrArg x (funext fun a => Fin.ext ?_)
  match a with
  | ⟨0, _⟩ => show 0 + 1 * b.val = b.val; omega
  | ⟨1, _⟩ => show 0 + 1 * k.val = k.val; omega
  | ⟨2, _⟩ => show 0 + 1 * p.val = p.val; omega
  | ⟨3, _⟩ => exact hn.symm

end

/-! ## The four levels of the reference -/

variable (V0 : Valuation τ sig (Elt Ideal))

/-- The weights of level 0 at an index. -/
theorem v68_apply (k : Fin 16) (n : Fin 8) (i : Fin 16) : (res_main_v68 V0 : FVec Ideal (weights 8) .f32) (ix5 0 k 0 n i)
    = prob (fun j => (V0 (Proc.devRef .tc main_arg5) : FVec Ideal (logits 8) .f32) (ix3 n k j)) i := by
  have h : (res_main_v68 V0 : FVec Ideal (weights 8) .f32) = probArr (N := 8)
      (expArr (N := 8) (V0 (Proc.devRef .tc main_arg5)) bcast_S8x16x1_S8x16x16_0_1_2 bcast_S8x16_S8x16x1_0_1 bcast_S_S8x16 reducesTo_S8x16x16_S8x16_d2)
      bcast_S8x16x1_S8x16x16_0_1_2 bcast_S8x16_S8x16x1_0_1 reducesTo_S8x16x16_S8x16_d2 transposes_S8x16x16_S16x8x16_1_0_2
      bcast_S16x8x16_S1x16x1x8x16_1_3_4 := rfl
  rw [h]
  exact probArr_apply (by decide) _ _ _ _ _ _ _ k n i

/-- The values of level 0 at an index. -/
theorem v182_apply (b : Fin 4) (k : Fin 16) (p : Fin 32768) (n : Fin 8) : (res_main_v182 V0 : FVec Ideal (values 8) .f32) (ix4 b k p n)
    = lut (prob fun j => (V0 (Proc.devRef .tc main_arg5) : FVec Ideal (logits 8) .f32) (ix3 n k j))
        ((res_main_v53 V0 : FVec Ideal (values 8) .f32) (ix4 b k p n)) ((res_main_v55 V0 : FVec Ideal (values 8) .f32) (ix4 b k p n)) := by
  have h : (res_main_v182 V0 : FVec Ideal (values 8) .f32) = levelArr (N := 8) bcast_S_S4x16x32768x8 bcast_S1x16x1x8_S4x16x32768x8_0_1_2_3
      (by decide) shapeCasts_S1x16x1x8x1_S1x16x1x8 (res_main_v68 V0) (res_main_v53 V0) (res_main_v55 V0) := rfl
  rw [h, levelArr_apply (by decide)]
  simp only [v68_apply]

/-- The even values of level 0, which the next level reads. -/
theorem v183_apply (b : Fin 4) (k : Fin 16) (p : Fin 32768) (n : Fin 4) (n' : Fin 8) (hn : n'.val = 0 + 2 * n.val) :
    (res_main_v183 V0 : FVec Ideal (values 4) .f32) (ix4 b k p n) = (res_main_v182 V0 : FVec Ideal (values 8) .f32) (ix4 b k p n') :=
  second_apply 0 (res_main_v182 V0) slicesBy_S4x16x32768x8_S4x16x32768x4_0s1_0s1_0s1_0s2 b k p n n' hn

/-- The odd values of level 0, which the next level reads. -/
theorem v184_apply (b : Fin 4) (k : Fin 16) (p : Fin 32768) (n : Fin 4) (n' : Fin 8) (hn : n'.val = 1 + 2 * n.val) :
    (res_main_v184 V0 : FVec Ideal (values 4) .f32) (ix4 b k p n) = (res_main_v182 V0 : FVec Ideal (values 8) .f32) (ix4 b k p n') :=
  second_apply 1 (res_main_v182 V0) slicesBy_S4x16x32768x8_S4x16x32768x4_0s1_0s1_0s1_1s2 b k p n n' hn

/-- The weights of level 1 at an index. -/
theorem v197_apply (k : Fin 16) (n : Fin 4) (i : Fin 16) : (res_main_v197 V0 : FVec Ideal (weights 4) .f32) (ix5 0 k 0 n i)
    = prob (fun j => (V0 (Proc.devRef .tc main_arg6) : FVec Ideal (logits 4) .f32) (ix3 n k j)) i := by
  have h : (res_main_v197 V0 : FVec Ideal (weights 4) .f32) = probArr (N := 4)
      (expArr (N := 4) (V0 (Proc.devRef .tc main_arg6)) bcast_S4x16x1_S4x16x16_0_1_2 bcast_S4x16_S4x16x1_0_1 bcast_S_S4x16 reducesTo_S4x16x16_S4x16_d2)
      bcast_S4x16x1_S4x16x16_0_1_2 bcast_S4x16_S4x16x1_0_1 reducesTo_S4x16x16_S4x16_d2 transposes_S4x16x16_S16x4x16_1_0_2
      bcast_S16x4x16_S1x16x1x4x16_1_3_4 := rfl
  rw [h]
  exact probArr_apply (by decide) _ _ _ _ _ _ _ k n i

/-- The values of level 1 at an index. -/
theorem v311_apply (b : Fin 4) (k : Fin 16) (p : Fin 32768) (n : Fin 4) : (res_main_v311 V0 : FVec Ideal (values 4) .f32) (ix4 b k p n)
    = lut (prob fun j => (V0 (Proc.devRef .tc main_arg6) : FVec Ideal (logits 4) .f32) (ix3 n k j))
        ((res_main_v183 V0 : FVec Ideal (values 4) .f32) (ix4 b k p n)) ((res_main_v184 V0 : FVec Ideal (values 4) .f32) (ix4 b k p n)) := by
  have h : (res_main_v311 V0 : FVec Ideal (values 4) .f32) = levelArr (N := 4) bcast_S_S4x16x32768x4 bcast_S1x16x1x4_S4x16x32768x4_0_1_2_3
      (by decide) shapeCasts_S1x16x1x4x1_S1x16x1x4 (res_main_v197 V0) (res_main_v183 V0) (res_main_v184 V0) := rfl
  rw [h, levelArr_apply (by decide)]
  simp only [v197_apply]

/-- The even values of level 1, which the next level reads. -/
theorem v312_apply (b : Fin 4) (k : Fin 16) (p : Fin 32768) (n : Fin 2) (n' : Fin 4) (hn : n'.val = 0 + 2 * n.val) :
    (res_main_v312 V0 : FVec Ideal (values 2) .f32) (ix4 b k p n) = (res_main_v311 V0 : FVec Ideal (values 4) .f32) (ix4 b k p n') :=
  second_apply 0 (res_main_v311 V0) slicesBy_S4x16x32768x4_S4x16x32768x2_0s1_0s1_0s1_0s2 b k p n n' hn

/-- The odd values of level 1, which the next level reads. -/
theorem v313_apply (b : Fin 4) (k : Fin 16) (p : Fin 32768) (n : Fin 2) (n' : Fin 4) (hn : n'.val = 1 + 2 * n.val) :
    (res_main_v313 V0 : FVec Ideal (values 2) .f32) (ix4 b k p n) = (res_main_v311 V0 : FVec Ideal (values 4) .f32) (ix4 b k p n') :=
  second_apply 1 (res_main_v311 V0) slicesBy_S4x16x32768x4_S4x16x32768x2_0s1_0s1_0s1_1s2 b k p n n' hn

/-- The weights of level 2 at an index. -/
theorem v326_apply (k : Fin 16) (n : Fin 2) (i : Fin 16) : (res_main_v326 V0 : FVec Ideal (weights 2) .f32) (ix5 0 k 0 n i)
    = prob (fun j => (V0 (Proc.devRef .tc main_arg7) : FVec Ideal (logits 2) .f32) (ix3 n k j)) i := by
  have h : (res_main_v326 V0 : FVec Ideal (weights 2) .f32) = probArr (N := 2)
      (expArr (N := 2) (V0 (Proc.devRef .tc main_arg7)) bcast_S2x16x1_S2x16x16_0_1_2 bcast_S2x16_S2x16x1_0_1 bcast_S_S2x16 reducesTo_S2x16x16_S2x16_d2)
      bcast_S2x16x1_S2x16x16_0_1_2 bcast_S2x16_S2x16x1_0_1 reducesTo_S2x16x16_S2x16_d2 transposes_S2x16x16_S16x2x16_1_0_2
      bcast_S16x2x16_S1x16x1x2x16_1_3_4 := rfl
  rw [h]
  exact probArr_apply (by decide) _ _ _ _ _ _ _ k n i

/-- The values of level 2 at an index. -/
theorem v440_apply (b : Fin 4) (k : Fin 16) (p : Fin 32768) (n : Fin 2) : (res_main_v440 V0 : FVec Ideal (values 2) .f32) (ix4 b k p n)
    = lut (prob fun j => (V0 (Proc.devRef .tc main_arg7) : FVec Ideal (logits 2) .f32) (ix3 n k j))
        ((res_main_v312 V0 : FVec Ideal (values 2) .f32) (ix4 b k p n)) ((res_main_v313 V0 : FVec Ideal (values 2) .f32) (ix4 b k p n)) := by
  have h : (res_main_v440 V0 : FVec Ideal (values 2) .f32) = levelArr (N := 2) bcast_S_S4x16x32768x2 bcast_S1x16x1x2_S4x16x32768x2_0_1_2_3
      (by decide) shapeCasts_S1x16x1x2x1_S1x16x1x2 (res_main_v326 V0) (res_main_v312 V0) (res_main_v313 V0) := rfl
  rw [h, levelArr_apply (by decide)]
  simp only [v326_apply]

/-- The even values of level 2, which the next level reads. -/
theorem v441_apply (b : Fin 4) (k : Fin 16) (p : Fin 32768) (n : Fin 1) (n' : Fin 2) (hn : n'.val = 0 + 2 * n.val) :
    (res_main_v441 V0 : FVec Ideal (values 1) .f32) (ix4 b k p n) = (res_main_v440 V0 : FVec Ideal (values 2) .f32) (ix4 b k p n') :=
  second_apply 0 (res_main_v440 V0) slicesBy_S4x16x32768x2_S4x16x32768x1_0s1_0s1_0s1_0s2 b k p n n' hn

/-- The odd values of level 2, which the next level reads. -/
theorem v442_apply (b : Fin 4) (k : Fin 16) (p : Fin 32768) (n : Fin 1) (n' : Fin 2) (hn : n'.val = 1 + 2 * n.val) :
    (res_main_v442 V0 : FVec Ideal (values 1) .f32) (ix4 b k p n) = (res_main_v440 V0 : FVec Ideal (values 2) .f32) (ix4 b k p n') :=
  second_apply 1 (res_main_v440 V0) slicesBy_S4x16x32768x2_S4x16x32768x1_0s1_0s1_0s1_1s2 b k p n n' hn

/-- The weights of level 3 at an index. -/
theorem v455_apply (k : Fin 16) (n : Fin 1) (i : Fin 16) : (res_main_v455 V0 : FVec Ideal (weights 1) .f32) (ix5 0 k 0 n i)
    = prob (fun j => (V0 (Proc.devRef .tc main_arg8) : FVec Ideal (logits 1) .f32) (ix3 n k j)) i := by
  have h : (res_main_v455 V0 : FVec Ideal (weights 1) .f32) = probArr (N := 1)
      (expArr (N := 1) (V0 (Proc.devRef .tc main_arg8)) bcast_S1x16x1_S1x16x16_0_1_2 bcast_S1x16_S1x16x1_0_1 bcast_S_S1x16 reducesTo_S1x16x16_S1x16_d2)
      bcast_S1x16x1_S1x16x16_0_1_2 bcast_S1x16_S1x16x1_0_1 reducesTo_S1x16x16_S1x16_d2 transposes_S1x16x16_S16x1x16_1_0_2
      bcast_S16x1x16_S1x16x1x1x16_1_3_4 := rfl
  rw [h]
  exact probArr_apply (by decide) _ _ _ _ _ _ _ k n i

end Cert.ReferenceIdeal.Levels

end
-- ==== Proof.Coefs.lean ====
/- The kernel's table of coefficients, at an index: the softmax of a node's logits times the matrix of the sixteen
   operations. -/
module

public import proofs.«01_k».proof.Proof.Gen.KernelIdeal.Frame.Runs
public import proofs.«01_k».proof.Proof.Answer
public import proofs.«01_k».proof.Proof.Levels

@[expose] public section

set_option maxRecDepth 131072

noncomputable section

namespace Cert.KernelIdeal.Coefs

open Cert.KernelIdeal Cert.KernelIdeal.Gen Idealize.ShloMosaic Idealize.ShloMosaic.TcCoe
open Cert.Tree Cert.ReferenceIdeal.Levels

/-- The matrix of the sixteen operations: the coefficients of `1`, `a`, `b` and `a * b`. -/
def matrix : FVec Ideal S16x4 .f32 := fun i => Ideal.ofBits .f32 (lit0 (S16x4.rowMajor i))

/-- The word of minus one is minus one. -/
theorem word_neg_one : Ideal.ofBits .f32 0xBF800000#32 = ((-1 : ℝ) : EReal) := by
  simp [Ideal.ofBits, Ideal.ieee, -EReal.coe_mul]
  norm_num

/-- The word of minus two is minus two. -/
theorem word_neg_two : Ideal.ofBits .f32 0xC0000000#32 = ((-2 : ℝ) : EReal) := by
  simp [Ideal.ofBits, Ideal.ieee, -EReal.coe_mul]
  norm_num

/-- The matrix holds the operations' coefficients. -/
theorem matrix_apply (i : Fin 16) (j : Fin 4) : matrix (ix2 i j) = (opCoef i j : EReal) := by
  fin_cases i <;> fin_cases j
  all_goals first
    | exact Ideal.ofBits_zero_f32
    | exact Ideal.ofBits_one_f32
    | exact word_neg_one
    | exact word_neg_two
    | exact word_two

section

variable (N : ℕ)

/-- The shape of the softmax of a level of `N` nodes, with an axis of one for the coefficients. -/
abbrev probsCol : Shape := ⟨4, ![N, 16, 16, 1]⟩
/-- The terms that a coefficient sums. -/
abbrev terms : Shape := ⟨4, ![N, 16, 16, 4]⟩
/-- The coefficients of a level. -/
abbrev sums : Shape := ⟨3, ![N, 16, 4]⟩
/-- The same, with trees before nodes. -/
abbrev coefs : Shape := ⟨3, ![16, N, 4]⟩

variable {N} (hN : N = 8 ∨ N = 4 ∨ N = 2 ∨ N = 1)

/-- A level's coefficients, from its exponentials and the matrix. -/
def coefArr (e : FVec Ideal (logits N) .f32) (M : FVec Ideal S16x4 .f32) (hb : (rowsCol N).BroadcastsInDim (logits N) ![0, 1, 2])
    (hr : (rows N).BroadcastsInDim (rowsCol N) ![0, 1]) (hd : (logits N).ReducesTo [2] (rows N))
    (hp : (logits N).BroadcastsInDim (probsCol N) ![0, 1, 2]) (hq : (probsCol N).BroadcastsInDim (terms N) ![0, 1, 2, 3])
    (hm : S1x1x16x4.BroadcastsInDim (terms N) ![0, 1, 2, 3]) (hs : (terms N).ReducesTo [2] (sums N))
    (ht : (sums N).Transposes [1, 0, 2] (coefs N)) : FVec Ideal (coefs N) .f32 :=
  transpose (coefs N) [1, 0, 2] (Host.reduceAdd
    (mulf (broadcastInDim (terms N) ![0, 1, 2, 3] hq (broadcastInDim (probsCol N) ![0, 1, 2] hp
        (Host.divf e (broadcastInDim (logits N) ![0, 1, 2] hb (broadcastInDim (rowsCol N) ![0, 1] hr
          (Host.reduceAdd e (constant S_ .f32 0x00000000#32) hd h_S_))))))
      (broadcastInDim (terms N) ![0, 1, 2, 3] hm (broadcastInDim S1x1x16x4 ![2, 3] bcast_S16x4_S1x1x16x4_2_3 M)))
    (constant S_ .f32 0x00000000#32) hs h_S_) ht

include hN

/-- At an index they are the mix of the matrix' column by the softmax of the node's row of logits. -/
theorem coefArr_apply (w : FVec Ideal (logits N) .f32) (h0 : Cert.ReferenceIdeal.S_.BroadcastsInDim (rows N) ![])
    (hb : (rowsCol N).BroadcastsInDim (logits N) ![0, 1, 2])
    (hr : (rows N).BroadcastsInDim (rowsCol N) ![0, 1]) (hd : (logits N).ReducesTo [2] (rows N))
    (hp : (logits N).BroadcastsInDim (probsCol N) ![0, 1, 2]) (hq : (probsCol N).BroadcastsInDim (terms N) ![0, 1, 2, 3])
    (hm : S1x1x16x4.BroadcastsInDim (terms N) ![0, 1, 2, 3]) (hs : (terms N).ReducesTo [2] (sums N))
    (ht : (sums N).Transposes [1, 0, 2] (coefs N)) (k : Fin 16) (n : Fin N) (j : Fin 4) :
    coefArr (expArr w hb hr h0 hd) matrix hb hr hd hp hq hm hs ht (ix3 k n j) = mix (prob (fun i => w (ix3 n k i))) j := by
  have h : ∀ (e : FVec Ideal (logits N) .f32) (M : FVec Ideal S16x4 .f32), coefArr e M hb hr hd hp hq hm hs ht (ix3 k n j)
      = 0 + ∑ i : Fin 16, Ideal.div (e (ix3 n k i)) (0 + ∑ j : Fin 16, e (ix3 n k j)) * M (ix2 i j) := by
    intro e M
    rcases hN with rfl | rfl | rfl | rfl
    · pointwise [coefArr]
    · pointwise [coefArr]
    · pointwise [coefArr]
    · obtain rfl : n = 0 := Subsingleton.elim _ _
      pointwise [coefArr]
  rw [h]
  simp only [expArr_apply hN, matrix_apply]
  rfl

end

/-- The whole table: the four levels' coefficients one after the other. -/
def table (w0 : FVec Ideal (logits 8) .f32) (w1 : FVec Ideal (logits 4) .f32) (w2 : FVec Ideal (logits 2) .f32)
    (w3 : FVec Ideal (logits 1) .f32) : FVec Ideal S16x15x4 .f32 :=
  concatenate S16x15x4 1
    [⟨S16x8x4, coefArr (N := 8) (expArr (N := 8) w0 (by decide) (by decide) (by decide) (by decide)) matrix
        (by decide) (by decide) (by decide) (by decide) (by decide) (by decide) (by decide) (by decide)⟩,
     ⟨S16x4x4, coefArr (N := 4) (expArr (N := 4) w1 (by decide) (by decide) (by decide) (by decide)) matrix
        (by decide) (by decide) (by decide) (by decide) (by decide) (by decide) (by decide) (by decide)⟩,
     ⟨S16x2x4, coefArr (N := 2) (expArr (N := 2) w2 (by decide) (by decide) (by decide) (by decide)) matrix
        (by decide) (by decide) (by decide) (by decide) (by decide) (by decide) (by decide) (by decide)⟩,
     ⟨S16x1x4, coefArr (N := 1) (expArr (N := 1) w3 (by decide) (by decide) (by decide) (by decide)) matrix
        (by decide) (by decide) (by decide) (by decide) (by decide) (by decide) (by decide) (by decide)⟩]
    (show Shape.Concatenates [S16x8x4, S16x4x4, S16x2x4, S16x1x4] S16x15x4 1 by decide)

/-- The table at an index: the mix of a node's softmax. -/
theorem table_apply (w0 : FVec Ideal (logits 8) .f32) (w1 : FVec Ideal (logits 4) .f32) (w2 : FVec Ideal (logits 2) .f32)
    (w3 : FVec Ideal (logits 1) .f32) (k : Fin 16) (n : Fin 15) (j : Fin 4) :
    table w0 w1 w2 w3 (ix3 k n j) = mix (prob (logitsAt w0 w1 w2 w3 k n)) j := by
  have cat : ∀ (A : FVec Ideal S16x8x4 .f32) (B : FVec Ideal S16x4x4 .f32) (C : FVec Ideal S16x2x4 .f32) (D : FVec Ideal S16x1x4 .f32)
      (h : Shape.Concatenates [S16x8x4, S16x4x4, S16x2x4, S16x1x4] S16x15x4 1),
      concatenate S16x15x4 1 [⟨S16x8x4, A⟩, ⟨S16x4x4, B⟩, ⟨S16x2x4, C⟩, ⟨S16x1x4, D⟩] h (ix3 k n j)
        = (![A (ix3 k 0 j), A (ix3 k 1 j), A (ix3 k 2 j), A (ix3 k 3 j), A (ix3 k 4 j), A (ix3 k 5 j), A (ix3 k 6 j), A (ix3 k 7 j),
            B (ix3 k 0 j), B (ix3 k 1 j), B (ix3 k 2 j), B (ix3 k 3 j), C (ix3 k 0 j), C (ix3 k 1 j), D (ix3 k 0 j)] : Fin 15 → EReal) n := by
    intro A B C D h
    fin_cases n <;> pointwise
  unfold table
  rw [cat]
  simp only [coefArr_apply (N := 8) (by decide), coefArr_apply (N := 4) (by decide), coefArr_apply (N := 2) (by decide),
    coefArr_apply (N := 1) (by decide)]
  fin_cases n <;> rfl

set_option maxHeartbeats 16000000 in
/-- The region's table of coefficients as the host leaves it. -/
theorem V_coefs (m : (ℓ : Loc nD τ sig) → Buf (Elt Ideal) ℓ) (c : Dev nD) : (V m c main_v140 : FVec Ideal S16x15x4 .f32) =
    table (m ((c : Thread nD τ).loc main_arg5)) (m ((c : Thread nD τ).loc main_arg6)) (m ((c : Thread nD τ).loc main_arg7))
      (m ((c : Thread nD τ).loc main_arg8)) := by
  simp only [V, hostOps0, hostOps0_1, hostOps0_2, List.flatten_cons, List.flatten_nil, List.append_nil, List.cons_append,
      List.nil_append]
  after_results
  rfl

end Cert.KernelIdeal.Coefs

end
-- ==== Proof.Result.lean ====
/- What the kernel leaves is the answer: the region's tree of polynomials over the shifted planes is the tree of lookup
   tables over the padded image. -/
module

public import proofs.«01_k».proof.Proof.Array
public import proofs.«01_k».proof.Proof.HypsIdeal
public import proofs.«01_k».proof.Proof.Planes
public import proofs.«01_k».proof.Proof.Coefs

@[expose] public section

set_option maxRecDepth 16384

noncomputable section

namespace Cert.KernelIdeal.Result

open Cert.KernelIdeal Cert.KernelIdeal.Gen Idealize.ShloMosaic Idealize.ShloMosaic.TcCoe
open Cert.Tree

/-- The four tables of words, in range, hold a wiring. -/
theorem exists_wires (c h w d : IVec S16x16 32) (hc : ∀ i, (c i).toNat < 4) (hh : ∀ i, (h i).toNat < 3) (hw : ∀ i, (w i).toNat < 3)
    (hd : ∀ i, (d i).toNat < 3) : ∃ W : Wires, Holds W c h w d :=
  ⟨⟨fun k l => ⟨_, hc (ix2 k l)⟩, fun k l => ⟨_, hh (ix2 k l)⟩, fun k l => ⟨_, hw (ix2 k l)⟩, fun k l => ⟨_, hd (ix2 k l)⟩⟩,
    fun _ _ => rfl, fun _ _ => rfl, fun _ _ => rfl, fun _ _ => rfl⟩

/-- The plane that a leaf of a wiring reads. -/
def rowOf (W : Wires) (k l : Fin 16) : Fin 108 :=
  ⟨(((W.h k l).val * 3 + (W.w k l).val) * 3 + (W.d k l).val) * 4 + (W.c k l).val, by omega⟩

/-- The word of a wiring's table is the number of the plane. -/
theorem rowOf_val (W : Wires) (c h w d : IVec S16x16 32) (hW : Holds W c h w d) (k l : Fin 16) :
    (rowOf W k l).val = (Wiring.word (c (ix2 k l)) (h (ix2 k l)) (w (ix2 k l)) (d (ix2 k l))).toNat := by
  have ec := hW.c k l
  have eh := hW.h k l
  have ew := hW.w k l
  have ed := hW.d k l
  rw [Wiring.toNat_word (by omega) (by omega) (by omega) (by omega), ec, eh, ew, ed]
  rfl

/-- A plane's value at a place is the leaf's. -/
theorem planes_leaf (X : FVec Ideal S4x4x34x34x34 .f32) (W : Wires) (b : Fin 4) (k : Fin 16) (h : Fin 32) (D : Fin 1024) (l : Fin 16) :
    (shapeCast S4x108x32x1024 (Planes.stack X) shapeCasts_S4x27x4x32x32x32_S4x108x32x1024 : FVec Ideal S4x108x32x1024 .f32)
      (ix4 b (rowOf W k l) h D) = leafAt X W b k h D l := by
  have e := Planes.flat_apply (Planes.stack X) b ⟨((W.h k l).val * 3 + (W.w k l).val) * 3 + (W.d k l).val, by omega⟩ (W.c k l) h D (by
    show (((W.h k l).val * 3 + (W.w k l).val) * 3 + (W.d k l).val) * 4 + (W.c k l).val < 108
    omega)
  refine e.trans ((Planes.stack_apply X _ _ _ b _ h _ _).trans ?_)
  unfold leafAt
  congr 2 <;> exact Fin.ext (Nat.add_comm _ _)

/-- A node's polynomial from the table of coefficients. -/
theorem polyAt_eq (C : FVec Ideal S16x15x4 .f32) (k : Fin 16) (n : Fin 15) (a b : EReal) :
    Pieces.polyAt C k n a b = poly (fun j => C (ix3 k n j)) a b := rfl

variable (m : (ℓ : Loc nD τ sig) → Buf (Elt Ideal) ℓ) (hH : Hyps m) (c : Dev nD)

/-- WHAT THE KERNEL LEAVES IS THE ANSWER. -/
theorem final_eq (W : Wires)
    (hW : Holds W (m ((c : Thread nD τ).loc main_arg1)) (m ((c : Thread nD τ).loc main_arg2)) (m ((c : Thread nD τ).loc main_arg3))
      (m ((c : Thread nD τ).loc main_arg4)))
    (hx : ∀ i, IsReal ((m ((c : Thread nD τ).loc main_arg0) : FVec Ideal S4x4x32x32x32 .f32) i))
    (h0 : ∀ i, IsReal ((m ((c : Thread nD τ).loc main_arg5) : FVec Ideal S8x16x16 .f32) i))
    (h1 : ∀ i, IsReal ((m ((c : Thread nD τ).loc main_arg6) : FVec Ideal S4x16x16 .f32) i))
    (h2 : ∀ i, IsReal ((m ((c : Thread nD τ).loc main_arg7) : FVec Ideal S2x16x16 .f32) i)) :
    ((dats m hH 0 c).arrAt 3 cfg0.N : FVec Ideal S4x16x32x1024 .f32) =
      answer (m ((c : Thread nD τ).loc main_arg0)) W (m ((c : Thread nD τ).loc main_arg5)) (m ((c : Thread nD τ).loc main_arg6))
        (m ((c : Thread nD τ).loc main_arg7)) (m ((c : Thread nD τ).loc main_arg8)) := by
  funext i
  obtain ⟨b, k, h, d, rfl⟩ : ∃ b k h d, i = (ix4 b k h d : S4x16x32x1024.Idx) := ⟨i 0, i 1, i 2, i 3, by
    funext a
    fin_cases a <;> rfl⟩
  refine (Pieces.final_apply m hH c (rowOf W) (fun k l => by rw [V_wiring]; exact rowOf_val W _ _ _ _ hW k l) b k h d).trans ?_
  rw [Planes.V_planes, Coefs.V_coefs]
  refine Eq.trans ?_ (tree_poly_eq_tree_lut _ (leafAt (padded (m ((c : Thread nD τ).loc main_arg0))) W b k h d)
    (fun l => padded_real _ hx _) (fun n hn j => logitsAt_real _ _ _ _ h0 h1 h2 k n hn j))
  refine congrArg₂ tree (funext fun n => funext fun u => funext fun v => ?_) (funext fun l => planes_leaf _ W b k h d l)
  rw [polyAt_eq]
  exact congrArg (fun q => poly q u v) (funext fun j => Coefs.table_apply _ _ _ _ k n j)

end Cert.KernelIdeal.Result

end
-- ==== Proof.Leaves.lean ====
/- The leaves of the reference's trees, at an index: a gather of the padded image by four tables of indices. -/
module

public import proofs.«01_k».proof.Proof.Levels
public import proofs.«01_k».proof.Proof.Answer

@[expose] public section

set_option maxRecDepth 131072

noncomputable section

namespace Cert.ReferenceIdeal.Levels

open Cert.ReferenceIdeal Cert.ReferenceIdeal.Gen Cert.ReferenceIdeal.Value Idealize.ShloMosaic Idealize.ShloMosaic.TcCoe
open Cert.Tree Idealize.ShloMosaic.StableHlo

/-- The dimension numbers of the gather. -/
abbrev gd := gather_S4x4x34x34x34_S16x32768x16x4_S4x16x32768x16_0_1234_n_n_1234_3_41111

/-- The start of the slice on an axis that the indices name: the index's component, when it is inside. -/
theorem start_val (idx : IVec S16x32768x16x4 32) (b : Fin 4) (k : Fin 16) (p : Fin 32768) (l : Fin 16) (a : Fin 4)
    (v : ℕ) (hv : (idx (ix4 k p l a)).toInt.toNat = v) (hlt : v < S4x4x34x34x34.size a.succ) :
    (gd.operandIdx (ix4 b k p l : S4x16x32768x16.Idx) idx a.succ).val = v := by
  have hmems : ∀ a : Fin 4, (a.succ : Fin 5) ∈ gd.startIndexMap := by decide
  have hmem := hmems a
  have hno : ∀ a : Fin 4, (a.succ : Fin 5) ∉ gd.sKept := by decide
  show gd.start _ idx a.succ + gd.batchCoord _ a.succ + gd.offCoord _ a.succ = v
  rw [GatherDims.batchCoord_eq_zero _ _ _ List.not_mem_nil, GatherDims.offCoord_eq_zero _ _ _ (hno a)]
  simp only [Nat.add_zero]
  unfold GatherDims.start
  rw [dif_pos hmem]
  have hsi : gd.siIdx (ix4 b k p l : S4x16x32768x16.Idx) ⟨List.idxOf (a.succ : Fin 5) gd.startIndexMap, List.idxOf_lt_length_iff.2 hmem⟩
      = (ix4 k p l a : S16x32768x16x4.Idx) := by
    funext e
    refine Fin.ext ?_
    match e with
    | ⟨0, _⟩ => rfl
    | ⟨1, _⟩ => rfl
    | ⟨2, _⟩ => rfl
    | ⟨3, _⟩ => fin_cases a <;> rfl
  rw [hsi, hv]
  fin_cases a <;> first | exact min_eq_left (Nat.le_of_lt_succ hlt)

/-- The gather at an index: the operand at the four indices, each inside its axis. -/
theorem gather_apply (x : FVec Ideal S4x4x34x34x34 .f32) (idx : IVec S16x32768x16x4 32) (b : Fin 4) (k : Fin 16) (p : Fin 32768) (l : Fin 16)
    (c : Fin 4) (h w d : Fin 34) (hc : (idx (ix4 k p l 0)).toInt.toNat = c.val) (hh : (idx (ix4 k p l 1)).toInt.toNat = h.val)
    (hw : (idx (ix4 k p l 2)).toInt.toNat = w.val) (hd : (idx (ix4 k p l 3)).toInt.toNat = d.val) :
    Host.gather gd x idx (ix4 b k p l) = x (ix5 b c h w d) := by
  refine congrArg x (funext fun a => Fin.ext ?_)
  match a with
  | ⟨0, _⟩ =>
    show gd.start _ idx 0 + gd.batchCoord _ 0 + gd.offCoord _ 0 = b.val
    rw [GatherDims.batchCoord_eq_zero _ _ _ List.not_mem_nil]
    unfold GatherDims.start
    rw [dif_neg (by decide)]
    simp only [Nat.add_zero, Nat.zero_add]
    rfl
  | ⟨1, _⟩ => exact start_val idx b k p l 0 c.val hc c.isLt
  | ⟨2, _⟩ => exact start_val idx b k p l 1 h.val hh h.isLt
  | ⟨3, _⟩ => exact start_val idx b k p l 2 w.val hw w.isLt
  | ⟨4, _⟩ => exact start_val idx b k p l 3 d.val hd d.isLt

/-! ## The words of the indices -/

/-- A table of indices as the gather takes it: a negative index counts from the end. -/
def wrap (n : BitVec 32) (v : IVec S16x32768x16 32) : IVec S16x32768x16x1 32 :=
  broadcastInDim S16x32768x16x1 ![0, 1, 2] bcast_S16x32768x16_S16x32768x16x1_0_1_2
    (select (cmpi .slt v (broadcastInDim S16x32768x16 ![] bcast_S_S16x32768x16 (constantI S_ 32 0#32)))
      (addi v (broadcastInDim S16x32768x16 ![] bcast_S_S16x32768x16 (constantI S_ 32 n))) v)

/-- A small index is itself. -/
theorem wrap_val (n : BitVec 32) (v : IVec S16x32768x16 32) (k : Fin 16) (p : Fin 32768) (l : Fin 16) (z : Fin 1) (m : ℕ)
    (h : (v (ix3 k p l)).toNat = m) (hm : m < 2147483648) : (wrap n v (ix4 k p l z)).toInt.toNat = m := by
  have e : wrap n v (ix4 k p l z)
      = Scalar.select (IntOp.cmpi CmpIPredicate.slt (v (ix3 k p l)) 0#32) (IntOp.addi (v (ix3 k p l)) n) (v (ix3 k p l)) := by
    pointwise [wrap]
  have hi : (v (ix3 k p l)).toInt = m := by
    rw [BitVec.toInt_eq_toNat_of_lt (by omega), h]
  have hn : IntOp.cmpi CmpIPredicate.slt (v (ix3 k p l)) 0#32 = 0#1 := by
    have h0 : ¬ ((m : ℤ) < 0) := by omega
    simp [IntOp.cmpi, BitVec.slt, hi, h0]
  rw [e, hn]
  show (v (ix3 k p l)).toInt.toNat = m
  rw [hi]
  rfl

/-- A position along an axis, moved by an offset. -/
theorem moved_val (q : ℕ) (o : BitVec 32) (hq : q < 32) (ho : o.toNat < 3) : (IntOp.addi (BitVec.ofNat 32 q) o).toNat = q + o.toNat := by
  show (BitVec.ofNat 32 q + o).toNat = _
  rw [BitVec.toNat_add, BitVec.toNat_ofNat]
  omega

/-- Four tables of one column each, side by side. -/
def columns (a b c d : IVec S16x32768x16x1 32) : IVec S16x32768x16x4 32 :=
  concatenate S16x32768x16x4 3 [⟨S16x32768x16x1, a⟩, ⟨S16x32768x16x1, b⟩, ⟨S16x32768x16x1, c⟩, ⟨S16x32768x16x1, d⟩]
    concatenates_S16x32768x16x1_S16x32768x16x1_S16x32768x16x1_S16x32768x16x1_S16x32768x16x4_d3

/-- Four columns side by side, at an index. -/
theorem columns_apply (a b c d : IVec S16x32768x16x1 32) (k : Fin 16) (p : Fin 32768) (l : Fin 16) :
    columns a b c d (ix4 k p l 0) = a (ix4 k p l 0) ∧ columns a b c d (ix4 k p l 1) = b (ix4 k p l 0)
      ∧ columns a b c d (ix4 k p l 2) = c (ix4 k p l 0) ∧ columns a b c d (ix4 k p l 3) = d (ix4 k p l 0) := by
  refine ⟨?_, ?_, ?_, ?_⟩
  · pointwise [columns]
  · pointwise [columns]
  · pointwise [columns]
  · pointwise [columns]

variable (V0 : Valuation τ sig (Elt Ideal))

/-- The channel of a leaf is its word. -/
theorem v24_apply (k : Fin 16) (p : Fin 32768) (l : Fin 16) : (res_main_v24 V0 : IVec S16x32768x16 32) (ix3 k p l)
    = (V0 (Proc.devRef .tc main_arg1) : IVec S16x16 32) (ix2 k l) := by
  unfold res_main_v24
  generalize (V0 (Proc.devRef .tc main_arg1) : IVec S16x16 32) = x
  pointwise

/-- The plane of a leaf is the position's, moved by its word. -/
theorem v12_apply (k : Fin 16) (p : Fin 32768) (l : Fin 16) : (res_main_v12 V0 : IVec S16x32768x16 32) (ix3 k p l)
    = IntOp.addi (BitVec.ofNat 32 (p.val / 1024)) ((V0 (Proc.devRef .tc main_arg2) : IVec S16x16 32) (ix2 k l)) := by
  unfold res_main_v12 res_main_v1
  generalize (V0 (Proc.devRef .tc main_arg2) : IVec S16x16 32) = x
  pointwise

/-- The row of a leaf is the position's, moved by its word. -/
theorem v17_apply (k : Fin 16) (p : Fin 32768) (l : Fin 16) : (res_main_v17 V0 : IVec S16x32768x16 32) (ix3 k p l)
    = IntOp.addi (BitVec.ofNat 32 (p.val / 32 % 32)) ((V0 (Proc.devRef .tc main_arg3) : IVec S16x16 32) (ix2 k l)) := by
  unfold res_main_v17 res_main_v1
  generalize (V0 (Proc.devRef .tc main_arg3) : IVec S16x16 32) = x
  pointwise

/-- The column of a leaf is the position's, moved by its word. -/
theorem v22_apply (k : Fin 16) (p : Fin 32768) (l : Fin 16) : (res_main_v22 V0 : IVec S16x32768x16 32) (ix3 k p l)
    = IntOp.addi (BitVec.ofNat 32 (p.val % 32)) ((V0 (Proc.devRef .tc main_arg4) : IVec S16x16 32) (ix2 k l)) := by
  unfold res_main_v22 res_main_v1
  generalize (V0 (Proc.devRef .tc main_arg4) : IVec S16x16 32) = x
  pointwise

/-! ## The leaves -/

/-- The gathered leaves. -/
def gathered : FVec Ideal S4x16x32768x16 .f32 :=
  Host.gather gd (padded (V0 (Proc.devRef .tc main_arg0)))
    (columns (wrap 4#32 (res_main_v24 V0)) (wrap 34#32 (res_main_v12 V0)) (wrap 34#32 (res_main_v17 V0)) (wrap 34#32 (res_main_v22 V0)))

/-- A gathered leaf is the tree's leaf. -/
theorem gathered_apply (W : Wires) (hW : Holds W (V0 (Proc.devRef .tc main_arg1)) (V0 (Proc.devRef .tc main_arg2)) (V0 (Proc.devRef .tc main_arg3)) (V0 (Proc.devRef .tc main_arg4)))
    (b : Fin 4) (k : Fin 16) (p : Fin 32768) (H : Fin 32) (D : Fin 1024) (hp : p.val = H.val * 1024 + D.val) (l : Fin 16) :
    gathered V0 (ix4 b k p l) = leafAt (padded (V0 (Proc.devRef .tc main_arg0))) W b k H D l := by
  have hc := hW.c k l
  have hh := hW.h k l
  have hw := hW.w k l
  have hd := hW.d k l
  have c1 := (W.c k l).isLt
  have h1 := (W.h k l).isLt
  have w1 := (W.w k l).isLt
  have d1 := (W.d k l).isLt
  obtain ⟨e0, e1, e2, e3⟩ := columns_apply (wrap 4#32 (res_main_v24 V0)) (wrap 34#32 (res_main_v12 V0)) (wrap 34#32 (res_main_v17 V0)) (wrap 34#32 (res_main_v22 V0)) k p l
  refine gather_apply _ _ b k p l _ _ _ _ ?_ ?_ ?_ ?_
  · rw [e0]
    exact wrap_val _ _ k p l 0 _ (by rw [v24_apply]; exact hc) (by omega)
  · rw [e1]
    refine wrap_val _ _ k p l 0 _ (by rw [v12_apply, moved_val _ _ (by omega) (by omega), hh]; show _ = H.val + _; omega) (by show H.val + _ < _; omega)
  · rw [e2]
    refine wrap_val _ _ k p l 0 _ (by rw [v17_apply, moved_val _ _ (by omega) (by omega), hw]; show _ = D.val / 32 + _; omega) (by show D.val / 32 + _ < _; omega)
  · rw [e3]
    refine wrap_val _ _ k p l 0 _ (by rw [v22_apply, moved_val _ _ (by omega) (by omega), hd]; show _ = D.val % 32 + _; omega) (by show D.val % 32 + _ < _; omega)

/-- The array of leaves is what is gathered, the leaves in pairs. -/
theorem v51_eq : (res_main_v51 V0 : FVec Ideal S4x16x32768x8x2 .f32) = shapeCast _ (gathered V0) shapeCasts_S4x16x32768x16_S4x16x32768x8x2 := rfl

/-- The first inputs of the lowest level are the even leaves. -/
theorem v53_apply (b : Fin 4) (k : Fin 16) (p : Fin 32768) (n : Fin 8) (l : Fin 16) (hl : l.val = 2 * n.val) :
    (res_main_v53 V0 : FVec Ideal S4x16x32768x8 .f32) (ix4 b k p n) = gathered V0 (ix4 b k p l) := by
  unfold res_main_v53
  rw [v51_eq]
  generalize gathered V0 = x
  have hlt : n.val * 2 < 16 := by have := n.isLt; omega
  rw [show l = ⟨n.val * 2, hlt⟩ from Fin.ext (by show l.val = n.val * 2; omega)]
  pointwise

/-- The second inputs of the lowest level are the odd leaves. -/
theorem v55_apply (b : Fin 4) (k : Fin 16) (p : Fin 32768) (n : Fin 8) (l : Fin 16) (hl : l.val = 2 * n.val + 1) :
    (res_main_v55 V0 : FVec Ideal S4x16x32768x8 .f32) (ix4 b k p n) = gathered V0 (ix4 b k p l) := by
  unfold res_main_v55
  rw [v51_eq]
  generalize gathered V0 = x
  have hlt : n.val * 2 + 1 < 16 := by have := n.isLt; omega
  rw [show l = ⟨n.val * 2 + 1, hlt⟩ from Fin.ext (by show l.val = n.val * 2 + 1; omega)]
  pointwise

end Cert.ReferenceIdeal.Levels

end
-- ==== Proof.RefAnswer.lean ====
/- What the reference leaves, at an index: the answer. -/
module

public import proofs.«01_k».proof.Proof.Leaves

@[expose] public section

set_option maxRecDepth 131072

noncomputable section

namespace Cert.ReferenceIdeal.Levels

open Cert.ReferenceIdeal Cert.ReferenceIdeal.Gen Cert.ReferenceIdeal.Value Idealize.ShloMosaic Idealize.ShloMosaic.TcCoe
open Idealize.SL.Sem Cert.Tree Idealize.ShloMosaic.StableHlo

variable (V0 : Valuation τ sig (Elt Ideal))

/-- The root's values, one plane per place. -/
def root : FVec Ideal (values 1) .f32 :=
  levelArr (N := 1) bcast_S_S4x16x32768x1 bcast_S1x16x1x1_S4x16x32768x1_0_1_2_3 (by decide) shapeCasts_S1x16x1x1x1_S1x16x1x1
    (res_main_v455 V0) (res_main_v441 V0) (res_main_v442 V0)

/-- The root's value is the whole tree's. -/
theorem root_apply (b : Fin 4) (k : Fin 16) (p : Fin 32768) :
    root V0 (ix4 b k p 0) = tree (fun n => lut (prob (logitsAt (V0 (Proc.devRef .tc main_arg5)) (V0 (Proc.devRef .tc main_arg6))
      (V0 (Proc.devRef .tc main_arg7)) (V0 (Proc.devRef .tc main_arg8)) k n))) (fun l => gathered V0 (ix4 b k p l)) := by
  unfold root
  rw [levelArr_apply (by decide)]
  simp only [v455_apply, v440_apply, v311_apply, v182_apply,
      v441_apply V0 b k p 0 0 rfl, v442_apply V0 b k p 0 1 rfl, v312_apply V0 b k p 0 0 rfl, v313_apply V0 b k p 0 1 rfl,
      v312_apply V0 b k p 1 2 rfl, v313_apply V0 b k p 1 3 rfl, v183_apply V0 b k p 0 0 rfl, v184_apply V0 b k p 0 1 rfl,
      v183_apply V0 b k p 1 2 rfl, v184_apply V0 b k p 1 3 rfl, v183_apply V0 b k p 2 4 rfl, v184_apply V0 b k p 2 5 rfl,
      v183_apply V0 b k p 3 6 rfl, v184_apply V0 b k p 3 7 rfl, v53_apply V0 b k p 0 0 rfl, v55_apply V0 b k p 0 1 rfl,
      v53_apply V0 b k p 1 2 rfl, v55_apply V0 b k p 1 3 rfl, v53_apply V0 b k p 2 4 rfl, v55_apply V0 b k p 2 5 rfl,
      v53_apply V0 b k p 3 6 rfl, v55_apply V0 b k p 3 7 rfl, v53_apply V0 b k p 4 8 rfl, v55_apply V0 b k p 4 9 rfl,
      v53_apply V0 b k p 5 10 rfl, v55_apply V0 b k p 5 11 rfl, v53_apply V0 b k p 6 12 rfl, v55_apply V0 b k p 6 13 rfl,
      v53_apply V0 b k p 7 14 rfl, v55_apply V0 b k p 7 15 rfl]
  rfl

/-- What the reference leaves. -/
def final : FVec Ideal S4x16x32x1024 .f32 := shapeCast _ (root V0) shapeCasts_S4x16x32768x1_S4x16x32x1024

/-- What the reference leaves is the answer. -/
theorem final_eq (W : Wires) (hW : Holds W (V0 (Proc.devRef .tc main_arg1)) (V0 (Proc.devRef .tc main_arg2)) (V0 (Proc.devRef .tc main_arg3)) (V0 (Proc.devRef .tc main_arg4))) :
    final V0 = answer (V0 (Proc.devRef .tc main_arg0)) W (V0 (Proc.devRef .tc main_arg5)) (V0 (Proc.devRef .tc main_arg6))
      (V0 (Proc.devRef .tc main_arg7)) (V0 (Proc.devRef .tc main_arg8)) := by
  have flat : ∀ (x : FVec Ideal (values 1) .f32) (b : Fin 4) (k : Fin 16) (h : Fin 32) (d : Fin 1024) (hp : h.val * 1024 + d.val < 32768),
      shapeCast S4x16x32x1024 x shapeCasts_S4x16x32768x1_S4x16x32x1024 (ix4 b k h d) = x (ix4 b k ⟨h.val * 1024 + d.val, hp⟩ 0) := by
    intro x b k h d hp
    pointwise
  funext i
  obtain ⟨b, k, h, d, rfl⟩ : ∃ b k h d, i = (ix4 b k h d : S4x16x32x1024.Idx) := ⟨i 0, i 1, i 2, i 3, by
    funext a
    fin_cases a <;> rfl⟩
  have h1 : h.val < 32 := h.isLt
  have h2 : d.val < 1024 := d.isLt
  refine (flat (root V0) b k h d (by omega)).trans ((root_apply V0 b k _).trans ?_)
  exact congrArg _ (funext fun l => gathered_apply V0 W hW b k _ h d rfl l)

/-- The reference's run: the result holds the answer, the arguments are as they were. -/
theorem run_final (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v570) = final (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  run m ρ

end Cert.ReferenceIdeal.Levels

end
-- ==== Proof.Agree.lean ====
/- The kernel and the reference leave the same array: both leave the answer of the wiring that the words hold. -/
module

public import proofs.«01_k».proof.Defs
public import proofs.«01_k».proof.Proof.Gen.Pre_in_range
public import proofs.«01_k».proof.Proof.Gen.Pre_wired
public import proofs.«01_k».proof.Proof.Result
public import proofs.«01_k».proof.Proof.RefAnswer

@[expose] public section

noncomputable section

namespace Cert.Agree

open Idealize.ShloMosaic Idealize.ShloMosaic.TcCoe Idealize.SL.Sem
open Cert.Tree

/-- From memories that agree on the arguments, in range, the reference leaves what the kernel leaves. -/
theorem reference_eq (m : (ℓ : Loc Cert.KernelIdeal.nD Cert.KernelIdeal.τ Cert.KernelIdeal.sig) → Buf (Elt Ideal) ℓ)
    (hH : Cert.KernelIdeal.Gen.Hyps m) (hp : Cert.Pre_KernelIdeal_in_range m) (c : Dev Cert.KernelIdeal.nD)
    (V0 : Valuation Cert.ReferenceIdeal.τ Cert.ReferenceIdeal.sig (Elt Ideal))
    (e0 : V0 (Proc.devRef .tc Cert.ReferenceIdeal.main_arg0) = m ((c : Thread Cert.KernelIdeal.nD Cert.KernelIdeal.τ).loc Cert.KernelIdeal.main_arg0))
    (e1 : V0 (Proc.devRef .tc Cert.ReferenceIdeal.main_arg1) = m ((c : Thread Cert.KernelIdeal.nD Cert.KernelIdeal.τ).loc Cert.KernelIdeal.main_arg1))
    (e2 : V0 (Proc.devRef .tc Cert.ReferenceIdeal.main_arg2) = m ((c : Thread Cert.KernelIdeal.nD Cert.KernelIdeal.τ).loc Cert.KernelIdeal.main_arg2))
    (e3 : V0 (Proc.devRef .tc Cert.ReferenceIdeal.main_arg3) = m ((c : Thread Cert.KernelIdeal.nD Cert.KernelIdeal.τ).loc Cert.KernelIdeal.main_arg3))
    (e4 : V0 (Proc.devRef .tc Cert.ReferenceIdeal.main_arg4) = m ((c : Thread Cert.KernelIdeal.nD Cert.KernelIdeal.τ).loc Cert.KernelIdeal.main_arg4))
    (e5 : V0 (Proc.devRef .tc Cert.ReferenceIdeal.main_arg5) = m ((c : Thread Cert.KernelIdeal.nD Cert.KernelIdeal.τ).loc Cert.KernelIdeal.main_arg5))
    (e6 : V0 (Proc.devRef .tc Cert.ReferenceIdeal.main_arg6) = m ((c : Thread Cert.KernelIdeal.nD Cert.KernelIdeal.τ).loc Cert.KernelIdeal.main_arg6))
    (e7 : V0 (Proc.devRef .tc Cert.ReferenceIdeal.main_arg7) = m ((c : Thread Cert.KernelIdeal.nD Cert.KernelIdeal.τ).loc Cert.KernelIdeal.main_arg7))
    (e8 : V0 (Proc.devRef .tc Cert.ReferenceIdeal.main_arg8) = m ((c : Thread Cert.KernelIdeal.nD Cert.KernelIdeal.τ).loc Cert.KernelIdeal.main_arg8)) :
    Cert.ReferenceIdeal.Levels.final V0 = (Cert.KernelIdeal.Gen.dats m hH 0 c).arrAt 3 Cert.KernelIdeal.cfg0.N := by
  obtain ⟨⟨hc, hh, hw, hd⟩, hx, h0, h1, h2⟩ := Cert.Ranges.decode _ _ _ _ _ _ _ _ _ (fun a => a.elim0) (congrFun (hp c) _)
  obtain ⟨W, hW⟩ := Cert.KernelIdeal.Result.exists_wires _ _ _ _ hc hh hw hd
  refine (Cert.ReferenceIdeal.Levels.final_eq V0 W (by rw [e1, e2, e3, e4]; exact hW)).trans ?_
  rw [e0, e5, e6, e7, e8]
  exact (Cert.KernelIdeal.Result.final_eq m hH c W hW (fun i => Cert.Ranges.real_of_cmp _ (hx i))
    (fun i => Cert.Ranges.real_of_cmp _ (h0 i)) (fun i => Cert.Ranges.real_of_cmp _ (h1 i)) (fun i => Cert.Ranges.real_of_cmp _ (h2 i))).symm

/-- THE KERNEL AND THE REFERENCE AGREE on extended reals. -/
theorem agree : Cert.algebraic_KernelIdeal_ReferenceIdeal_pre_in_range := by
  intro m g m' g' hp hm
  have hH := Cert.KernelIdeal.Gen.hyps_of_in_range m hp
  refine ⟨fun c => (Cert.KernelIdeal.Gen.dats m hH 0 c).arrAt 3 Cert.KernelIdeal.cfg0.N, Cert.KernelIdeal.Value.run_blocks m g hH,
    (θ_run Cert.ReferenceIdeal.defs _ _).mono (fun r h c => ⟨(h c).1.trans ?_, (h c).2⟩) (Cert.ReferenceIdeal.Levels.run_final m' g')⟩
  obtain ⟨e0, e1, e2, e3, e4, e5, e6, e7, e8⟩ := hm c
  exact reference_eq m hH hp c _ e0 e1 e2 e3 e4 e5 e6 e7 e8

end Cert.Agree

end
-- ==== Proof.lean ====
/- The proof of the certificate's claim. The two kernel programs and the reference run and leave their arguments and
   semaphores as they found them, and on extended reals the kernel leaves what the reference leaves. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Pre_in_range
public import proofs.«01_k».proof.Proof.Gen.Pre_wired
public import proofs.«01_k».proof.Proof.HypsKernel
public import proofs.«01_k».proof.Proof.HypsIdeal
public import proofs.«01_k».proof.Proof.Agree

@[expose] public section

noncomputable section

namespace Cert.Proof

open Idealize.ShloMosaic Idealize.SL.Sem

/-- The reference runs and leaves its arguments and semaphores as it found them, whatever the arguments. -/
theorem reference_kept : Cert.quiescent_ReferenceIdeal := fun m g _ => (θ_run Cert.ReferenceIdeal.defs _ _).mono
  (fun r h => ⟨fun c => (h c).2, sem_eq_zero_of_no_sems (by decide) r.2⟩) (Cert.ReferenceIdeal.Value.run m g)

/-- The claim: the frames of the three programs, that the kernel's two programs are one text, and that the kernel and the
    reference agree on extended reals. -/
theorem claim : Cert.Claim :=
  ⟨Cert.Kernel.Gen.facts, Cert.KernelIdeal.Gen.facts, Cert.ReferenceIdeal.Gen.facts, Cert.Pre_wired.Gen.facts, Cert.Pre_in_range.Gen.facts,
    fun m g h => Cert.Kernel.Gen.frame m g (Cert.Kernel.Gen.hyps_of_wired m h),
    fun m g h => Cert.KernelIdeal.Gen.frame m g (Cert.KernelIdeal.Gen.hyps_of_wired m h),
    fun m g h => Cert.KernelIdeal.Gen.frame m g (Cert.KernelIdeal.Gen.hyps_of_in_range m h),
    reference_kept, fun m g _ => reference_kept m g trivial,
    trivial, Cert.Agree.agree⟩

end Cert.Proof

end
